-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x4096 : Shape := ⟨2, ![2048, 4096]⟩
abbrev S4096x8192 : Shape := ⟨2, ![4096, 8192]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S2048x4096 .bf16) (main_arg1 : FVec F S4096x8192 .bf16) : IVec S_ 1 :=
  let main_cst : FVec F S_ .bf16 := constant S_ .bf16 0xFF80#16
  let main_v0 : FVec F S2048x4096 .bf16 := broadcastInDim S2048x4096 ![] bcast_S_S2048x4096 main_cst
  let main_v1 : IVec S2048x4096 1 := cmpf .ogt main_arg0 main_v0
  let main_cst_0 : FVec F S_ .bf16 := constant S_ .bf16 0x7F80#16
  let main_v2 : FVec F S2048x4096 .bf16 := broadcastInDim S2048x4096 ![] bcast_S_S2048x4096 main_cst_0
  let main_v3 : IVec S2048x4096 1 := cmpf .olt main_arg0 main_v2
  let main_v4 : IVec S2048x4096 1 := andi main_v1 main_v3
  let main_c : IVec S_ 1 := constantI S_ 1 1#1
  let main_v5 : IVec S_ 1 := (fun x v => Host.reduce IntOp.andi x v reducesTo_S2048x4096_S_d0_1 h_S_) main_v4 main_c
  let main_cst_1 : FVec F S_ .bf16 := constant S_ .bf16 0xFF80#16
  let main_v6 : FVec F S4096x8192 .bf16 := broadcastInDim S4096x8192 ![] bcast_S_S4096x8192 main_cst_1
  let main_v7 : IVec S4096x8192 1 := cmpf .ogt main_arg1 main_v6
  let main_cst_2 : FVec F S_ .bf16 := constant S_ .bf16 0x7F80#16
  let main_v8 : FVec F S4096x8192 .bf16 := broadcastInDim S4096x8192 ![] bcast_S_S4096x8192 main_cst_2
  let main_v9 : IVec S4096x8192 1 := cmpf .olt main_arg1 main_v8
  let main_v10 : IVec S4096x8192 1 := andi main_v7 main_v9
  let main_c_3 : IVec S_ 1 := constantI S_ 1 1#1
  let main_v11 : IVec S_ 1 := (fun x v => Host.reduce IntOp.andi x v reducesTo_S4096x8192_S_d0_1 h_S_) main_v10 main_c_3
  let main_v12 : IVec S_ 1 := andi main_v5 main_v11
  main_v12
-- ==== Pre_finite_ReferenceIdeal.lean ====
abbrev S2048x4096 : Shape := ⟨2, ![2048, 4096]⟩
abbrev S4096x16384 : Shape := ⟨2, ![4096, 16384]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S2048x4096 .bf16) (main_arg1 : FVec F S4096x16384 .bf16) : IVec S_ 1 :=
  let main_cst : FVec F S_ .bf16 := constant S_ .bf16 0xFF80#16
  let main_v0 : FVec F S2048x4096 .bf16 := broadcastInDim S2048x4096 ![] bcast_S_S2048x4096 main_cst
  let main_v1 : IVec S2048x4096 1 := cmpf .ogt main_arg0 main_v0
  let main_cst_0 : FVec F S_ .bf16 := constant S_ .bf16 0x7F80#16
  let main_v2 : FVec F S2048x4096 .bf16 := broadcastInDim S2048x4096 ![] bcast_S_S2048x4096 main_cst_0
  let main_v3 : IVec S2048x4096 1 := cmpf .olt main_arg0 main_v2
  let main_v4 : IVec S2048x4096 1 := andi main_v1 main_v3
  let main_c : IVec S_ 1 := constantI S_ 1 1#1
  let main_v5 : IVec S_ 1 := (fun x v => Host.reduce IntOp.andi x v reducesTo_S2048x4096_S_d0_1 h_S_) main_v4 main_c
  let main_cst_1 : FVec F S_ .bf16 := constant S_ .bf16 0xFF80#16
  let main_v6 : FVec F S4096x16384 .bf16 := broadcastInDim S4096x16384 ![] bcast_S_S4096x16384 main_cst_1
  let main_v7 : IVec S4096x16384 1 := cmpf .ogt main_arg1 main_v6
  let main_cst_2 : FVec F S_ .bf16 := constant S_ .bf16 0x7F80#16
  let main_v8 : FVec F S4096x16384 .bf16 := broadcastInDim S4096x16384 ![] bcast_S_S4096x16384 main_cst_2
  let main_v9 : IVec S4096x16384 1 := cmpf .olt main_arg1 main_v8
  let main_v10 : IVec S4096x16384 1 := andi main_v7 main_v9
  let main_c_3 : IVec S_ 1 := constantI S_ 1 1#1
  let main_v11 : IVec S_ 1 := (fun x v => Host.reduce IntOp.andi x v reducesTo_S4096x16384_S_d0_1 h_S_) main_v10 main_c_3
  let main_v12 : IVec S_ 1 := andi main_v5 main_v11
  main_v12
-- ==== Kernel.lean ====
abbrev S2048x4096 : Shape := ⟨2, ![2048, 4096]⟩
abbrev S4096x8192 : Shape := ⟨2, ![4096, 8192]⟩
abbrev S2048x8192 : Shape := ⟨2, ![2048, 8192]⟩
abbrev S2048x512 : Shape := ⟨2, ![2048, 512]⟩
abbrev S512x1024 : Shape := ⟨2, ![512, 1024]⟩
abbrev S2048x1024 : Shape := ⟨2, ![2048, 1024]⟩
abbrev S2x1024x8192 : Shape := ⟨3, ![2, 1024, 8192]⟩
abbrev S2048x16384 : Shape := ⟨2, ![2048, 16384]⟩
abbrev S2x128x8192 : Shape := ⟨3, ![2, 128, 8192]⟩
abbrev S4x128x8192 : Shape := ⟨3, ![4, 128, 8192]⟩
abbrev S4x128x16384 : Shape := ⟨3, ![4, 128, 16384]⟩
abbrev S2 : Shape := ⟨1, ![2]⟩
abbrev S4 : Shape := ⟨1, ![4]⟩
abbrev S_ : Shape := ⟨0, ![]⟩
abbrev S1 : Shape := ⟨1, ![1]⟩
abbrev S1x128x8192 : Shape := ⟨3, ![1, 128, 8192]⟩
abbrev S128x8192 : Shape := ⟨2, ![128, 8192]⟩
abbrev S128x16384 : Shape := ⟨2, ![128, 16384]⟩
abbrev S1x128x16384 : Shape := ⟨3, ![1, 128, 16384]⟩
abbrev S128 : Shape := ⟨1, ![128]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S4096x8192, .bf16⟩
  | .hbm, ⟨2, _⟩ => ⟨S2048x8192, .bf16⟩
  | .hbm, ⟨3, _⟩ => ⟨S2x1024x8192, .bf16⟩
  | .hbm, ⟨4, _⟩ => ⟨S2048x16384, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .vmem, ⟨7, _⟩ => ⟨S2x128x8192, .bf16⟩
  | .local _ .vmem, ⟨8, _⟩ => ⟨S2x128x8192, .bf16⟩
  | .local _ .vmem, ⟨9, _⟩ => ⟨S2x128x8192, .bf16⟩
  | .local _ .vmem, ⟨10, _⟩ => ⟨S2x128x8192, .bf16⟩
  | .local _ .vmem, ⟨11, _⟩ => ⟨S4x128x8192, .bf16⟩
  | .local _ .vmem, ⟨12, _⟩ => ⟨S4x128x8192, .bf16⟩
  | .local _ .vmem, ⟨13, _⟩ => ⟨S4x128x16384, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc1_scratch4 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev barrier0 : Sem sig := 2

abbrev nD : Nat := 4
abbrev τ : Topo := Topo.v7x

variable {F : FTy → Type} [FloatOps F]

abbrev grid0 : Pipeline.Grid := ⟨3, ![1, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![10], ![false]⟩

def k1_cond1 (i : grid1.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_8 : BitVec 32 := 0#32
  let v16 : BitVec 1 := Scalar.cmpi .ne v15 c0_i32_8
  v16

def k1_dev1 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v29 : BitVec 32 := Scalar.muli v6 c2_i32_15
  let v30 : BitVec 32 := Scalar.addi c0_i32_16 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v31 : BitVec 32 := Scalar.muli v5 c1_i32_17
  let v32 : BitVec 32 := Scalar.addi v30 v31
  v32.toNat
def k1_dev2 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v33 : BitVec 32 := Scalar.muli v2 c2_i32_19
  let v34 : BitVec 32 := Scalar.addi c0_i32_20 v33
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_21 : BitVec 32 := 1#32
  let v35 : BitVec 32 := Scalar.muli v7 c1_i32_21
  let v36 : BitVec 32 := Scalar.addi v34 v35
  v36.toNat
def k1_cond2 (i : grid1.Coords) : BitVec 1 :=
  let arg0 : BitVec 32 := BitVec.ofNat 32 (i 0).val
  let c8_i32 : BitVec 32 := 8#32
  let v17 : BitVec 1 := Scalar.cmpi .slt arg0 c8_i32
  let v18 : BitVec 32 := Scalar.extui v17
  let c0_i32_9 : BitVec 32 := 0#32
  let v19 : BitVec 1 := Scalar.cmpi .ne v18 c0_i32_9
  v19

def k1_cond3 (i : grid1.Coords) : BitVec 1 :=
  let arg0 : BitVec 32 := BitVec.ofNat 32 (i 0).val
  let c2_i32_14 : BitVec 32 := 2#32
  let v28 : BitVec 1 := Scalar.cmpi .sge arg0 c2_i32_14
  let v29 : BitVec 32 := Scalar.extui v28
  let c0_i32_15 : BitVec 32 := 0#32
  let v30 : BitVec 1 := Scalar.cmpi .ne v29 c0_i32_15
  v30

def k1_off1 (i : grid1.Coords) : Fin 1 → Nat :=
  let arg0 : BitVec 32 := BitVec.ofNat 32 (i 0).val
  let c2_i32_4 : BitVec 32 := 2#32
  let v8 : BitVec 32 := Scalar.remsi arg0 c2_i32_4
  ![v8.toNat]
def k1_off2 (i : grid1.Coords) : Fin 3 → Nat :=
  let arg0 : BitVec 32 := BitVec.ofNat 32 (i 0).val
  let c2_i32_4 : BitVec 32 := 2#32
  let v8 : BitVec 32 := Scalar.remsi arg0 c2_i32_4
  let c0_i32_63 : BitVec 32 := 0#32
  let c0_i32_64 : BitVec 32 := 0#32
  ![v8.toNat, 0, 0]
def k1_off3 (i : grid1.Coords) : Fin 3 → Nat :=
  let arg0 : BitVec 32 := BitVec.ofNat 32 (i 0).val
  let c4_i32 : BitVec 32 := 4#32
  let v9 : BitVec 32 := Scalar.remsi arg0 c4_i32
  let c0_i32_65 : BitVec 32 := 0#32
  let c0_i32_66 : BitVec 32 := 0#32
  ![v9.toNat, 0, 0]
def k1_cond5 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_18 : BitVec 32 := 0#32
  let v34 : BitVec 1 := Scalar.cmpi .eq v5 c0_i32_18
  let v35 : BitVec 32 := Scalar.extui v34
  let c0_i32_19 : BitVec 32 := 0#32
  let v36 : BitVec 1 := Scalar.cmpi .ne v35 c0_i32_19
  v36

def k1_off4 (i : grid1.Coords) : Fin 3 → Nat :=
  let arg0 : BitVec 32 := BitVec.ofNat 32 (i 0).val
  let c2_i32_4 : BitVec 32 := 2#32
  let v8 : BitVec 32 := Scalar.remsi arg0 c2_i32_4
  let v128 : Index := Scalar.indexCast v8
  let c0_65 : Index := 0#32
  let c0_66 : Index := 0#32
  ![v128.toNat, 0, 0]
def k1_cond6 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v37 : BitVec 1 := Scalar.cmpi .eq v5 c1_i32_20
  let v38 : BitVec 32 := Scalar.extui v37
  let c0_i32_21 : BitVec 32 := 0#32
  let v39 : BitVec 1 := Scalar.cmpi .ne v38 c0_i32_21
  v39

def k1_off5 (i : grid1.Coords) : Fin 3 → Nat :=
  let arg0 : BitVec 32 := BitVec.ofNat 32 (i 0).val
  let c2_i32_4 : BitVec 32 := 2#32
  let v8 : BitVec 32 := Scalar.remsi arg0 c2_i32_4
  let v128 : Index := Scalar.indexCast v8
  let c0_64 : Index := 0#32
  let c0_65 : Index := 0#32
  ![v128.toNat, 0, 0]
def k1_off6 (i : grid1.Coords) : Fin 1 → Nat :=
  let arg0 : BitVec 32 := BitVec.ofNat 32 (i 0).val
  let c2_i32_4 : BitVec 32 := 2#32
  let v8 : BitVec 32 := Scalar.remsi arg0 c2_i32_4
  ![v8.toNat]
def k1_off7 (i : grid1.Coords) (c4_i32 : BitVec 32) : Fin 1 → Nat :=
  let arg0 : BitVec 32 := BitVec.ofNat 32 (i 0).val
  let v9 : BitVec 32 := Scalar.remsi arg0 c4_i32
  ![v9.toNat]
def k1_off8 (i : grid1.Coords) : Fin 3 → Nat :=
  let arg0 : BitVec 32 := BitVec.ofNat 32 (i 0).val
  let c4_i32 : BitVec 32 := 4#32
  let v9 : BitVec 32 := Scalar.remsi arg0 c4_i32
  let c0_i32_25 : BitVec 32 := 0#32
  let c0_i32_26 : BitVec 32 := 0#32
  ![v9.toNat, 0, 0]
def k1_off9 (i : grid1.Coords) : Fin 3 → Nat :=
  let arg0 : BitVec 32 := BitVec.ofNat 32 (i 0).val
  let c2_i32_4 : BitVec 32 := 2#32
  let v8 : BitVec 32 := Scalar.remsi arg0 c2_i32_4
  let c0_i32_27 : BitVec 32 := 0#32
  let c0_i32_28 : BitVec 32 := 0#32
  ![v8.toNat, 0, 0]
def k1_dev3 (d0 : Dev nD) : Nat :=
  let c0_i32_23 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_22 : BitVec 32 := 2#32
  let v40 : BitVec 32 := Scalar.muli v6 c2_i32_22
  let v41 : BitVec 32 := Scalar.addi c0_i32_23 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_24 : BitVec 32 := 1#32
  let v42 : BitVec 32 := Scalar.muli v5 c1_i32_24
  let v43 : BitVec 32 := Scalar.addi v41 v42
  v43.toNat
def k1_cond7 (i : grid1.Coords) : BitVec 1 :=
  let arg0 : BitVec 32 := BitVec.ofNat 32 (i 0).val
  let c2_i32_36 : BitVec 32 := 2#32
  let v62 : BitVec 1 := Scalar.cmpi .sge arg0 c2_i32_36
  let v63 : BitVec 32 := Scalar.extui v62
  let c0_i32_37 : BitVec 32 := 0#32
  let v64 : BitVec 1 := Scalar.cmpi .ne v63 c0_i32_37
  v64

def k1_off10 (i : grid1.Coords) : Fin 1 → Nat :=
  let arg0 : BitVec 32 := BitVec.ofNat 32 (i 0).val
  let c2_i32_62 : BitVec 32 := 2#32
  let v126 : BitVec 32 := Scalar.addi arg0 c2_i32_62
  let c4_i32_63 : BitVec 32 := 4#32
  let v127 : BitVec 32 := Scalar.remsi v126 c4_i32_63
  ![v127.toNat]
def k1_off11 (i : grid1.Coords) : Fin 3 → Nat :=
  let arg0 : BitVec 32 := BitVec.ofNat 32 (i 0).val
  let c2_i32_62 : BitVec 32 := 2#32
  let v126 : BitVec 32 := Scalar.addi arg0 c2_i32_62
  let c4_i32_63 : BitVec 32 := 4#32
  let v127 : BitVec 32 := Scalar.remsi v126 c4_i32_63
  let c0_i32_65 : BitVec 32 := 0#32
  let c0_i32_66 : BitVec 32 := 0#32
  ![v127.toNat, 0, 0]
def k1_cond8 (i : grid1.Coords) : BitVec 1 :=
  let arg0 : BitVec 32 := BitVec.ofNat 32 (i 0).val
  let c5_i32 : BitVec 32 := 5#32
  let v134 : BitVec 1 := Scalar.cmpi .sle arg0 c5_i32
  let v135 : BitVec 32 := Scalar.extui v134
  let c0_i32_69 : BitVec 32 := 0#32
  let v136 : BitVec 1 := Scalar.cmpi .ne v135 c0_i32_69
  v136

def k1_dev4 (d0 : Dev nD) : Nat :=
  let c0_i32_72 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_71 : BitVec 32 := 2#32
  let v137 : BitVec 32 := Scalar.muli v6 c2_i32_71
  let v138 : BitVec 32 := Scalar.addi c0_i32_72 v137
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_73 : BitVec 32 := 1#32
  let v139 : BitVec 32 := Scalar.muli v5 c1_i32_73
  let v140 : BitVec 32 := Scalar.addi v138 v139
  v140.toNat
def k1_dev5 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v68 : BitVec 32 := Scalar.muli v2 c2_i32_40
  let v69 : BitVec 32 := Scalar.addi c0_i32_41 v68
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_42 : BitVec 32 := 1#32
  let v70 : BitVec 32 := Scalar.muli v7 c1_i32_42
  let v71 : BitVec 32 := Scalar.addi v69 v70
  v71.toNat
def k1_cond10 (i : grid1.Coords) : BitVec 1 :=
  let arg0 : BitVec 32 := BitVec.ofNat 32 (i 0).val
  let c2_i32_47 : BitVec 32 := 2#32
  let v80 : BitVec 1 := Scalar.cmpi .sge arg0 c2_i32_47
  let v81 : BitVec 32 := Scalar.extui v80
  let c0_i32_48 : BitVec 32 := 0#32
  let v82 : BitVec 1 := Scalar.cmpi .ne v81 c0_i32_48
  v82

def k1_off12 (i : grid1.Coords) : Fin 1 → Nat :=
  let arg0 : BitVec 32 := BitVec.ofNat 32 (i 0).val
  let c2_i32_4 : BitVec 32 := 2#32
  let v8 : BitVec 32 := Scalar.remsi arg0 c2_i32_4
  ![v8.toNat]
def k1_off13 (i : grid1.Coords) : Fin 3 → Nat :=
  let arg0 : BitVec 32 := BitVec.ofNat 32 (i 0).val
  let c2_i32_4 : BitVec 32 := 2#32
  let v8 : BitVec 32 := Scalar.remsi arg0 c2_i32_4
  let c0_i32_64 : BitVec 32 := 0#32
  let c0_i32_65 : BitVec 32 := 0#32
  ![v8.toNat, 0, 0]
def k1_off14 (i : grid1.Coords) : Fin 3 → Nat :=
  let arg0 : BitVec 32 := BitVec.ofNat 32 (i 0).val
  let c2_i32_4 : BitVec 32 := 2#32
  let v8 : BitVec 32 := Scalar.remsi arg0 c2_i32_4
  let v85 : Index := Scalar.indexCast v8
  let c0 : Index := 0#32
  let c0_50 : Index := 0#32
  ![v85.toNat, 0, 0]
def k1_off15 (i : grid1.Coords) : Fin 3 → Nat :=
  let arg0 : BitVec 32 := BitVec.ofNat 32 (i 0).val
  let c4_i32 : BitVec 32 := 4#32
  let v9 : BitVec 32 := Scalar.remsi arg0 c4_i32
  let v88 : Index := Scalar.indexCast v9
  let c0_51 : Index := 0#32
  let c0_52 : Index := 0#32
  ![v88.toNat, 0, 0]
def k1_off16 (i : grid1.Coords) (d0 : Dev nD) : Fin 3 → Nat :=
  let arg0 : BitVec 32 := BitVec.ofNat 32 (i 0).val
  let c2_i32_4 : BitVec 32 := 2#32
  let v8 : BitVec 32 := Scalar.remsi arg0 c2_i32_4
  let v106 : Index := Scalar.indexCast v8
  let c0_55 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v105 : BitVec 32 := Scalar.muli v2 c8192_i32
  let v107 : Index := Scalar.indexCast v105
  ![v106.toNat, 0, v107.toNat]
def k1_off17 (i : grid1.Coords) (d0 : Dev nD) : Fin 3 → Nat :=
  let arg0 : BitVec 32 := BitVec.ofNat 32 (i 0).val
  let c2_i32_4 : BitVec 32 := 2#32
  let v8 : BitVec 32 := Scalar.remsi arg0 c2_i32_4
  let v115 : Index := Scalar.indexCast v8
  let c0_58 : Index := 0#32
  let c1_i32_56 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v113 : BitVec 32 := Scalar.subi c1_i32_56 v2
  let c8192_i32_57 : BitVec 32 := 8192#32
  let v114 : BitVec 32 := Scalar.muli v113 c8192_i32_57
  let v116 : Index := Scalar.indexCast v114
  ![v115.toNat, 0, v116.toNat]
def k1_off18 (i : grid1.Coords) (d0 : Dev nD) : Fin 2 → Nat :=
  let arg0 : BitVec 32 := BitVec.ofNat 32 (i 0).val
  let c8_i32_49 : BitVec 32 := 8#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v83 : BitVec 32 := Scalar.muli c8_i32_49 v5
  let v84 : BitVec 32 := Scalar.addi arg0 v83
  let c128_i32 : BitVec 32 := 128#32
  let v120 : BitVec 32 := Scalar.muli v84 c128_i32
  let c0_i32_59 : BitVec 32 := 0#32
  ![v120.toNat, 0]
def k1_off19 (i : grid1.Coords) : Fin 3 → Nat :=
  let arg0 : BitVec 32 := BitVec.ofNat 32 (i 0).val
  let c2_i32_4 : BitVec 32 := 2#32
  let v8 : BitVec 32 := Scalar.remsi arg0 c2_i32_4
  let c0_i32_60 : BitVec 32 := 0#32
  let c0_i32_61 : BitVec 32 := 0#32
  ![v8.toNat, 0, 0]
def k1_cond11 (i : grid1.Coords) : BitVec 1 :=
  let arg0 : BitVec 32 := BitVec.ofNat 32 (i 0).val
  let c1_i32_10 : BitVec 32 := 1#32
  let v20 : BitVec 1 := Scalar.cmpi .sge arg0 c1_i32_10
  let c8_i32_11 : BitVec 32 := 8#32
  let v21 : BitVec 1 := Scalar.cmpi .sle arg0 c8_i32_11
  let v22 : BitVec 1 := Scalar.andi v20 v21
  let v23 : BitVec 32 := Scalar.extui v22
  let c0_i32_12 : BitVec 32 := 0#32
  let v24 : BitVec 1 := Scalar.cmpi .ne v23 c0_i32_12
  v24

def k1_off20 (i : grid1.Coords) : Fin 1 → Nat :=
  let arg0 : BitVec 32 := BitVec.ofNat 32 (i 0).val
  let c3_i32 : BitVec 32 := 3#32
  let v12 : BitVec 32 := Scalar.addi arg0 c3_i32
  let c4_i32_7 : BitVec 32 := 4#32
  let v13 : BitVec 32 := Scalar.remsi v12 c4_i32_7
  ![v13.toNat]
def k1_off21 (i : grid1.Coords) : Fin 3 → Nat :=
  let arg0 : BitVec 32 := BitVec.ofNat 32 (i 0).val
  let c3_i32 : BitVec 32 := 3#32
  let v12 : BitVec 32 := Scalar.addi arg0 c3_i32
  let c4_i32_7 : BitVec 32 := 4#32
  let v13 : BitVec 32 := Scalar.remsi v12 c4_i32_7
  let c0_i32_17 : BitVec 32 := 0#32
  let c0_i32_18 : BitVec 32 := 0#32
  ![v13.toNat, 0, 0]
def k1_cond12 (i : grid1.Coords) : BitVec 1 :=
  let arg0 : BitVec 32 := BitVec.ofNat 32 (i 0).val
  let c3_i32_21 : BitVec 32 := 3#32
  let v38 : BitVec 1 := Scalar.cmpi .sge arg0 c3_i32_21
  let v39 : BitVec 32 := Scalar.extui v38
  let c0_i32_22 : BitVec 32 := 0#32
  let v40 : BitVec 1 := Scalar.cmpi .ne v39 c0_i32_22
  v40

def k1_off22 (i : grid1.Coords) : Fin 1 → Nat :=
  let c2_i32_41 : BitVec 32 := 2#32
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v90 : BitVec 32 := Scalar.addi c2_i32_41 v11
  ![v90.toNat]
def k1_off23 (i : grid1.Coords) : Fin 3 → Nat :=
  let c2_i32_41 : BitVec 32 := 2#32
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v90 : BitVec 32 := Scalar.addi c2_i32_41 v11
  let c0_i32_44 : BitVec 32 := 0#32
  let c0_i32_45 : BitVec 32 := 0#32
  ![v90.toNat, 0, 0]
def k1_off24 (i : grid1.Coords) : Fin 3 → Nat :=
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v46 : Index := Scalar.indexCast v11
  let c0 : Index := 0#32
  let c0_27 : Index := 0#32
  ![v46.toNat, 0, 0]
def k1_off25 (i : grid1.Coords) : Fin 3 → Nat :=
  let arg0 : BitVec 32 := BitVec.ofNat 32 (i 0).val
  let c3_i32 : BitVec 32 := 3#32
  let v12 : BitVec 32 := Scalar.addi arg0 c3_i32
  let c4_i32_7 : BitVec 32 := 4#32
  let v13 : BitVec 32 := Scalar.remsi v12 c4_i32_7
  let v49 : Index := Scalar.indexCast v13
  let c0_28 : Index := 0#32
  let c0_29 : Index := 0#32
  ![v49.toNat, 0, 0]
def k1_off26 (i : grid1.Coords) (d0 : Dev nD) : Fin 3 → Nat :=
  let c2_i32_23 : BitVec 32 := 2#32
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v41 : BitVec 32 := Scalar.addi c2_i32_23 v11
  let v67 : Index := Scalar.indexCast v41
  let c0_32 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8192_i32 : BitVec 32 := 8192#32
  let v66 : BitVec 32 := Scalar.muli v2 c8192_i32
  let v68 : Index := Scalar.indexCast v66
  ![v67.toNat, 0, v68.toNat]
def k1_off27 (i : grid1.Coords) (d0 : Dev nD) : Fin 3 → Nat :=
  let c2_i32_23 : BitVec 32 := 2#32
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v41 : BitVec 32 := Scalar.addi c2_i32_23 v11
  let v76 : Index := Scalar.indexCast v41
  let c0_35 : Index := 0#32
  let c1_i32_33 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v74 : BitVec 32 := Scalar.subi c1_i32_33 v2
  let c8192_i32_34 : BitVec 32 := 8192#32
  let v75 : BitVec 32 := Scalar.muli v74 c8192_i32_34
  let v77 : Index := Scalar.indexCast v75
  ![v76.toNat, 0, v77.toNat]
def k1_off28 (i : grid1.Coords) : Fin 1 → Nat :=
  let c2_i32_23 : BitVec 32 := 2#32
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v41 : BitVec 32 := Scalar.addi c2_i32_23 v11
  ![v41.toNat]
def k1_off29 (i : grid1.Coords) (d0 : Dev nD) : Fin 2 → Nat :=
  let arg0 : BitVec 32 := BitVec.ofNat 32 (i 0).val
  let c1_i32_24 : BitVec 32 := 1#32
  let v42 : BitVec 32 := Scalar.subi arg0 c1_i32_24
  let c8_i32_26 : BitVec 32 := 8#32
  let c1_i32_25 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v43 : BitVec 32 := Scalar.subi c1_i32_25 v5
  let v44 : BitVec 32 := Scalar.muli c8_i32_26 v43
  let v45 : BitVec 32 := Scalar.addi v42 v44
  let c128_i32 : BitVec 32 := 128#32
  let v81 : BitVec 32 := Scalar.muli v45 c128_i32
  let c0_i32_36 : BitVec 32 := 0#32
  ![v81.toNat, 0]
def k1_off30 (i : grid1.Coords) : Fin 3 → Nat :=
  let c2_i32_23 : BitVec 32 := 2#32
  let arg0 : BitVec 32 := BitVec.ofNat 32 (i 0).val
  let c1_i32_5 : BitVec 32 := 1#32
  let v10 : BitVec 32 := Scalar.addi arg0 c1_i32_5
  let c2_i32_6 : BitVec 32 := 2#32
  let v11 : BitVec 32 := Scalar.remsi v10 c2_i32_6
  let v41 : BitVec 32 := Scalar.addi c2_i32_23 v11
  let c0_i32_37 : BitVec 32 := 0#32
  let c0_i32_38 : BitVec 32 := 0#32
  ![v41.toNat, 0, 0]
def k1_cond13 (i : grid1.Coords) : BitVec 1 :=
  let arg0 : BitVec 32 := BitVec.ofNat 32 (i 0).val
  let c4_i32_39 : BitVec 32 := 4#32
  let v87 : BitVec 1 := Scalar.cmpi .sle arg0 c4_i32_39
  let v88 : BitVec 32 := Scalar.extui v87
  let c0_i32_40 : BitVec 32 := 0#32
  let v89 : BitVec 1 := Scalar.cmpi .ne v88 c0_i32_40
  v89

def k1_dev6 (d0 : Dev nD) : Nat :=
  let c0_i32_43 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_42 : BitVec 32 := 2#32
  let v90 : BitVec 32 := Scalar.muli v2 c2_i32_42
  let v91 : BitVec 32 := Scalar.addi c0_i32_43 v90
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_44 : BitVec 32 := 1#32
  let v92 : BitVec 32 := Scalar.muli v7 c1_i32_44
  let v93 : BitVec 32 := Scalar.addi v91 v92
  v93.toNat
def cc1_transform_0 (i : grid1.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S2x128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x16384, .bf16⟩
  | .hbm, ⟨2, _⟩ => ⟨S2048x4096, .f32⟩
  | .hbm, ⟨3, _⟩ => ⟨S4096x16384, .f32⟩
  | .hbm, ⟨4, _⟩ => ⟨S2048x16384, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x16384, .f32⟩
  | .hbm, ⟨9, _⟩ => ⟨S2048x16384, .f32⟩
  | .hbm, ⟨10, _⟩ => ⟨S2048x16384, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x16384, .f32⟩
  | .hbm, ⟨15, _⟩ => ⟨S2048x16384, .f32⟩
  | .hbm, ⟨16, _⟩ => ⟨S2048x16384, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Geom.lean ====
/-
  The layout of the exchange kernel's scratch: one slot of a stacked buffer, the column halves of a staging slot, one
  block of 128 rows of the result; which elements the kernel's views of them cover, and what a copy or a store leaves.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.Pipeline.Value
public import Idealize.ShloMosaic.Lib.ValueIdx
public import Idealize.ShloMosaic.Lib.ValueLayout
public import Idealize.ShloMosaic.Lib.Rounds
public import Idealize.ShloMosaic.Lib.Tactic

@[expose] public section

noncomputable section

namespace Cert.Exchange

open Cert.KernelIdeal Cert.KernelIdeal.Gen
open Idealize.ShloMosaic Idealize.ShloMosaic.TcCoe Idealize.ShloMosaic.ValueIdx

variable {F : FTy → Type}

/-- A stack of `n` slots of `128 × v`. -/
abbrev Stk (n v : ℕ) : Shape := ⟨3, ![n, 128, v]⟩

/-- The elements of slot `s`. -/
def slot {n v : ℕ} (s : ℕ) : Finset (Stk n v).Idx := Finset.univ.filter fun x => (x 0).val = s

/-- One chunk, laid in every slot of a stack. -/
def lay {n v : ℕ} {α : Type} (g : (Stk 1 v).Idx → α) : (Stk n v).Idx → α := fun x => g (ix3 0 (x 1) (x 2))

/-- Two chunks side by side: the first in column half `h`, the second in the other. -/
def side {α : Type} (h : ℕ) (a b : (Stk 1 8192).Idx → α) : (Stk 1 16384).Idx → α := fun x =>
  if (x 2).val / 8192 = h then a (ix3 0 (x 1) ⟨(x 2).val % 8192, Nat.mod_lt _ (by decide)⟩)
  else b (ix3 0 (x 1) ⟨(x 2).val % 8192, Nat.mod_lt _ (by decide)⟩)

/-- The rows of chunk `r` of the result. -/
def rows (r : ℕ) : Finset S2048x16384.Idx := Finset.univ.filter fun x => (x 0).val / 128 = r

/-- The result whose chunk `r` is `w r`. -/
def stackRows {α : Type} (w : ℕ → (Stk 1 16384).Idx → α) : S2048x16384.Idx → α :=
  fun x => w ((x 0).val / 128) (ix3 0 ⟨(x 0).val % 128, Nat.mod_lt _ (by decide)⟩ (x 1))

/-- The unit rectangle that is slot `s` covers slot `s`. -/
theorem set_slot {n v : ℕ} (off : Fin 3 → ℕ) (s : ℕ) (hoff : off = ![s, 0, 0])
    (inb : ∀ a, off a + (Stk 1 v).size a ≤ (Stk n v).size a) :
    (Rect.unit (s := Stk n v) off (Stk 1 v).size inb).set = slot s := by
  subst hoff
  ext x
  unfold slot
  rw [Finset.mem_filter, Rect.mem_set_unit]
  have h1 := (x 1).isLt
  have h2 := (x 2).isLt
  constructor
  · intro h
    have := h 0
    simp at this
    exact ⟨Finset.mem_univ _, by omega⟩
  · rintro ⟨-, h⟩ a
    fin_cases a
    · simp [h]
    · simpa using h1
    · simpa using h2

/-- A rectangle inside slot `s` lies in slot `s`. -/
theorem set_slot_sub {n v w : ℕ} (off : Fin 3 → ℕ) (s o : ℕ) (hoff : off = ![s, 0, o])
    (inb : ∀ a, off a + (Stk 1 w).size a ≤ (Stk n v).size a) :
    (Rect.unit (s := Stk n v) off (Stk 1 w).size inb).set ⊆ slot s := by
  subst hoff
  intro x hx
  unfold slot
  rw [Rect.mem_set_unit] at hx
  have := hx 0
  simp at this
  exact Finset.mem_filter.mpr ⟨Finset.mem_univ _, by omega⟩

theorem set_rows (off : Fin 2 → ℕ) (r : ℕ) (hoff : off = ![128 * r, 0])
    (inb : ∀ a, off a + S128x16384.size a ≤ S2048x16384.size a) :
    (Rect.unit (s := S2048x16384) off S128x16384.size inb).set = rows r := by
  subst hoff
  ext x
  unfold rows
  rw [Finset.mem_filter, Rect.mem_set_unit]
  have h1 := (x 1).isLt
  constructor
  · intro h
    have := h 0
    simp at this
    exact ⟨Finset.mem_univ _, by omega⟩
  · rintro ⟨-, h⟩ a
    fin_cases a
    · simp; omega
    · simpa using h1

/-- A chunk laid in a stack reads back, through slot `s`, as the chunk. -/
theorem lay_emb {n v : ℕ} {α : Type} (g : (Stk 1 v).Idx → α) (off : Fin 3 → ℕ) (s : ℕ) (hoff : off = ![s, 0, 0])
    (inb : ∀ a, off a + (Stk 1 v).size a ≤ (Stk n v).size a) (y : (Stk 1 v).Idx) :
    lay (n := n) g ((Rect.unit (s := Stk n v) off (Stk 1 v).size inb).emb y) = g y := by
  subst hoff
  unfold lay
  congr 1
  funext a
  apply Fin.ext
  have h0 : (y 0).val = 0 := by have := (y 0).isLt; simp at this; omega
  fin_cases a
  · show 0 = _; exact h0.symm
  · show 0 + 1 * (y 1).val = _; simp
  · show 0 + 1 * (y 2).val = _; simp

theorem side_emb {n : ℕ} {α : Type} (h : ℕ) (a b : (Stk 1 8192).Idx → α) (off : Fin 3 → ℕ) (s k : ℕ) (hoff : off = ![s, 0, 8192 * k])
    (inb : ∀ a, off a + (Stk 1 8192).size a ≤ (Stk n 16384).size a) (y : (Stk 1 8192).Idx) :
    lay (n := n) (side h a b) ((Rect.unit (s := Stk n 16384) off (Stk 1 8192).size inb).emb y) = if k = h then a y else b y := by
  subst hoff
  have h0 : (y 0).val = 0 := by have := (y 0).isLt; simp at this; omega
  have h2 : (y 2).val < 8192 := (y 2).isLt
  unfold lay side
  have e2 : (((Rect.unit (s := Stk n 16384) ![s, 0, 8192 * k] (Stk 1 8192).size inb).emb y) 2).val = 8192 * k + (y 2).val := by
    show 8192 * k + 1 * (y 2).val = _; omega
  have key : ∀ (q : (Stk 1 8192).Idx), q = (ix3 0 (((Rect.unit (s := Stk n 16384) ![s, 0, 8192 * k] (Stk 1 8192).size inb).emb y) 1)
      ⟨(((Rect.unit (s := Stk n 16384) ![s, 0, 8192 * k] (Stk 1 8192).size inb).emb y) 2).val % 8192, Nat.mod_lt _ (by decide)⟩ : (Stk 1 8192).Idx) → q = y := by
    rintro q rfl
    funext a
    apply Fin.ext
    fin_cases a
    · show 0 = _; exact h0.symm
    · show 0 + 1 * (y 1).val = _; simp
    · show (((Rect.unit (s := Stk n 16384) ![s, 0, 8192 * k] (Stk 1 8192).size inb).emb y) 2).val % 8192 = (y 2).val
      rw [e2]; omega
  have hk : (8192 * k + (y 2).val) / 8192 = k := by omega
  by_cases hh : k = h
  · rw [if_pos hh]
    refine (if_pos (?_ : (((Rect.unit (s := Stk n 16384) ![s, 0, 8192 * k] (Stk 1 8192).size inb).emb y) 2).val / 8192 = h)).trans (congrArg a (key _ rfl))
    rw [e2, hk, hh]
  · rw [if_neg hh]
    refine (if_neg (?_ : ¬ (((Rect.unit (s := Stk n 16384) ![s, 0, 8192 * k] (Stk 1 8192).size inb).emb y) 2).val / 8192 = h)).trans (congrArg b (key _ rfl))
    rw [e2, hk]; exact hh

/-- The rows of chunk `r` of the stacked result, through the block of 128 rows. -/
theorem stackRows_emb {α : Type} (w : ℕ → (Stk 1 16384).Idx → α) (off : Fin 2 → ℕ) (r : ℕ) (hoff : off = ![128 * r, 0])
    (inb : ∀ a, off a + S128x16384.size a ≤ S2048x16384.size a) (y : S128x16384.Idx) :
    stackRows w ((Rect.unit (s := S2048x16384) off S128x16384.size inb).emb y) = w r (ix3 0 (y 0) (y 1)) := by
  subst hoff
  unfold stackRows
  have h0 : (y 0).val < 128 := (y 0).isLt
  have e0 : (((Rect.unit (s := S2048x16384) ![128 * r, 0] S128x16384.size inb).emb y) 0).val = 128 * r + (y 0).val := by
    show 128 * r + 1 * (y 0).val = _; omega
  have hr : (((Rect.unit (s := S2048x16384) ![128 * r, 0] S128x16384.size inb).emb y) 0).val / 128 = r := by rw [e0]; omega
  rw [hr]
  congr 1
  funext a
  apply Fin.ext
  fin_cases a
  · rfl
  · show (((Rect.unit (s := S2048x16384) ![128 * r, 0] S128x16384.size inb).emb y) 0).val % 128 = (y 0).val
    rw [e0]; omega
  · show 0 + 1 * (y 1).val = _; simp

/-! ## What a copy and a store leave -/

section Moves

variable {κ : Kind} {sp sp' : Space} {s : Shape} {e : EltTy} {Val : EltTy → Type}

/-- A copy leaves `g` under the destination's view when the source's elements are `g`'s. -/
theorem copy_leaves (src : View sig κ sp s e) (dst : View sig κ sp' s e) (f : src.ty.Contents Val) (fd g : dst.ty.Contents Val)
    (h : ∀ y, src.read Val f y = dst.read Val g y) : ∀ i ∈ dst.set, dst.write Val fd (src.read Val f) Finset.univ i = g i := by
  intro i hi
  obtain ⟨y, -, rfl⟩ := Finset.mem_map.mp hi
  rw [View.write_emb_of_mem _ _ (Finset.mem_univ y), h, View.read_apply, cast_cast, cast_eq]

/-- A store leaves `g` under its view when the words stored are `g`'s. -/
theorem store_leaves (dst : View sig κ sp' s e) (w : s.Idx → Val e) (fd g : dst.ty.Contents Val)
    (h : ∀ y, w y = dst.read Val g y) : ∀ i ∈ dst.set, dst.write Val fd w Finset.univ i = g i := by
  intro i hi
  obtain ⟨y, -, rfl⟩ := Finset.mem_map.mp hi
  rw [View.write_emb_of_mem _ _ (Finset.mem_univ y), h, View.read_apply, cast_cast, cast_eq]

end Moves

end Cert.Exchange
-- ==== Proof.Protocol.lean ====
/-
  The exchange kernel's protocol. A device talks to two others: its column neighbour (the other half of the columns) and
  its row neighbour (the other half of the rows). Chunk `n` of its own half of the rows goes to the column neighbour's
  slot `n % 4`; what it received there it passes on to its row neighbour's slot `n % 4`. A slot that has been read is
  announced by one unit on a credit semaphore, and travels back to its sender beside the next chunk that lands.
-/
module

public import proofs.«01_k».proof.Proof.Geom

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

/-- The column neighbour. -/
def xn (c : Dev nD) : Dev nD := ⟨(c.val % 2 + 2) - 2 * (c.val / 2), by have := c.isLt; simp only [nD] at *; omega⟩
/-- The row neighbour. -/
def yn (c : Dev nD) : Dev nD := ⟨(2 * (c.val / 2) + 1) - c.val % 2, by have := c.isLt; simp only [nD] at *; omega⟩

theorem xn_xn (c : Dev nD) : xn (xn c) = c := by revert c; decide
theorem yn_yn (c : Dev nD) : yn (yn c) = c := by revert c; decide
theorem xn_yn (c : Dev nD) : xn (yn c) = yn (xn c) := by revert c; decide
theorem xn_row (c : Dev nD) : (xn c).val % 2 = c.val % 2 := by revert c; decide
theorem yn_row (c : Dev nD) : (yn c).val % 2 = 1 - c.val % 2 := by revert c; decide

/-! ## The ghost state -/

/-- The pipeline library's copy of the rounds, and the exchange's, whose duties are numbered. -/
abbrev UU : Type := UR sig nD τ × URounds (GSem nD τ sig) ℕ

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := embR

/-! ## The semaphores, by the chunk that uses them -/

abbrev bS : Sem sig := ⟨2, by decide⟩
abbrev xcS : Sem sig := ⟨0, by decide⟩
abbrev ycS : Sem sig := ⟨1, by decide⟩
def xsS (n : ℕ) : DmaSem sig := (⟨8 + n % 2, by omega⟩ : Fin 26)
def xrS (n : ℕ) : DmaSem sig := (⟨10 + n % 4, by omega⟩ : Fin 26)
def ysS (n : ℕ) : DmaSem sig := (⟨14 + n % 4, by omega⟩ : Fin 26)
def yrS (n : ℕ) : DmaSem sig := (⟨18 + n % 4, by omega⟩ : Fin 26)
def stS (n : ℕ) : DmaSem sig := (⟨22 + n % 2, by omega⟩ : Fin 26)
def suS (n : ℕ) : DmaSem sig := (⟨24 + n % 2, by omega⟩ : Fin 26)

abbrev bC (c : Dev nD) : GSem nD τ sig := ((c : Thread nD τ), .reg bS)
abbrev xcC (c : Dev nD) : GSem nD τ sig := ((c : Thread nD τ), .reg xcS)
abbrev ycC (c : Dev nD) : GSem nD τ sig := ((c : Thread nD τ), .reg ycS)
abbrev xsC (c : Dev nD) (n : ℕ) : GSem nD τ sig := ((c : Thread nD τ), .dma (xsS n))
abbrev xrC (c : Dev nD) (n : ℕ) : GSem nD τ sig := ((c : Thread nD τ), .dma (xrS n))
abbrev ysC (c : Dev nD) (n : ℕ) : GSem nD τ sig := ((c : Thread nD τ), .dma (ysS n))
abbrev yrC (c : Dev nD) (n : ℕ) : GSem nD τ sig := ((c : Thread nD τ), .dma (yrS n))
abbrev stC (c : Dev nD) (n : ℕ) : GSem nD τ sig := ((c : Thread nD τ), .dma (stS n))
abbrev suC (c : Dev nD) (n : ℕ) : GSem nD τ sig := ((c : Thread nD τ), .dma (suS n))

theorem xsS_add (n : ℕ) : xsS (n + 2) = xsS n := Fin.ext (show 8 + (n + 2) % 2 = 8 + n % 2 by omega)
theorem xrS_add (n : ℕ) : xrS (n + 4) = xrS n := Fin.ext (show 10 + (n + 4) % 4 = 10 + n % 4 by omega)
theorem ysS_add (n : ℕ) : ysS (n + 4) = ysS n := Fin.ext (show 14 + (n + 4) % 4 = 14 + n % 4 by omega)
theorem yrS_add (n : ℕ) : yrS (n + 4) = yrS n := Fin.ext (show 18 + (n + 4) % 4 = 18 + n % 4 by omega)
theorem stS_add (n : ℕ) : stS (n + 2) = stS n := Fin.ext (show 22 + (n + 2) % 2 = 22 + n % 2 by omega)
theorem suS_add (n : ℕ) : suS (n + 2) = suS n := Fin.ext (show 24 + (n + 2) % 2 = 24 + n % 2 by omega)

/-! ## The buffers, and what they hold -/

abbrev outM : Memref sig .tc .hbm S2048x16384 .bf16 := Memref.whole main_v3
abbrev locM : Memref sig .tc .vmem S2x128x8192 .bf16 := Memref.whole cc1_scratch0
abbrev othM : Memref sig .tc .vmem S2x128x8192 .bf16 := Memref.whole cc1_scratch1
abbrev xrM : Memref sig .tc .vmem S4x128x8192 .bf16 := Memref.whole cc1_scratch2
abbrev yrM : Memref sig .tc .vmem S4x128x8192 .bf16 := Memref.whole cc1_scratch3
abbrev stM : Memref sig .tc .vmem S4x128x16384 .bf16 := Memref.whole cc1_scratch4

/-- A chunk of logits. -/
abbrev VX (F : FTy → Type) : Type := (Stk 1 8192).Idx → Elt F .bf16

/-- Chunk `n` of row half `h` of a device's logits. -/
def chunk (g : S2x1024x8192.Idx → Elt F .bf16) (h n : ℕ) : VX F := fun y =>
  g (ix3 ⟨h % 2, Nat.mod_lt _ (by decide)⟩ ⟨(128 * n + (y 1).val) % 1024, Nat.mod_lt _ (by decide)⟩ (y 2))

variable (lg : Dev nD → S2x1024x8192.Idx → Elt F .bf16)

/-- Chunk `r` of the sixteen of device `d`'s logits. -/
def ch (d : Dev nD) (r : ℕ) : VX F := chunk (lg d) (r / 8) (r % 8)

/-- The place among the sixteen of chunk `n` of the own half of the rows, and of the other half. -/
def ownR (c : Dev nD) (n : ℕ) : ℕ := n + 8 * (c.val % 2)
def othR (c : Dev nD) (n : ℕ) : ℕ := n + 8 * (1 - c.val % 2)

theorem ownR_xn (c : Dev nD) (n : ℕ) : ownR (xn c) n = ownR c n := by unfold ownR; rw [xn_row]
theorem ownR_yn (c : Dev nD) (n : ℕ) : ownR (yn c) n = othR c n := by unfold ownR othR; rw [yn_row]

/-- The device whose chunk `r` arrives at `c`. -/
def peer (c : Dev nD) (r : ℕ) : Dev nD := if r / 8 = c.val % 2 then xn c else xn (yn c)

theorem peer_own (c : Dev nD) {n : ℕ} (h : n < 8) : peer c (ownR c n) = xn c := if_pos (by unfold ownR; omega)
theorem peer_oth (c : Dev nD) {n : ℕ} (h : n < 8) : peer c (othR c n) = xn (yn c) := if_neg (by unfold othR; omega)

/-- The two halves of a chunk of the result: from the device's own logits and from those received. -/
def resL (l r : VX F) : VX F := k1_pay2 (k1_pay10 l) (k1_pay12 l) (k1_pay13 r)
def resR (l r : VX F) : VX F := k1_pay3 (k1_pay11 r) (k1_pay12 l) (k1_pay13 r)

/-- Chunk `r` of the result on device `c`. -/
def stV (c : Dev nD) (r : ℕ) : (Stk 1 16384).Idx → Elt F .bf16 :=
  side (c.val / 2) (resL (ch lg c r) (ch lg (peer c r) r)) (resR (ch lg c r) (ch lg (peer c r) r))

/-- The result on device `c`. -/
def Gout (c : Dev nD) : S2048x16384.Idx → Elt F .bf16 := stackRows (stV lg c)

/-- A slot of each scratch buffer at named contents. -/
def locP (c : Dev nD) (s : ℕ) (q : PosShare TreeShare) (g : (Stk 2 8192).Idx → Elt F .bf16) : sProp 𝕄 :=
  locM.view.loc (c : Thread nD τ) ↦[slot (n := 2) (v := 8192) s]{q} g
def othP (c : Dev nD) (s : ℕ) (g : (Stk 2 8192).Idx → Elt F .bf16) : sProp 𝕄 :=
  othM.view.loc (c : Thread nD τ) ↦[slot (n := 2) (v := 8192) s]{fullShare} g
def xrP (c : Dev nD) (s : ℕ) (q : PosShare TreeShare) (g : (Stk 4 8192).Idx → Elt F .bf16) : sProp 𝕄 :=
  xrM.view.loc (c : Thread nD τ) ↦[slot (n := 4) (v := 8192) s]{q} g
def yrP (c : Dev nD) (s : ℕ) (g : (Stk 4 8192).Idx → Elt F .bf16) : sProp 𝕄 :=
  yrM.view.loc (c : Thread nD τ) ↦[slot (n := 4) (v := 8192) s]{fullShare} g
def stP (c : Dev nD) (s : ℕ) (g : (Stk 4 16384).Idx → Elt F .bf16) : sProp 𝕄 :=
  stM.view.loc (c : Thread nD τ) ↦[slot (n := 4) (v := 16384) s]{fullShare} g
/-- The rows of chunk `r` of the result. -/
def outP (c : Dev nD) (r : ℕ) (g : S2048x16384.Idx → Elt F .bf16) : sProp 𝕄 :=
  outM.view.loc (c : Thread nD τ) ↦[rows r]{fullShare} g

/-- The same at contents not named, by the chunk that uses the slot. -/
def locA (c : Dev nD) (n : ℕ) : sProp 𝕄 := iprop(∃ g, locP c (n % 2) fullShare g)
def othA (c : Dev nD) (n : ℕ) : sProp 𝕄 := iprop(∃ g, othP c (n % 2) g)
def xrA (c : Dev nD) (n : ℕ) : sProp 𝕄 := iprop(∃ g, xrP c (n % 4) fullShare g)
def yrA (c : Dev nD) (n : ℕ) : sProp 𝕄 := iprop(∃ g, yrP c (n % 4) g)
def stA (c : Dev nD) (n : ℕ) : sProp 𝕄 := iprop(∃ g, stP c (n % 2) g)
def suA (c : Dev nD) (n : ℕ) : sProp 𝕄 := iprop(∃ g, stP c (2 + n % 2) g)
def outA (c : Dev nD) (r : ℕ) : sProp 𝕄 := iprop(∃ g, outP c r g)

/-- The same holding the chunk. -/
def locH (c : Dev nD) (n : ℕ) (q : PosShare TreeShare) : sProp 𝕄 := locP c (n % 2) q (lay (ch lg c (ownR c n)))
def othH (c : Dev nD) (n : ℕ) : sProp 𝕄 := othP c (n % 2) (lay (ch lg c (othR c n)))
def xrH (c : Dev nD) (n : ℕ) (q : PosShare TreeShare) : sProp 𝕄 := xrP c (n % 4) q (lay (ch lg (xn c) (ownR c n)))
def yrH (c : Dev nD) (n : ℕ) : sProp 𝕄 := yrP c (n % 4) (lay (ch lg (xn (yn c)) (othR c n)))
def outH (c : Dev nD) (r : ℕ) : sProp 𝕄 := outP c r (Gout lg c)

/-! ## The schedule -/

/-- The units a chunk of logits credits, and a chunk of the result. -/
def NX : ℕ := RefSig.tileCredit S128x8192 .bf16
def NO : ℕ := RefSig.tileCredit S128x16384 .bf16
theorem NX_pos : 0 < NX := RefSig.tileCredit_pos _ _ (by decide)
theorem NO_pos : 0 < NO := RefSig.tileCredit_pos _ _ (by decide)

/-- A neighbour's slots, free, with the first round of each of their semaphores and of its credit semaphore. -/
def barPay (c : Dev nD) (d : ℕ) : sProp 𝕄 :=
  if d = 0 then
    iprop(bigSep (Finset.range 4) (fun n => iprop(xrA (F := F) (xn c) n ∗ reached ER (xrC (xn c) n) 0)) ∗ reached ER (xcC (xn c)) 0)
  else
    iprop(bigSep (Finset.range 4) (fun n => iprop(yrA (F := F) (yn c) n ∗ reached ER (yrC (yn c) n) 0)) ∗ reached ER (ycC (yn c)) 0)
def xrPay (c : Dev nD) (n : ℕ) : sProp 𝕄 :=
  iprop(xrH lg c n fullShare ∗ (if 3 ≤ n ∧ n ≤ 6 then iprop(xrA (F := F) (xn c) (n - 3) ∗ reached ER (xrC (xn c) (n - 3)) 1) else iprop(emp)))
def yrPay (c : Dev nD) (n : ℕ) : sProp 𝕄 :=
  iprop(yrH lg c n ∗ (if 2 ≤ n ∧ n ≤ 5 then iprop(yrA (F := F) (yn c) (n - 2) ∗ reached ER (yrC (yn c) (n - 2)) 1) else iprop(emp)))
def stPay (c : Dev nD) (n : ℕ) : sProp 𝕄 := iprop(outH lg c (ownR c n) ∗ stA (F := F) c n)
def suPay (c : Dev nD) (n : ℕ) : sProp 𝕄 := iprop(outH lg c (othR c n) ∗ suA (F := F) c n)

/-- The duties of each round. -/
def dutiesAt : SemLoc sig → ℕ → Finset ℕ
  | .reg s, r => if r = 0 then (if s.val = 2 then Finset.range 2 else Finset.range 4) else ∅
  | .dma s, r => if 8 ≤ s.val ∧ r < (if s.val < 10 then 4 else if s.val < 22 then 2 else 4) then {0} else ∅
def amountAt : SemLoc sig → ℕ
  | .reg _ => 1
  | .dma s => if s.val < 22 then NX else NO
def payAt (c : Dev nD) (r d : ℕ) : SemLoc sig → sProp 𝕄
  | .reg s => if s.val = 2 then barPay c d else iprop(emp)
  | .dma s =>
    if s.val < 10 then locH lg c (2 * r + (s.val - 8)) fullShare.left
    else if s.val < 14 then xrPay lg c (4 * r + (s.val - 10))
    else if s.val < 18 then xrH lg c (4 * r + (s.val - 14)) fullShare.left
    else if s.val < 22 then yrPay lg c (4 * r + (s.val - 18))
    else if s.val < 24 then stPay lg c (2 * r + (s.val - 22))
    else suPay lg c (2 * r + (s.val - 24))

def Rd : Rounds.Schedule (GSem nD τ sig) ℕ 𝕄 where
  duties g r := if g.1.2 = .tc then dutiesAt g.2 r else ∅
  unitless _ := False
  amount g _ _ := amountAt g.2
  payload g r d := payAt lg g.1.1 r d g.2
  amount_pos g _ _ _ := by
    rcases g with ⟨-, s | s⟩
    · exact Nat.one_pos
    · show 0 < (if s.val < 22 then NX else NO)
      split
      · exact NX_pos
      · exact NO_pos

instance payAt_storable (c : Dev nD) (r d : ℕ) (s : SemLoc sig) : BI.Storable (upEmb : UEmb _ 𝕄) (payAt lg c r d s) := by
  rcases s with s | s
  all_goals
    unfold payAt barPay xrPay yrPay stPay suPay locH xrH yrH outH xrA yrA stA suA locP xrP yrP stP outP
    dsimp only
    (repeat' split) <;> infer_instance

instance Rd_storable (g : GSem nD τ sig) (r d : ℕ) : BI.Storable (upEmb : UEmb _ 𝕄) ((Rd lg).payload g r d) :=
  payAt_storable lg g.1.1 r d g.2

section Sched

variable (c : Dev nD) (n : ℕ)

theorem payload_bar (d : ℕ) : (Rd lg).payload (bC c) 0 d = barPay c d := rfl
theorem payload_xc (r d : ℕ) : (Rd lg).payload (xcC c) r d = iprop(emp) := rfl
theorem payload_yc (r d : ℕ) : (Rd lg).payload (ycC c) r d = iprop(emp) := rfl
theorem payload_xs : (Rd lg).payload (xsC c n) (n / 2) 0 = locH lg c n fullShare.left := by
  show (if 8 + n % 2 < 10 then locH lg c (2 * (n / 2) + (8 + n % 2 - 8)) fullShare.left else _) = _
  rw [if_pos (by omega), show 2 * (n / 2) + (8 + n % 2 - 8) = n by omega]
theorem payload_xr : (Rd lg).payload (xrC c n) (n / 4) 0 = xrPay lg c n := by
  show (if 10 + n % 4 < 10 then _ else if 10 + n % 4 < 14 then xrPay lg c (4 * (n / 4) + (10 + n % 4 - 10)) else _) = _
  rw [if_neg (by omega), if_pos (by omega), show 4 * (n / 4) + (10 + n % 4 - 10) = n by omega]
theorem payload_ys : (Rd lg).payload (ysC c n) (n / 4) 0 = xrH lg c n fullShare.left := by
  show (if 14 + n % 4 < 10 then _ else if 14 + n % 4 < 14 then _ else if 14 + n % 4 < 18 then xrH lg c (4 * (n / 4) + (14 + n % 4 - 14)) fullShare.left else _) = _
  rw [if_neg (by omega), if_neg (by omega), if_pos (by omega), show 4 * (n / 4) + (14 + n % 4 - 14) = n by omega]
theorem payload_yr : (Rd lg).payload (yrC c n) (n / 4) 0 = yrPay lg c n := by
  show (if 18 + n % 4 < 10 then _ else if 18 + n % 4 < 14 then _ else if 18 + n % 4 < 18 then _ else if 18 + n % 4 < 22 then yrPay lg c (4 * (n / 4) + (18 + n % 4 - 18)) else _) = _
  rw [if_neg (by omega), if_neg (by omega), if_neg (by omega), if_pos (by omega), show 4 * (n / 4) + (18 + n % 4 - 18) = n by omega]
theorem payload_st : (Rd lg).payload (stC c n) (n / 2) 0 = stPay lg c n := by
  show (if 22 + n % 2 < 10 then _ else if 22 + n % 2 < 14 then _ else if 22 + n % 2 < 18 then _ else if 22 + n % 2 < 22 then _
    else if 22 + n % 2 < 24 then stPay lg c (2 * (n / 2) + (22 + n % 2 - 22)) else _) = _
  rw [if_neg (by omega), if_neg (by omega), if_neg (by omega), if_neg (by omega), if_pos (by omega), show 2 * (n / 2) + (22 + n % 2 - 22) = n by omega]
theorem payload_su : (Rd lg).payload (suC c n) (n / 2) 0 = suPay lg c n := by
  show (if 24 + n % 2 < 10 then _ else if 24 + n % 2 < 14 then _ else if 24 + n % 2 < 18 then _ else if 24 + n % 2 < 22 then _
    else if 24 + n % 2 < 24 then _ else suPay lg c (2 * (n / 2) + (24 + n % 2 - 24))) = _
  rw [if_neg (by omega), if_neg (by omega), if_neg (by omega), if_neg (by omega), if_neg (by omega), show 2 * (n / 2) + (24 + n % 2 - 24) = n by omega]

theorem duties_dma (s : DmaSem sig) (r : ℕ) (h8 : 8 ≤ s.val) (hr : r < (if s.val < 10 then 4 else if s.val < 22 then 2 else 4)) :
    (Rd lg).duties ((c : Thread nD τ), .dma s) r = {0} := by
  show (if (c : Thread nD τ).2 = .tc then dutiesAt (.dma s) r else ∅) = _
  rw [if_pos rfl]; exact if_pos ⟨h8, hr⟩
variable {n}
theorem duties_xs (h : n < 8) : (Rd lg).duties (xsC c n) (n / 2) = {0} :=
  duties_dma lg c _ _ (show 8 ≤ 8 + n % 2 by omega) (by show _ < (if 8 + n % 2 < 10 then 4 else _); rw [if_pos (by omega)]; omega)
theorem duties_xr (h : n < 8) : (Rd lg).duties (xrC c n) (n / 4) = {0} :=
  duties_dma lg c _ _ (show 8 ≤ 10 + n % 4 by omega) (by show _ < (if 10 + n % 4 < 10 then 4 else if 10 + n % 4 < 22 then 2 else 4); rw [if_neg (by omega), if_pos (by omega)]; omega)
theorem duties_ys (h : n < 8) : (Rd lg).duties (ysC c n) (n / 4) = {0} :=
  duties_dma lg c _ _ (show 8 ≤ 14 + n % 4 by omega) (by show _ < (if 14 + n % 4 < 10 then 4 else if 14 + n % 4 < 22 then 2 else 4); rw [if_neg (by omega), if_pos (by omega)]; omega)
theorem duties_yr (h : n < 8) : (Rd lg).duties (yrC c n) (n / 4) = {0} :=
  duties_dma lg c _ _ (show 8 ≤ 18 + n % 4 by omega) (by show _ < (if 18 + n % 4 < 10 then 4 else if 18 + n % 4 < 22 then 2 else 4); rw [if_neg (by omega), if_pos (by omega)]; omega)
theorem duties_st (h : n < 8) : (Rd lg).duties (stC c n) (n / 2) = {0} :=
  duties_dma lg c _ _ (show 8 ≤ 22 + n % 2 by omega) (by show _ < (if 22 + n % 2 < 10 then 4 else if 22 + n % 2 < 22 then 2 else 4); rw [if_neg (by omega), if_neg (by omega)]; omega)
theorem duties_su (h : n < 8) : (Rd lg).duties (suC c n) (n / 2) = {0} :=
  duties_dma lg c _ _ (show 8 ≤ 24 + n % 2 by omega) (by show _ < (if 24 + n % 2 < 10 then 4 else if 24 + n % 2 < 22 then 2 else 4); rw [if_neg (by omega), if_neg (by omega)]; omega)
theorem duties_bar : (Rd lg).duties (bC c) 0 = Finset.range 2 := rfl
theorem duties_xc : (Rd lg).duties (xcC c) 0 = Finset.range 4 := rfl
theorem duties_yc : (Rd lg).duties (ycC c) 0 = Finset.range 4 := rfl

/-- After the last round no cell has a duty. -/
theorem duties_later (s : SemLoc sig) (R : ℕ) (h : ∀ r, R ≤ r → dutiesAt s r = ∅) : ∀ r, R ≤ r → (Rd lg).duties ((c : Thread nD τ), s) r = ∅ :=
  fun r hr => by show (if (c : Thread nD τ).2 = .tc then dutiesAt s r else ∅) = ∅; rw [h r hr]; exact ite_self _

theorem amount_x (r d : ℕ) (s : DmaSem sig) (h : s.val < 22) : (Rd lg).amount ((c : Thread nD τ), .dma s) r d = NX := if_pos h
theorem amount_o (r d : ℕ) (s : DmaSem sig) (h : 22 ≤ s.val) : (Rd lg).amount ((c : Thread nD τ), .dma s) r d = NO := if_neg (by omega)
theorem amount_reg (r d : ℕ) (s : Sem sig) : (Rd lg).amount ((c : Thread nD τ), .reg s) r d = 1 := rfl

end Sched

/-! ## Levels, and what each device owes -/

abbrev 𝒱₀ : Variants := Variants.none

/-- The indices of every cell: the step whose payment a token stands for. -/
def L (g : GSem nD τ sig) : Finset ℕ := if g.1.2 = .tc then Finset.range 10 else ∅
def lvAt (j : ℕ) : SemLoc sig → ℕ
  | .reg s => if s.val = 2 then 1 else if s.val = 0 then 10 * j + 3 else 10 * j + 5
  | .dma s => if s.val < 10 then 0 else if s.val < 14 then 10 * j + 2 else if s.val < 18 then 0 else if s.val < 22 then 10 * j + 4 else 0
def lv (g : GSem nD τ sig) (j : ℕ) : ℕ := lvAt j g.2

theorem L_of_ne (g : GSem nD τ sig) (h : g.1.2 ≠ .tc) : L g = ∅ := if_neg h
theorem L_tc (c : Dev nD) (s : SemLoc sig) : L ((c : Thread nD τ), s) = Finset.range 10 := if_pos rfl

theorem lv_bar (c : Dev nD) (j : ℕ) : lv (bC c) j = 1 := rfl
theorem lv_xc (c : Dev nD) (j : ℕ) : lv (xcC c) j = 10 * j + 3 := rfl
theorem lv_yc (c : Dev nD) (j : ℕ) : lv (ycC c) j = 10 * j + 5 := rfl
theorem lv_xs (c : Dev nD) (n j : ℕ) : lv (xsC c n) j = 0 := if_pos (show 8 + n % 2 < 10 by omega)
theorem lv_xr (c : Dev nD) (n j : ℕ) : lv (xrC c n) j = 10 * j + 2 := by
  show (if 10 + n % 4 < 10 then 0 else if 10 + n % 4 < 14 then 10 * j + 2 else _) = _
  rw [if_neg (by omega), if_pos (by omega)]
theorem lv_ys (c : Dev nD) (n j : ℕ) : lv (ysC c n) j = 0 := by
  show (if 14 + n % 4 < 10 then 0 else if 14 + n % 4 < 14 then 10 * j + 2 else if 14 + n % 4 < 18 then 0 else _) = _
  rw [if_neg (by omega), if_neg (by omega), if_pos (by omega)]
theorem lv_yr (c : Dev nD) (n j : ℕ) : lv (yrC c n) j = 10 * j + 4 := by
  show (if 18 + n % 4 < 10 then 0 else if 18 + n % 4 < 14 then 10 * j + 2 else if 18 + n % 4 < 18 then 0 else if 18 + n % 4 < 22 then 10 * j + 4 else 0) = _
  rw [if_neg (by omega), if_neg (by omega), if_neg (by omega), if_pos (by omega)]
theorem lv_st (c : Dev nD) (n j : ℕ) : lv (stC c n) j = 0 := by
  show (if 22 + n % 2 < 10 then 0 else if 22 + n % 2 < 14 then 10 * j + 2 else if 22 + n % 2 < 18 then 0 else if 22 + n % 2 < 22 then 10 * j + 4 else 0) = _
  rw [if_neg (by omega), if_neg (by omega), if_neg (by omega), if_neg (by omega)]
theorem lv_su (c : Dev nD) (n j : ℕ) : lv (suC c n) j = 0 := by
  show (if 24 + n % 2 < 10 then 0 else if 24 + n % 2 < 14 then 10 * j + 2 else if 24 + n % 2 < 18 then 0 else if 24 + n % 2 < 22 then 10 * j + 4 else 0) = _
  rw [if_neg (by omega), if_neg (by omega), if_neg (by omega), if_neg (by omega)]

/-- Everything owed lies above level `b`. -/
def Above (b : ℕ) (O : CellTallies nD τ sig ℕ) : Prop := ∀ g i, 0 < O g i → i ∈ L g ∧ b < lv g i

theorem Above.zero (b : ℕ) : Above b 0 := fun _ _ h => absurd h (Nat.lt_irrefl 0)
theorem Above.add {b : ℕ} {O O' : CellTallies nD τ sig ℕ} (h : Above b O) (h' : Above b O') : Above b (O + O') := fun g i hp => by
  have hp : 0 < O g i + O' g i := hp
  rcases Nat.eq_zero_or_pos (O g i) with h0 | h0
  · exact h' g i (by omega)
  · exact h g i h0
theorem Above.tally {b : ℕ} (c : Dev nD) (s : SemLoc sig) (j k : ℕ) (hj : j < 10) (h : b < lv ((c : Thread nD τ), s) j) :
    Above b (tallyAt ((c : Thread nD τ), s) j k) := fun g i hp => by
  rw [tallyAt_apply] at hp
  by_cases hg : g = ((c : Thread nD τ), s) ∧ i = j
  · obtain ⟨rfl, rfl⟩ := hg; exact ⟨by rw [L_tc]; exact Finset.mem_range.mpr hj, h⟩
  · rw [if_neg hg] at hp; exact absurd hp (Nat.lt_irrefl 0)
theorem Above.ite {b : ℕ} {p : Prop} [Decidable p] {O : CellTallies nD τ sig ℕ} (h : p → Above b O) : Above b (if p then O else 0) := by
  split
  · exact h ‹_›
  · exact .zero b
theorem Above.mono {b b' : ℕ} {O : CellTallies nD τ sig ℕ} (h : Above b O) (hb : b' ≤ b) : Above b' O :=
  fun g i hp => ⟨(h g i hp).1, lt_of_le_of_lt hb (h g i hp).2⟩

theorem mayWait {b : ℕ} (c : Dev nD) (s : SemLoc sig) (j : ℕ) {O : CellTallies nD τ sig ℕ} (hj : j < 10)
    (hl : lv ((c : Thread nD τ), s) j ≤ b) (h : Above b O) : (levAts L lv : sProp 𝕄) ⊢ MayWait (c : Thread nD τ) s j O :=
  MayOwe.of_cut (L := L) (lev := lv) b
    (fun p hp => by rw [Finset.mem_singleton.mp hp, L_tc]; exact Finset.mem_range.mpr hj)
    (fun g i hp => (h g i hp).1)
    (fun p hp => by rw [Finset.mem_singleton.mp hp]; exact hl)
    (fun g i hp => (h g i hp).2)

/-- What device `c` pays in step `j`: a chunk to its column neighbour, a credit, a chunk to its row neighbour, a credit. -/
def dueA (c : Dev nD) (j : ℕ) : CellTallies nD τ sig ℕ := tallyAt (xrC (xn c) j) j NX
def dueB (c : Dev nD) (j : ℕ) : CellTallies nD τ sig ℕ := if 2 ≤ j ∧ j ≤ 5 then tallyAt (xcC (xn c)) j 1 else 0
def dueC (c : Dev nD) (j : ℕ) : CellTallies nD τ sig ℕ := tallyAt (yrC (yn c) j) j NX
def dueD (c : Dev nD) (j : ℕ) : CellTallies nD τ sig ℕ := if 1 ≤ j ∧ j ≤ 4 then tallyAt (ycC (yn c)) j 1 else 0
def due (c : Dev nD) (j : ℕ) : CellTallies nD τ sig ℕ := dueD c j + dueC c j + dueB c j + dueA c j
/-- What it owes before step `q`, the barrier passed. -/
def Owed (c : Dev nD) (q : ℕ) : CellTallies nD τ sig ℕ := ∑ j ∈ Finset.Ico q 8, due c j

theorem above_A (c : Dev nD) {j b : ℕ} (hj : j < 8) (h : b < 10 * j + 2) : Above b (dueA c j) :=
  .tally _ _ _ _ (by omega) (by rw [lv_xr]; exact h)
theorem above_B (c : Dev nD) {j b : ℕ} (h : b < 10 * j + 3) : Above b (dueB c j) :=
  .ite fun hj => .tally _ _ _ _ (by omega) (by rw [lv_xc]; exact h)
theorem above_C (c : Dev nD) {j b : ℕ} (hj : j < 8) (h : b < 10 * j + 4) : Above b (dueC c j) :=
  .tally _ _ _ _ (by omega) (by rw [lv_yr]; exact h)
theorem above_D (c : Dev nD) {j b : ℕ} (h : b < 10 * j + 5) : Above b (dueD c j) :=
  .ite fun hj => .tally _ _ _ _ (by omega) (by rw [lv_yc]; exact h)
theorem above_Owed (c : Dev nD) {q b : ℕ} (h : b < 10 * q + 2) : Above b (Owed c q) := by
  unfold Owed
  refine Finset.sum_induction _ (Above b) (fun _ _ h h' => h.add h') (.zero b) fun j hj => ?_
  have := Finset.mem_Ico.mp hj
  exact (((above_D c (by omega)).add (above_C c (by omega) (by omega))).add (above_B c (by omega))).add (above_A c (by omega) (by omega))
theorem Owed_step (c : Dev nD) {q : ℕ} (h : q < 8) : Owed c q = Owed c (q + 1) + dueD c q + dueC c q + dueB c q + dueA c q := by
  unfold Owed
  rw [Finset.sum_eq_sum_Ico_succ_bot h]
  unfold due
  abel
theorem Owed_last (c : Dev nD) {q : ℕ} (h : 8 ≤ q) : Owed c q = 0 := by
  unfold Owed; rw [Finset.Ico_eq_empty_of_le h, Finset.sum_empty]

end Cert.Exchange
-- ==== Proof.Ops.lean ====
/-
  The operations of the exchange kernel, each as one rule: what it takes of the protocol's state and what it leaves.
-/
module

public import proofs.«01_k».proof.Proof.Protocol

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Running a piece of the body -/

noncomputable abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_seq {c : Dev nD} {α β : Type} {p : Prog (TpuEff nD τ sig (Elt F) Λ₀ .tc) α} {k : α → Prog (TpuEff nD τ sig (Elt F) Λ₀ .tc) β}
    {P : sProp 𝕄} {R : α → sProp 𝕄} {Q : β → sProp 𝕄} (h : P ⊢ run c p R) :
    P ⊢ iprop((∀ x, R x -∗ run c (k x) Q) -∗ run c (p >>= k) Q) := by
  unfold run; rw [wp_bind]; exact h.trans (wp_wand _ _ _)

theorem run_then {c : Dev nD} {β : Type} {p : Prog (TpuEff nD τ sig (Elt F) Λ₀ .tc) PUnit} {k : PUnit → Prog (TpuEff nD τ sig (Elt F) Λ₀ .tc) β}
    {P : sProp 𝕄} {R : sProp 𝕄} {Q : β → sProp 𝕄} (h : P ⊢ run c p (fun _ => R)) :
    P ⊢ iprop((R -∗ run c (k ⟨⟩) Q) -∗ run c (p >>= k) Q) := by
  refine (run_seq (k := k) (Q := Q) h).trans ?_
  iintro H Hk
  iapply H
  iintro %x HR
  iapply Hk; iexact HR

theorem run_ret {c : Dev nD} {α : Type} {a : α} {P : sProp 𝕄} {Q : α → sProp 𝕄} (h : P ⊢ Q a) : P ⊢ run c (pure a) Q := by
  show P ⊢ run c (.ret a) Q
  unfold run; rw [wp_ret]; exact h.trans fupd_intro

variable (lg : Dev nD → S2x1024x8192.Idx → Elt F .bf16)

/-! ## What every device may consult -/

/-- The exchange call's own semaphores. -/
noncomputable abbrev osem (k : Fin 20) : SemLoc sig := if h : k.val < 2 then .reg (⟨k.val, by omega⟩ : Fin 3) else .dma (⟨k.val + 6, by omega⟩ : Fin 26)

noncomputable def barEmb : Dev nD ↪ GSem nD τ sig := ⟨bC, fun a b h => Fin.ext (congrArg (fun g : GSem nD τ sig => g.1.1.val) h)⟩
noncomputable def scEmb : Dev nD × Fin 20 ↪ GSem nD τ sig :=
  ⟨fun p => ((p.1 : Thread nD τ), osem p.2), fun a b h => Prod.ext (Fin.ext (congrArg (fun g : GSem nD τ sig => g.1.1.val) h))
    ((by decide : ∀ i j : Fin 20, osem i = osem j → i = j) _ _ (congrArg Prod.snd h))⟩
noncomputable def barCells : Finset (GSem nD τ sig) := Finset.univ.map barEmb
noncomputable def scCells : Finset (GSem nD τ sig) := Finset.univ.map scEmb

/-- All the cells' invariants, under one map of names, and the levels. -/
noncomputable def pers (K : GSem nD τ sig → ℕ) : sProp 𝕄 :=
  iprop((bigSep (barCells ∪ scCells) fun g => cellInv ER (Rd lg) (K g) g) ∗ levAts L lv)

instance pers_persistent (K : GSem nD τ sig → ℕ) : BI.Persistent (pers lg K) := by unfold pers; infer_instance

variable {K : GSem nD τ sig → ℕ}

theorem mem_bar (c : Dev nD) : bC c ∈ barCells ∪ scCells :=
  Finset.mem_union_left _ (Finset.mem_map_of_mem barEmb (Finset.mem_univ c))
theorem mem_sc (c : Dev nD) (k : Fin 20) : ((c : Thread nD τ), osem k) ∈ barCells ∪ scCells :=
  Finset.mem_union_right _ (Finset.mem_map_of_mem scEmb (Finset.mem_univ (c, k)))
theorem mem_dma (c : Dev nD) (s : DmaSem sig) (h : 8 ≤ s.val) : ((c : Thread nD τ), .dma s) ∈ barCells ∪ scCells := by
  obtain ⟨k, hk⟩ := (by decide : ∀ s : Fin 26, 8 ≤ s.val → ∃ k : Fin 20, osem k = .dma s) s h
  exact hk ▸ mem_sc c k

theorem pers_inv {g : GSem nD τ sig} (h : g ∈ barCells ∪ scCells) : pers lg K ⊢ cellInv ER (Rd lg) (K g) g := by
  unfold pers; exact sep_elim_left.trans (bigSep_elim h)
theorem pers_lev : pers lg K ⊢ levAts L lv := by unfold pers; exact sep_elim_right

/-- A device owes `O`, whatever it has waited on. -/
noncomputable def owe (c : Dev nD) (O : CellTallies nD τ sig ℕ) : sProp 𝕄 := iprop(∃ W, owes (c : Thread nD τ) O W)
/-- Round `r` of a cell is the open one, and is reached. -/
noncomputable def pos (g : GSem nD τ sig) (r : ℕ) : sProp 𝕄 := iprop(atPos ER g r ∅ 0 ∗ reached ER g r)

/-! ## Waits -/

/-- A wait for the one duty of the open round of an own DMA cell. -/
theorem wait_dma (c : Dev nD) {s : DmaSem sig} {R ι N b : ℕ} {P : sProp 𝕄} {O : CellTallies nD τ sig ℕ} (hs : 8 ≤ s.val)
    (hd : (Rd lg).duties ((c : Thread nD τ), .dma s) R = {0}) (ha : (Rd lg).amount ((c : Thread nD τ), .dma s) R 0 = N)
    (hp : (Rd lg).payload ((c : Thread nD τ), .dma s) R 0 = P) (hι : ι < 10) (hlv : lv ((c : Thread nD τ), .dma s) ι ≤ b) (hO : Above b O)
    {sp sp' : Space} {sh sh' : Shape} {e e' : EltTy} {src : Memref sig .tc sp sh e} {dst : Memref sig .tc sp' sh' e'} {sem : DmaSem sig} (hsem : sem = s)
    (hN : dst.view.dmaCredit = N) {h1 : src.view.WordExact} {h2 : dst.view.WordExact} :
    iprop(pers lg K ∗ cred (tallyAt ((c : Thread nD τ), .dma s) ι N) ∗ owe c O ∗ pos ((c : Thread nD τ), .dma s) R)
      ⊢ run c (Prog.lift (.waitDma2 sem src dst h1 h2)) (fun _ => iprop(owe c O ∗ pos ((c : Thread nD τ), .dma s) (R + 1) ∗ P)) := by
  subst hsem hN
  unfold owe pos
  iintro ⟨#Hp, Hc, ⟨%W, HO⟩, Hat, -⟩
  iapply (Rounds.wp_wait_rest_token 𝒱₀ ER (Rd lg) (c : Thread nD τ) none (κ := K ((c : Thread nD τ), .dma sem))
      (wpE_waitDma2_eq (src := src) (dst := dst) 𝒱₀ (c : Thread nD τ) none Set.univ) (Set.mem_univ _) ι (O := O) (W := W) (R := R) (m := 0) (T := ∅)
      (by unfold Schedule.expect Schedule.amountOf; rw [hd, Finset.sum_singleton, ha, Nat.zero_add])) $$ [Hc HO Hat]
  · isplitr; · iapply (pers_inv lg (mem_dma c sem hs)); iexact Hp
    isplitl [Hc]; · iexact Hc
    isplitl [HO]; · iexact HO
    isplitr; · iapply (mayWait c (.dma sem) ι hι hlv hO); iapply (pers_lev lg (K := K)); iexact Hp
    iexact Hat
  iintro ⟨HO, Hat, Hr, Hpay⟩
  iapply (run_ret (c := c) (a := PUnit.unit) .rfl)
  isplitl [HO]; · iexists _; iexact HO
  isplitl [Hat Hr]; · isplitl [Hat] <;> iassumption
  iapply (Entails.of_eq (show bigSep ((Rd lg).duties ((c : Thread nD τ), .dma sem) R \ ∅) ((Rd lg).payload ((c : Thread nD τ), .dma sem) R) = P by
    rw [Finset.sdiff_empty, hd, bigSep_singleton, hp]))
  iexact Hpay

/-! ## The slots as the kernel addresses them -/

section Slots

variable {o : Fin 3 → ℕ} {s : ℕ} (ho : o = ![s, 0, 0])
include ho

theorem set_locC (inb : ∀ a, o a + S1x128x8192.size a ≤ S2x128x8192.size a) {hu} {hq : S1x128x8192.Squeezes S128x8192} :
    ((locM.slice (Rect.unit (s := S2x128x8192) o S1x128x8192.size inb) hu).squeeze S128x8192 hq).view.set = slot (n := 2) (v := 8192) s :=
  (Memref.set_view_squeeze _ _).trans ((View.set_slice_whole _ _).trans (set_slot o s ho inb))
theorem set_xrC (inb : ∀ a, o a + S1x128x8192.size a ≤ S4x128x8192.size a) {hu} {hq : S1x128x8192.Squeezes S128x8192} :
    ((xrM.slice (Rect.unit (s := S4x128x8192) o S1x128x8192.size inb) hu).squeeze S128x8192 hq).view.set = slot (n := 4) (v := 8192) s :=
  (Memref.set_view_squeeze _ _).trans ((View.set_slice_whole _ _).trans (set_slot o s ho inb))
theorem set_yrC (inb : ∀ a, o a + S1x128x8192.size a ≤ S4x128x8192.size a) {hu} {hq : S1x128x8192.Squeezes S128x8192} :
    ((yrM.slice (Rect.unit (s := S4x128x8192) o S1x128x8192.size inb) hu).squeeze S128x8192 hq).view.set = slot (n := 4) (v := 8192) s :=
  (Memref.set_view_squeeze _ _).trans ((View.set_slice_whole _ _).trans (set_slot o s ho inb))
theorem set_stC (inb : ∀ a, o a + S1x128x16384.size a ≤ S4x128x16384.size a) {hu} {hq : S1x128x16384.Squeezes S128x16384} :
    ((stM.slice (Rect.unit (s := S4x128x16384) o S1x128x16384.size inb) hu).squeeze S128x16384 hq).view.set = slot (n := 4) (v := 16384) s :=
  (Memref.set_view_squeeze _ _).trans ((View.set_slice_whole _ _).trans (set_slot o s ho inb))

end Slots

theorem set_outC {o : Fin 2 → ℕ} {r : ℕ} (ho : o = ![128 * r, 0]) (inb : ∀ a, o a + S128x16384.size a ≤ S2048x16384.size a) {hu} :
    (outM.slice (Rect.unit (s := S2048x16384) o S128x16384.size inb) hu).view.set = rows r :=
  (View.set_slice_whole _ _).trans (set_rows o r ho inb)

/-! ## Sends -/

/-- What rides along with chunk `n` to the column neighbour, and to the row neighbour: a freed slot of the sender's. -/
def xRide (c : Dev nD) (n : ℕ) : sProp 𝕄 :=
  if 3 ≤ n ∧ n ≤ 6 then iprop(xrA (F := F) c (n - 3) ∗ reached ER (xrC c (n - 3)) 1) else iprop(emp)
def yRide (c : Dev nD) (n : ℕ) : sProp 𝕄 :=
  if 2 ≤ n ∧ n ≤ 5 then iprop(yrA (F := F) c (n - 2) ∗ reached ER (yrC c (n - 2)) 1) else iprop(emp)

theorem xrPay_eq (c : Dev nD) (n : ℕ) : xrPay lg c n = iprop(xrH lg c n fullShare ∗ xRide (xn c) n) := rfl
theorem yrPay_eq (c : Dev nD) (n : ℕ) : yrPay lg c n = iprop(yrH lg c n ∗ yRide (yn c) n) := rfl

theorem othR_yn (c : Dev nD) (n : ℕ) : othR (yn c) n = ownR c n := by
  rw [← ownR_yn, yn_yn]

theorem leaves_lx {o₁ o₂ : Fin 3 → ℕ} {s₁ s₂ : ℕ} (h₁ : o₁ = ![s₁, 0, 0]) (h₂ : o₂ = ![s₂, 0, 0])
    (inb₁ : ∀ a, o₁ a + S1x128x8192.size a ≤ S2x128x8192.size a) (inb₂ : ∀ a, o₂ a + S1x128x8192.size a ≤ S4x128x8192.size a) {hu₁ hu₂}
    {hq : S1x128x8192.Squeezes S128x8192} (g : VX F) (fd : (Stk 4 8192).Idx → Elt F .bf16) :
    ∀ i ∈ ((xrM.slice (Rect.unit (s := S4x128x8192) o₂ S1x128x8192.size inb₂) hu₂).squeeze S128x8192 hq).view.set,
      ((xrM.slice (Rect.unit (s := S4x128x8192) o₂ S1x128x8192.size inb₂) hu₂).squeeze S128x8192 hq).view.write (Elt F) fd
        (((locM.slice (Rect.unit (s := S2x128x8192) o₁ S1x128x8192.size inb₁) hu₁).squeeze S128x8192 hq).view.read (Elt F) (lay g)) Finset.univ i = lay (n := 4) g i :=
  copy_leaves (Val := Elt F) ((locM.slice (Rect.unit (s := S2x128x8192) o₁ S1x128x8192.size inb₁) hu₁).squeeze S128x8192 hq).view
    ((xrM.slice (Rect.unit (s := S4x128x8192) o₂ S1x128x8192.size inb₂) hu₂).squeeze S128x8192 hq).view (lay g) fd (lay g)
    fun _ => (lay_emb g o₁ _ h₁ inb₁ _).trans (lay_emb g o₂ _ h₂ inb₂ _).symm

variable (c : Dev nD) {n : ℕ}

theorem send_x (hn : n < 8) {o₁ o₂ : Fin 3 → ℕ} (h₁ : o₁ = ![n % 2, 0, 0]) (h₂ : o₂ = ![n % 4, 0, 0])
    {inb₁ : ∀ a, o₁ a + S1x128x8192.size a ≤ S2x128x8192.size a} {inb₂ : ∀ a, o₂ a + S1x128x8192.size a ≤ S4x128x8192.size a} {hu₁ hu₂}
    {hq : S1x128x8192.Squeezes S128x8192} {dst : Dev nD} (hd : dst = xn c) {s₁ s₂ : DmaSem sig} (hs₁ : s₁ = xsS n) (hs₂ : s₂ = xrS n)
    {O : CellTallies nD τ sig ℕ} {hsc hsrc hdst hsem} :
    iprop(pers lg K ∗ locH lg c n fullShare.left ∗ xrA (xn c) n ∗ xRide c n ∗ owe c (O + dueA c n)
        ∗ dutyTok ER (xsC c n) (n / 2) 0 ∗ reached ER (xsC c n) (n / 2) ∗ dutyTok ER (xrC (xn c) n) (n / 4) 0 ∗ reached ER (xrC (xn c) n) (n / 4))
      ⊢ run c (Prog.lift (.enqueueDma ((locM.slice (Rect.unit (s := S2x128x8192) o₁ S1x128x8192.size inb₁) hu₁).squeeze S128x8192 hq)
          (.remote (Dev.tc dst) ((xrM.slice (Rect.unit (s := S4x128x8192) o₂ S1x128x8192.size inb₂) hu₂).squeeze S128x8192 hq) (.dma s₁) hsc) (.dma s₂) hsrc hdst hsem))
        (fun _ => iprop(cred (tallyAt (xsC c n) 0 NX) ∗ owe c O)) := by
  subst hd hs₁ hs₂
  unfold owe xrA locH locP xrP
  rw [← set_locC h₁ inb₁ (hu := hu₁) (hq := hq), ← set_xrC h₂ inb₂ (hu := hu₂) (hq := hq)]
  iintro ⟨#Hp, Hs, ⟨%fd, Hd⟩, Hr, ⟨%W, HO⟩, Ht1, Hr1, Ht2, Hr2⟩
  iapply (Rounds.wp_send_pointsTo_with 𝒱₀ ER (Rd lg) (c : Thread nD τ) none (κ₁ := K (xsC c n)) (κ₂ := K (xrC (xn c) n))
      (c' := (xn c : Thread nD τ)) (r₁ := n / 2) (r₂ := n / 4) (d₁ := 0) (d₂ := 0) (fd := fd)
      (by rw [duties_xs lg c hn]; exact Finset.mem_singleton_self 0) (by rw [duties_xr lg (xn c) hn]; exact Finset.mem_singleton_self 0)
      n 0 NX rfl (amount_x lg c _ _ _ (show 8 + n % 2 < 22 by omega)) (amount_x lg (xn c) _ _ _ (show 10 + n % 4 < 22 by omega)) O rfl (F := xRide c n)
      (by rw [payload_xs]; unfold locH locP; rw [← set_locC h₁ inb₁ (hu := hu₁) (hq := hq)])
      (by
        rw [payload_xr, xrPay_eq, xn_xn]; unfold xrH xrP; rw [← set_xrC h₂ inb₂ (hu := hu₂) (hq := hq), xn_xn, ownR_xn]
        exact sep_mono_left (Entails.of_eq (pointsTo_congr (leaves_lx h₁ h₂ inb₁ inb₂ _ fd))))) $$ [Hs Hd Hr HO Ht1 Hr1 Ht2 Hr2]
  · isplitr; · iapply (pers_inv lg (mem_dma c (xsS n) (show 8 ≤ 8 + n % 2 by omega))); iexact Hp
    isplitr; · iapply (pers_inv lg (mem_dma (xn c) (xrS n) (show 8 ≤ 10 + n % 4 by omega))); iexact Hp
    isplitl [Hs]; · iexact Hs
    isplitl [Hd Hr]; · isplitl [Hd] <;> iassumption
    isplitl [HO]; · iexact HO
    isplitl [Ht1]; · iexact Ht1
    isplitl [Hr1]; · iexact Hr1
    isplitl [Ht2] <;> iassumption
  iintro ⟨Hc, HO⟩
  iapply (run_ret (c := c) (a := PUnit.unit) .rfl)
  isplitl [Hc]; · iexact Hc
  iexists _; iexact HO

theorem leaves_xy {o₁ o₂ : Fin 3 → ℕ} {s₁ s₂ : ℕ} (h₁ : o₁ = ![s₁, 0, 0]) (h₂ : o₂ = ![s₂, 0, 0])
    (inb₁ : ∀ a, o₁ a + S1x128x8192.size a ≤ S4x128x8192.size a) (inb₂ : ∀ a, o₂ a + S1x128x8192.size a ≤ S4x128x8192.size a) {hu₁ hu₂}
    {hq : S1x128x8192.Squeezes S128x8192} (g : VX F) (fd : (Stk 4 8192).Idx → Elt F .bf16) :
    ∀ i ∈ ((yrM.slice (Rect.unit (s := S4x128x8192) o₂ S1x128x8192.size inb₂) hu₂).squeeze S128x8192 hq).view.set,
      ((yrM.slice (Rect.unit (s := S4x128x8192) o₂ S1x128x8192.size inb₂) hu₂).squeeze S128x8192 hq).view.write (Elt F) fd
        (((xrM.slice (Rect.unit (s := S4x128x8192) o₁ S1x128x8192.size inb₁) hu₁).squeeze S128x8192 hq).view.read (Elt F) (lay g)) Finset.univ i = lay (n := 4) g i :=
  copy_leaves (Val := Elt F) ((xrM.slice (Rect.unit (s := S4x128x8192) o₁ S1x128x8192.size inb₁) hu₁).squeeze S128x8192 hq).view
    ((yrM.slice (Rect.unit (s := S4x128x8192) o₂ S1x128x8192.size inb₂) hu₂).squeeze S128x8192 hq).view (lay g) fd (lay g)
    fun _ => (lay_emb g o₁ _ h₁ inb₁ _).trans (lay_emb g o₂ _ h₂ inb₂ _).symm

theorem send_y (hn : n < 8) {o₁ o₂ : Fin 3 → ℕ} (h₁ : o₁ = ![n % 4, 0, 0]) (h₂ : o₂ = ![n % 4, 0, 0])
    {inb₁ : ∀ a, o₁ a + S1x128x8192.size a ≤ S4x128x8192.size a} {inb₂ : ∀ a, o₂ a + S1x128x8192.size a ≤ S4x128x8192.size a} {hu₁ hu₂}
    {hq : S1x128x8192.Squeezes S128x8192} {dst : Dev nD} (hd : dst = yn c) {s₁ s₂ : DmaSem sig} (hs₁ : s₁ = ysS n) (hs₂ : s₂ = yrS n)
    {O : CellTallies nD τ sig ℕ} {hsc hsrc hdst hsem} :
    iprop(pers lg K ∗ xrH lg c n fullShare.left ∗ yrA (yn c) n ∗ yRide c n ∗ owe c (O + dueC c n)
        ∗ dutyTok ER (ysC c n) (n / 4) 0 ∗ reached ER (ysC c n) (n / 4) ∗ dutyTok ER (yrC (yn c) n) (n / 4) 0 ∗ reached ER (yrC (yn c) n) (n / 4))
      ⊢ run c (Prog.lift (.enqueueDma ((xrM.slice (Rect.unit (s := S4x128x8192) o₁ S1x128x8192.size inb₁) hu₁).squeeze S128x8192 hq)
          (.remote (Dev.tc dst) ((yrM.slice (Rect.unit (s := S4x128x8192) o₂ S1x128x8192.size inb₂) hu₂).squeeze S128x8192 hq) (.dma s₁) hsc) (.dma s₂) hsrc hdst hsem))
        (fun _ => iprop(cred (tallyAt (ysC c n) 0 NX) ∗ owe c O)) := by
  subst hd hs₁ hs₂
  unfold owe yrA xrH xrP yrP
  iintro ⟨#Hp, Hs, ⟨%fd, Hd⟩, Hr, ⟨%W, HO⟩, Ht1, Hr1, Ht2, Hr2⟩
  iapply (Rounds.wp_send_pointsTo_with 𝒱₀ ER (Rd lg) (c : Thread nD τ) none (κ₁ := K (ysC c n)) (κ₂ := K (yrC (yn c) n))
      (c' := (yn c : Thread nD τ)) (r₁ := n / 4) (r₂ := n / 4) (d₁ := 0) (d₂ := 0) (fd := fd)
      (by rw [duties_ys lg c hn]; exact Finset.mem_singleton_self 0) (by rw [duties_yr lg (yn c) hn]; exact Finset.mem_singleton_self 0)
      n 0 NX rfl (amount_x lg c _ _ _ (show 14 + n % 4 < 22 by omega)) (amount_x lg (yn c) _ _ _ (show 18 + n % 4 < 22 by omega)) O rfl (F := yRide c n)
      (by rw [payload_ys]; unfold xrH xrP; rw [← set_xrC h₁ inb₁ (hu := hu₁) (hq := hq)])
      (by
        rw [payload_yr, yrPay_eq, yn_yn]; unfold yrH yrP; rw [← set_yrC h₂ inb₂ (hu := hu₂) (hq := hq), yn_yn, othR_yn]
        exact sep_mono_left (Entails.of_eq (pointsTo_congr (leaves_xy h₁ h₂ inb₁ inb₂ _ fd))))) $$ [Hs Hd Hr HO Ht1 Hr1 Ht2 Hr2]
  · isplitr; · iapply (pers_inv lg (mem_dma c (ysS n) (show 8 ≤ 14 + n % 4 by omega))); iexact Hp
    isplitr; · iapply (pers_inv lg (mem_dma (yn c) (yrS n) (show 8 ≤ 18 + n % 4 by omega))); iexact Hp
    isplitl [Hs]; · rw [set_xrC h₁ inb₁]; iexact Hs
    isplitl [Hd Hr]
    · rw [set_yrC h₂ inb₂]
      isplitl [Hd] <;> iassumption
    isplitl [HO]; · iexact HO
    isplitl [Ht1]; · iexact Ht1
    isplitl [Hr1]; · iexact Hr1
    isplitl [Ht2] <;> iassumption
  iintro ⟨Hc, HO⟩
  iapply (run_ret (c := c) (a := PUnit.unit) .rfl)
  isplitl [Hc]; · iexact Hc
  iexists _; iexact HO

/-! ## The copy of a finished chunk to the result -/

theorem leaves_out {o₁ : Fin 3 → ℕ} {o₂ : Fin 2 → ℕ} {s r : ℕ} (h₁ : o₁ = ![s, 0, 0]) (h₂ : o₂ = ![128 * r, 0])
    (inb₁ : ∀ a, o₁ a + S1x128x16384.size a ≤ S4x128x16384.size a) (inb₂ : ∀ a, o₂ a + S128x16384.size a ≤ S2048x16384.size a) {hu₁ hu₂}
    {hq : S1x128x16384.Squeezes S128x16384} (w : ℕ → (Stk 1 16384).Idx → Elt F .bf16) (fd : S2048x16384.Idx → Elt F .bf16) :
    ∀ i ∈ (outM.slice (Rect.unit (s := S2048x16384) o₂ S128x16384.size inb₂) hu₂).view.set,
      (outM.slice (Rect.unit (s := S2048x16384) o₂ S128x16384.size inb₂) hu₂).view.write (Elt F) fd
        (((stM.slice (Rect.unit (s := S4x128x16384) o₁ S1x128x16384.size inb₁) hu₁).squeeze S128x16384 hq).view.read (Elt F) (lay (w r))) Finset.univ i = stackRows w i :=
  copy_leaves (Val := Elt F) ((stM.slice (Rect.unit (s := S4x128x16384) o₁ S1x128x16384.size inb₁) hu₁).squeeze S128x16384 hq).view
    (outM.slice (Rect.unit (s := S2048x16384) o₂ S128x16384.size inb₂) hu₂).view (lay (w r)) fd (stackRows w)
    fun y => (lay_emb (w r) o₁ _ h₁ inb₁ _).trans ((congrArg (w r) ((congrArg _ (eq_ix2 y)).trans (reshapeEquiv_ix2_1ab _ (y 0) (y 1)))).trans (stackRows_emb w o₂ r h₂ inb₂ y).symm)

theorem copy_out {s : DmaSem sig} {R k r : ℕ} (hs : 22 ≤ s.val) (hdut : (Rd lg).duties ((c : Thread nD τ), .dma s) R = {0})
    (hpay : iprop(outH lg c r ∗ ∃ g, stP c k g) ⊢ (Rd lg).payload ((c : Thread nD τ), .dma s) R 0)
    {o₁ : Fin 3 → ℕ} {o₂ : Fin 2 → ℕ} (h₁ : o₁ = ![k, 0, 0]) (h₂ : o₂ = ![128 * r, 0])
    {inb₁ : ∀ a, o₁ a + S1x128x16384.size a ≤ S4x128x16384.size a} {inb₂ : ∀ a, o₂ a + S128x16384.size a ≤ S2048x16384.size a} {hu₁ hu₂}
    {hq : S1x128x16384.Squeezes S128x16384} {s' : DmaSem sig} (hs' : s' = s) {hsrc hdst hsem} :
    iprop(pers lg K ∗ stP c k (lay (stV lg c r)) ∗ outA c r ∗ dutyTok ER ((c : Thread nD τ), .dma s) R 0 ∗ reached ER ((c : Thread nD τ), .dma s) R)
      ⊢ run c (Prog.lift (.enqueueDma ((stM.slice (Rect.unit (s := S4x128x16384) o₁ S1x128x16384.size inb₁) hu₁).squeeze S128x16384 hq)
          (.here (outM.slice (Rect.unit (s := S2048x16384) o₂ S128x16384.size inb₂) hu₂)) (.dma s') hsrc hdst hsem))
        (fun _ => cred (tallyAt ((c : Thread nD τ), .dma s) 0 NO)) := by
  subst hs'
  unfold outA outP
  iintro ⟨#Hp, Hs, ⟨%fd, Hd⟩, Ht, Hr⟩
  iapply (Rounds.wp_copy_pointsTo 𝒱₀ ER (Rd lg) (c : Thread nD τ) none (κ := K ((c : Thread nD τ), .dma s')) (r := R) (d := 0) (q := fullShare)
      (fs := lay (stV lg c r)) (fd := fd) (by rw [hdut]; exact Finset.mem_singleton_self 0) 0 NO rfl (amount_o lg c _ _ _ hs)
      (by
        refine BIBase.Entails.trans ?_ hpay
        unfold outH outP stP
        rw [← set_outC h₂ inb₂ (hu := hu₂), ← set_stC h₁ inb₁ (hu := hu₁) (hq := hq)]
        exact sep_mono (Entails.of_eq (pointsTo_congr (leaves_out h₁ h₂ inb₁ inb₂ (stV lg c) fd))) (exists_intro (lay (stV lg c r))))) $$ [Hs Hd Ht Hr]
  · isplitr; · iapply (pers_inv lg (mem_dma c s' (by omega))); iexact Hp
    isplitl [Hs]; · unfold stP; rw [← set_stC h₁ inb₁ (hu := hu₁) (hq := hq)]; iexact Hs
    isplitl [Hd]; · rw [← set_outC h₂ inb₂ (hu := hu₂)]; iexact Hd
    isplitl [Ht] <;> iassumption
  iintro Hc
  iapply (run_ret (c := c) (a := PUnit.unit) .rfl)
  iexact Hc

end Cert.Exchange
-- ==== Proof.Local.lean ====
/-
  The credits, the barrier, and the loads and stores of the exchange kernel, each as one rule.
-/
module

public import proofs.«01_k».proof.Proof.Ops

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (lg : Dev nD → S2x1024x8192.Idx → Elt F .bf16) {K : GSem nD τ sig → ℕ} (c : Dev nD)

/-! ## Regular semaphores -/

theorem mem_xc : xcC c ∈ barCells ∪ scCells := mem_sc c 0
theorem mem_yc : ycC c ∈ barCells ∪ scCells := mem_sc c 1

/-- One unit to another device's regular semaphore. -/
theorem raise {s s' : Sem sig} (hs : s' = s) {dst dst' : Dev nD} (hd : dst' = dst) (hm : ((dst : Thread nD τ), .reg s) ∈ barCells ∪ scCells) {d ι : ℕ}
    (hdut : d ∈ (Rd lg).duties ((dst : Thread nD τ), .reg s) 0) {P : sProp 𝕄} (hp : P ⊢ (Rd lg).payload ((dst : Thread nD τ), .reg s) 0 d)
    {O : CellTallies nD τ sig ℕ} :
    iprop(pers lg K ∗ P ∗ owe c (O + tallyAt ((dst : Thread nD τ), .reg s) ι 1) ∗ dutyTok ER ((dst : Thread nD τ), .reg s) 0 d
        ∗ reached ER ((dst : Thread nD τ), .reg s) 0)
      ⊢ run c (semSignalWord dst' s' 1#32) (fun _ => owe c O) := by
  subst hs hd
  unfold owe
  refine (?_ : _ ⊢ run (F := F) c (.op (.semSignal ((dst' : Thread nD τ)) s' ((1 : ℕ) : Int)) .ret) _)
  iintro ⟨#Hp, HP, ⟨%W, HO⟩, Ht, Hr⟩
  iapply (Rounds.wp_signal 𝒱₀ ER (Rd lg) (c : Thread nD τ) none (κ := K ((dst' : Thread nD τ), .reg s')) hdut (amount_reg lg dst' 0 d s') ι O rfl) $$ [HP HO Ht Hr]
  · isplitr; · iapply (pers_inv lg hm); iexact Hp
    isplitl [HO]; · iexact HO
    isplitl [Ht]; · iexact Ht
    isplitl [HP]; · iapply hp; iexact HP
    iexact Hr
  iintro HO
  iapply (run_ret (c := c) (a := PUnit.unit) .rfl)
  iexists _; iexact HO

/-- One unit of credit awaited on an own regular semaphore, of several that may come in any order. -/
theorem await {s s' : Sem sig} (hs : s' = s) (hm : ((c : Thread nD τ), .reg s) ∈ barCells ∪ scCells) {ι m b : ℕ}
    {O : CellTallies nD τ sig ℕ} (hι : ι < 10) (hlv : lv ((c : Thread nD τ), .reg s) ι ≤ b) (hO : Above b O) :
    iprop(pers lg K ∗ cred (tallyAt ((c : Thread nD τ), .reg s) ι 1) ∗ owe c O ∗ (∃ T, atPos ER ((c : Thread nD τ), .reg s) 0 T m))
      ⊢ run c (semWaitWord s' 1#32) (fun _ => iprop(owe c O ∗ (∃ T, ⌜m + 1 + ((Rd lg).duties ((c : Thread nD τ), .reg s) 0 \ T).card ≤ (Rd lg).expect ((c : Thread nD τ), .reg s) 0⌝
        ∗ atPos ER ((c : Thread nD τ), .reg s) 0 T (m + 1)))) := by
  subst hs
  unfold owe
  refine (?_ : _ ⊢ run (F := F) c (.op (.semWait s' ((1 : ℕ) : Int)) .ret) _)
  iintro ⟨#Hp, Hc, ⟨%W, HO⟩, ⟨%T, Hat⟩⟩
  iapply (Rounds.wp_wait 𝒱₀ ER (Rd lg) (c : Thread nD τ) none (κ := K ((c : Thread nD τ), .reg s')) (wpE_semWait_eq 𝒱₀ (c : Thread nD τ) none Set.univ) (Set.mem_univ _)
      (cr := Finsupp.single ι 1) (O := O) (W := W) {(.reg s', ι)} (R := 0) (m := m) (T := T) (Util.total_single _ _) (image_single_subset _ _ _)) $$ [Hc HO Hat]
  · isplitr; · iapply (pers_inv lg hm); iexact Hp
    isplitl [Hc]; · iexact Hc
    isplitl [HO]; · iexact HO
    isplitr; · iapply (mayWait c (.reg s') ι hι hlv hO); iapply (pers_lev lg (K := K)); iexact Hp
    iexact Hat
  iintro %S ⟨%hS, HO, Hat, -⟩
  iapply (run_ret (c := c) (a := PUnit.unit) .rfl)
  isplitl [HO]; · iexists _; iexact HO
  iexists S
  isplitr; · ipureintro; exact hS.2.2
  iexact Hat

/-- The wait for both neighbours at the barrier. -/
theorem await_bar {s' : Sem sig} (hs : s' = bS) {O : CellTallies nD τ sig ℕ} (hO : Above 1 O) :
    iprop(pers lg K ∗ cred (tallyAt (bC c) 0 2) ∗ owe c O ∗ pos (bC c) 0)
      ⊢ run c (semWaitWord s' 2#32) (fun _ => iprop(owe c O ∗ pos (bC c) 1 ∗ barPay c 0 ∗ barPay c 1)) := by
  subst hs
  unfold owe pos
  refine (?_ : _ ⊢ run (F := F) c (.op (.semWait bS ((2 : ℕ) : Int)) .ret) _)
  iintro ⟨#Hp, Hc, ⟨%W, HO⟩, Hat, -⟩
  iapply (Rounds.wp_wait_rest_token 𝒱₀ ER (Rd lg) (c : Thread nD τ) none (κ := K (bC c))
      (wpE_semWait_eq 𝒱₀ (c : Thread nD τ) none Set.univ) (Set.mem_univ _) 0 (O := O) (W := W) (R := 0) (m := 0) (T := ∅)
      (show 0 + 2 = (Rd lg).expect (bC c) 0 from rfl)) $$ [Hc HO Hat]
  · isplitr; · iapply (pers_inv lg (mem_bar c)); iexact Hp
    isplitl [Hc]; · iexact Hc
    isplitl [HO]; · iexact HO
    isplitr; · iapply (mayWait c (.reg bS) 0 (by omega) (by exact le_of_eq (lv_bar c 0)) hO); iapply (pers_lev lg (K := K)); iexact Hp
    iexact Hat
  iintro ⟨HO, Hat, Hr, Hpay⟩
  iapply (run_ret (c := c) (a := PUnit.unit) .rfl)
  isplitl [HO]; · iexists _; iexact HO
  isplitl [Hat Hr]; · isplitl [Hat] <;> iassumption
  ihave Hpay := (Entails.of_eq (show bigSep ((Rd lg).duties (bC c) 0 \ ∅) ((Rd lg).payload (bC c) 0) = iprop(barPay (F := F) c 0 ∗ barPay (F := F) c 1) by
    rw [Finset.sdiff_empty, duties_bar, show Finset.range 2 = insert 0 {1} from rfl, bigSep_insert (by decide), bigSep_singleton]; rfl)) $$ Hpay
  iexact Hpay

/-! ## Loads and stores -/

section Mem

variable {sh : Shape} {cs : CoreSpace} {m : Memref sig .tc cs sh .bf16} {r : Rect sh}

theorem load_at {hl : m.view.LoadsAt r} {S : Finset (Idx (m.view.loc (c : Thread nD τ)))} {q : PosShare TreeShare}
    {f : Buf (Elt F) (m.view.loc (c : Thread nD τ))} {w : r.shape.Idx → Elt F .bf16} (hS : (m.access r).set ⊆ S) (hw : (m.access r).read (Elt F) f = w) :
    (m.view.loc (c : Thread nD τ) ↦[S]{q} f : sProp 𝕄)
      ⊢ run c (Prog.lift (.load m r.toLoadRect hl)) (fun x => iprop(⌜x = w⌝ ∗ (m.view.loc (c : Thread nD τ) ↦[S]{q} f))) := by
  subst hw
  iintro H
  iapply (wp_load_rect 𝒱₀ (c : Thread nD τ) none Set.univ hS) $$ H
  iintro H
  iapply (run_ret (c := c) .rfl)
  isplitr; · ipureintro; rfl
  iexact H

theorem store_at {w : r.shape.Idx → Elt F .bf16} {hx hm} {S : Finset (Idx (m.view.loc (c : Thread nD τ)))}
    {f : Buf (Elt F) (m.view.loc (c : Thread nD τ))} (hS : (m.access r).set ⊆ S) :
    (m.view.loc (c : Thread nD τ) ↦[S]{fullShare} f : sProp 𝕄)
      ⊢ run c (Prog.lift (.store m r w Finset.univ hx hm)) (fun _ => (m.view.loc (c : Thread nD τ) ↦[S]{fullShare} ((m.access r).write (Elt F) f w Finset.univ))) := by
  iintro H
  iapply (wp_store 𝒱₀ (c : Thread nD τ) none Set.univ (m := m) (r := r) (S := S) (f := f) hS) $$ H
  iintro H
  iapply (run_ret (c := c) (a := PUnit.unit) .rfl)
  iexact H

end Mem

variable {o : Fin 3 → ℕ} {s : ℕ} (ho : o = ![s, 0, 0])
include ho

theorem load_loc (inb : ∀ a, o a + S1x128x8192.size a ≤ S2x128x8192.size a) {hl} {q : PosShare TreeShare} {g : VX F} :
    locP c s q (lay g) ⊢ run c (Prog.lift (.load locM (Rect.unit (s := S2x128x8192) o S1x128x8192.size inb).toLoadRect hl))
      (fun x => iprop(⌜x = g⌝ ∗ locP c s q (lay g))) :=
  load_at c ((View.set_slice_whole _ _).trans (set_slot o s ho inb)).subset (funext fun _ => lay_emb g o s ho inb _)
theorem load_oth (inb : ∀ a, o a + S1x128x8192.size a ≤ S2x128x8192.size a) {hl} {g : VX F} :
    othP c s (lay g) ⊢ run c (Prog.lift (.load othM (Rect.unit (s := S2x128x8192) o S1x128x8192.size inb).toLoadRect hl))
      (fun x => iprop(⌜x = g⌝ ∗ othP c s (lay g))) :=
  load_at c ((View.set_slice_whole _ _).trans (set_slot o s ho inb)).subset (funext fun _ => lay_emb g o s ho inb _)
theorem load_xr (inb : ∀ a, o a + S1x128x8192.size a ≤ S4x128x8192.size a) {hl} {q : PosShare TreeShare} {g : VX F} :
    xrP c s q (lay g) ⊢ run c (Prog.lift (.load xrM (Rect.unit (s := S4x128x8192) o S1x128x8192.size inb).toLoadRect hl))
      (fun x => iprop(⌜x = g⌝ ∗ xrP c s q (lay g))) :=
  load_at c ((View.set_slice_whole _ _).trans (set_slot o s ho inb)).subset (funext fun _ => lay_emb g o s ho inb _)
theorem load_yr (inb : ∀ a, o a + S1x128x8192.size a ≤ S4x128x8192.size a) {hl} {g : VX F} :
    yrP c s (lay g) ⊢ run c (Prog.lift (.load yrM (Rect.unit (s := S4x128x8192) o S1x128x8192.size inb).toLoadRect hl))
      (fun x => iprop(⌜x = g⌝ ∗ yrP c s (lay g))) :=
  load_at c ((View.set_slice_whole _ _).trans (set_slot o s ho inb)).subset (funext fun _ => lay_emb g o s ho inb _)

/-- A load of a slot whose contents are not used: any value. -/
theorem peek_loc (inb : ∀ a, o a + S1x128x8192.size a ≤ S2x128x8192.size a) {hl} {g : (Stk 2 8192).Idx → Elt F .bf16} :
    locP c s fullShare g ⊢ run c (Prog.lift (.load locM (Rect.unit (s := S2x128x8192) o S1x128x8192.size inb).toLoadRect hl)) (fun _ => locP c s fullShare g) :=
  (load_at c (w := _) ((View.set_slice_whole _ _).trans (set_slot o s ho inb)).subset rfl).trans (wp_mono _ _ _ fun _ => sep_elim_right)
theorem peek_oth (inb : ∀ a, o a + S1x128x8192.size a ≤ S2x128x8192.size a) {hl} {g : (Stk 2 8192).Idx → Elt F .bf16} :
    othP c s g ⊢ run c (Prog.lift (.load othM (Rect.unit (s := S2x128x8192) o S1x128x8192.size inb).toLoadRect hl)) (fun _ => othP c s g) :=
  (load_at c (w := _) ((View.set_slice_whole _ _).trans (set_slot o s ho inb)).subset rfl).trans (wp_mono _ _ _ fun _ => sep_elim_right)

theorem store_loc (inb : ∀ a, o a + S1x128x8192.size a ≤ S2x128x8192.size a) {hx hm} {f : (Stk 2 8192).Idx → Elt F .bf16} {g : VX F} :
    locP c s fullShare f ⊢ run c (Prog.lift (.store locM (Rect.unit (s := S2x128x8192) o S1x128x8192.size inb) g Finset.univ hx hm)) (fun _ => locP c s fullShare (lay g)) := by
  unfold locP
  rw [← (View.set_slice_whole cc1_scratch0 (Rect.unit (s := S2x128x8192) o S1x128x8192.size inb)).trans (set_slot o s ho inb)]
  exact (store_at c subset_rfl).trans (wp_mono _ _ _ fun _ => Entails.of_eq (pointsTo_congr
    (store_leaves (locM.access (Rect.unit (s := S2x128x8192) o S1x128x8192.size inb)) g f (lay g) fun _ => (lay_emb g o s ho inb _).symm)))
theorem store_oth (inb : ∀ a, o a + S1x128x8192.size a ≤ S2x128x8192.size a) {hx hm} {f : (Stk 2 8192).Idx → Elt F .bf16} {g : VX F} :
    othP c s f ⊢ run c (Prog.lift (.store othM (Rect.unit (s := S2x128x8192) o S1x128x8192.size inb) g Finset.univ hx hm)) (fun _ => othP c s (lay g)) := by
  unfold othP
  rw [← (View.set_slice_whole cc1_scratch1 (Rect.unit (s := S2x128x8192) o S1x128x8192.size inb)).trans (set_slot o s ho inb)]
  exact (store_at c subset_rfl).trans (wp_mono _ _ _ fun _ => Entails.of_eq (pointsTo_congr
    (store_leaves (othM.access (Rect.unit (s := S2x128x8192) o S1x128x8192.size inb)) g f (lay g) fun _ => (lay_emb g o s ho inb _).symm)))

omit ho

/-! ## The two halves of a finished chunk -/

variable {o' : Fin 3 → ℕ} {k : ℕ} (h₁ : o = ![s, 0, 8192 * k]) (h₂ : o' = ![s, 0, 8192 - 8192 * k])

include h₁ in
theorem peek_st (inb : ∀ a, o a + S1x128x8192.size a ≤ S4x128x16384.size a) {hl} {g : (Stk 4 16384).Idx → Elt F .bf16} :
    stP c s g ⊢ run c (Prog.lift (.load stM (Rect.unit (s := S4x128x16384) o S1x128x8192.size inb).toLoadRect hl)) (fun _ => stP c s g) :=
  (load_at c (w := _) ((View.set_slice_whole _ _).subset.trans (set_slot_sub o s _ h₁ inb)) rfl).trans (wp_mono _ _ _ fun _ => sep_elim_right)
include h₁ in
theorem store_st (inb : ∀ a, o a + S1x128x8192.size a ≤ S4x128x16384.size a) {hx hm} {f : (Stk 4 16384).Idx → Elt F .bf16} {g : VX F} :
    stP c s f ⊢ run c (Prog.lift (.store stM (Rect.unit (s := S4x128x16384) o S1x128x8192.size inb) g Finset.univ hx hm))
      (fun _ => stP c s ((stM.access (Rect.unit (s := S4x128x16384) o S1x128x8192.size inb)).write (Elt F) f g Finset.univ)) :=
  store_at c ((View.set_slice_whole _ _).subset.trans (set_slot_sub o s _ h₁ inb))

/-- An element of a slot that is not in one column half is in the other. -/
theorem slot_half {o o' : Fin 3 → ℕ} {s k : ℕ} (hk : k < 2) (h₁ : o = ![s, 0, 8192 * k]) (h₂ : o' = ![s, 0, 8192 * (1 - k)])
    (inb : ∀ a, o a + S1x128x8192.size a ≤ S4x128x16384.size a) (inb' : ∀ a, o' a + S1x128x8192.size a ≤ S4x128x16384.size a)
    {i : (Stk 4 16384).Idx} (hi : i ∈ slot (n := 4) (v := 16384) s) (hb : i ∉ (Rect.unit (s := S4x128x16384) o' S1x128x8192.size inb').set) :
    i ∈ (Rect.unit (s := S4x128x16384) o S1x128x8192.size inb).set := by
  have hi0 : (i 0).val = s := (Finset.mem_filter.mp hi).2
  have hi1 : (i 1).val < 128 := (i 1).isLt
  have hi2 : (i 2).val < 16384 := (i 2).isLt
  subst h₁ h₂
  rw [Rect.mem_set_unit] at hb ⊢
  by_contra hne
  refine hb fun ax => ?_
  have h0 := not_forall.mp hne
  obtain ⟨ax', h0⟩ := h0
  fin_cases ax <;> fin_cases ax' <;> simp at h0 ⊢ <;> omega

include h₁ h₂ in
/-- Both halves stored, the slot holds the two chunks side by side. -/
theorem filled (hk : k < 2) (inb : ∀ a, o a + S1x128x8192.size a ≤ S4x128x16384.size a) (inb' : ∀ a, o' a + S1x128x8192.size a ≤ S4x128x16384.size a)
    {f : (Stk 4 16384).Idx → Elt F .bf16} {a b : VX F} :
    stP c s ((stM.access (Rect.unit (s := S4x128x16384) o' S1x128x8192.size inb')).write (Elt F)
        ((stM.access (Rect.unit (s := S4x128x16384) o S1x128x8192.size inb)).write (Elt F) f a Finset.univ) b Finset.univ)
      ⊢ stP c s (lay (side k a b)) := by
  have h₂' : o' = ![s, 0, 8192 * (1 - k)] := h₂.trans (by rw [Nat.mul_sub])
  unfold stP
  refine Entails.of_eq (pointsTo_congr fun i hi => ?_)
  have hi0 : (i 0).val = s := (Finset.mem_filter.mp hi).2
  by_cases hb : i ∈ (stM.access (Rect.unit (s := S4x128x16384) o' S1x128x8192.size inb')).set
  · refine store_leaves (Val := Elt F) (stM.access (Rect.unit (s := S4x128x16384) o' S1x128x8192.size inb')) b _ (lay (side k a b)) (fun y => ?_) i hb
    refine Eq.trans ?_ (side_emb k a b o' s (1 - k) h₂' inb' y).symm
    rw [if_neg (by omega)]
  · refine (View.write_of_not_mem (v := stM.access (Rect.unit (s := S4x128x16384) o' S1x128x8192.size inb')) _ _ _ hb).trans ?_
    refine store_leaves (Val := Elt F) (stM.access (Rect.unit (s := S4x128x16384) o S1x128x8192.size inb)) a _ (lay (side k a b)) (fun y => ?_) i ?_
    · refine Eq.trans ?_ (side_emb k a b o s k h₁ inb y).symm
      rw [if_pos rfl]
    · rw [View.set_slice_whole] at hb ⊢
      exact slot_half hk h₁ h₂' inb inb' hi hb

end Cert.Exchange
-- ==== Proof.State.lean ====
/-
  The closed forms of the printed conditions, offsets and semaphores, and the state that a step takes and leaves.
-/
module

public import proofs.«01_k».proof.Proof.Local

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The printed conditions and offsets -/

section Closed

variable (i : grid1.Coords)

theorem cond1_iff : k1_cond1 i = 1#1 ↔ (i 0).val = 0 := by revert i; decide
theorem cond2_iff : k1_cond2 i = 1#1 ↔ (i 0).val < 8 := by revert i; decide
theorem cond3_iff : (i 0).val < 8 → (k1_cond3 i = 1#1 ↔ 2 ≤ (i 0).val) := by revert i; decide
theorem cond4_iff : (Scalar.cmpi .ne (Scalar.extui (Scalar.cmpi .sge (BitVec.ofNat 32 (i 0).val) 4#32) : BitVec 32) 0#32 = 1#1) ↔ 4 ≤ (i 0).val := by
  revert i; decide
theorem cond7_iff : (i 0).val < 8 → (k1_cond7 i = 1#1 ↔ 2 ≤ (i 0).val) := by revert i; decide
theorem cond8_iff : (i 0).val < 8 → (k1_cond8 i = 1#1 ↔ (i 0).val ≤ 5) := by revert i; decide
theorem cond10_iff : (i 0).val < 8 → (k1_cond10 i = 1#1 ↔ 2 ≤ (i 0).val) := by revert i; decide
theorem cond11_iff : k1_cond11 i = 1#1 ↔ 1 ≤ (i 0).val ∧ (i 0).val ≤ 8 := by revert i; decide
theorem cond12_iff : 1 ≤ (i 0).val ∧ (i 0).val ≤ 8 → (k1_cond12 i = 1#1 ↔ 3 ≤ (i 0).val) := by revert i; decide
theorem cond13_iff : 1 ≤ (i 0).val ∧ (i 0).val ≤ 8 → (k1_cond13 i = 1#1 ↔ (i 0).val ≤ 4) := by revert i; decide
theorem cond14_iff : (Scalar.cmpi .ne (Scalar.extui (Scalar.cmpi .eq (BitVec.ofNat 32 (i 0).val) 9#32) : BitVec 32) 0#32 = 1#1) ↔ (i 0).val = 9 := by
  revert i; decide
theorem cond5_iff (c : Dev nD) : k1_cond5 c = 1#1 ↔ c.val % 2 = 0 := by revert c; decide
theorem cond6_iff (c : Dev nD) : k1_cond6 c = 1#1 ↔ c.val % 2 = 1 := by revert c; decide

theorem dev1_eq (c : Dev nD) {h} : (⟨k1_dev1 c, h⟩ : Dev nD) = xn c := by revert c; decide
theorem dev2_eq (c : Dev nD) {h} : (⟨k1_dev2 c, h⟩ : Dev nD) = yn c := by revert c; decide
theorem dev3_eq (c : Dev nD) {h} : (⟨k1_dev3 c, h⟩ : Dev nD) = xn c := by revert c; decide
theorem dev4_eq (c : Dev nD) {h} : (⟨k1_dev4 c, h⟩ : Dev nD) = xn c := by revert c; decide
theorem dev5_eq (c : Dev nD) {h} : (⟨k1_dev5 c, h⟩ : Dev nD) = yn c := by revert c; decide
theorem dev6_eq (c : Dev nD) {h} : (⟨k1_dev6 c, h⟩ : Dev nD) = yn c := by revert c; decide

theorem off1_eq : k1_off1 i = ![(i 0).val % 2] := by revert i; decide
theorem off4_eq : k1_off4 i = ![(i 0).val % 2, 0, 0] := by revert i; decide
theorem off5_eq : k1_off5 i = ![(i 0).val % 2, 0, 0] := by revert i; decide
theorem off6_eq : k1_off6 i = ![(i 0).val % 2] := by revert i; decide
theorem off7_eq4 : k1_off7 i 4#32 = ![(i 0).val % 4] := by revert i; decide
theorem off7_eq2 : k1_off7 i 2#32 = ![(i 0).val % 2] := by revert i; decide
theorem off8_eq : k1_off8 i = ![(i 0).val % 4, 0, 0] := by revert i; decide
theorem off9_eq : k1_off9 i = ![(i 0).val % 2, 0, 0] := by revert i; decide
theorem off10_eq : k1_off10 i = ![((i 0).val + 2) % 4] := by revert i; decide
theorem off12_eq : k1_off12 i = ![(i 0).val % 2] := by revert i; decide
theorem off14_eq : k1_off14 i = ![(i 0).val % 2, 0, 0] := by revert i; decide
theorem off15_eq : k1_off15 i = ![(i 0).val % 4, 0, 0] := by revert i; decide
theorem off16_eq (c : Dev nD) : k1_off16 i c = ![(i 0).val % 2, 0, 8192 * (c.val / 2)] := by revert i c; decide
theorem off17_eq (c : Dev nD) : k1_off17 i c = ![(i 0).val % 2, 0, 8192 - 8192 * (c.val / 2)] := by revert i c; decide
theorem off18_eq (c : Dev nD) : (i 0).val < 8 → k1_off18 i c = ![128 * ownR c (i 0).val, 0] := by revert i c; decide
theorem off19_eq : k1_off19 i = ![(i 0).val % 2, 0, 0] := by revert i; decide
theorem off20_eq : 1 ≤ (i 0).val → k1_off20 i = ![((i 0).val - 1) % 4] := by revert i; decide
theorem off22_eq : 1 ≤ (i 0).val → k1_off22 i = ![2 + ((i 0).val - 1) % 2] := by revert i; decide
theorem off24_eq : 1 ≤ (i 0).val → k1_off24 i = ![((i 0).val - 1) % 2, 0, 0] := by revert i; decide
theorem off25_eq : 1 ≤ (i 0).val → k1_off25 i = ![((i 0).val - 1) % 4, 0, 0] := by revert i; decide
theorem off26_eq (c : Dev nD) : 1 ≤ (i 0).val → k1_off26 i c = ![2 + ((i 0).val - 1) % 2, 0, 8192 * (c.val / 2)] := by revert i c; decide
theorem off27_eq (c : Dev nD) : 1 ≤ (i 0).val → k1_off27 i c = ![2 + ((i 0).val - 1) % 2, 0, 8192 - 8192 * (c.val / 2)] := by revert i c; decide
theorem off28_eq : 1 ≤ (i 0).val → k1_off28 i = ![2 + ((i 0).val - 1) % 2] := by revert i; decide
theorem off29_eq (c : Dev nD) : 1 ≤ (i 0).val ∧ (i 0).val ≤ 8 → k1_off29 i c = ![128 * othR c ((i 0).val - 1), 0] := by revert i c; decide
theorem off30_eq : 1 ≤ (i 0).val → k1_off30 i = ![2 + ((i 0).val - 1) % 2, 0, 0] := by revert i; decide

end Closed

/-- One semaphore of an array of them. -/
theorem sem_of {b k N : ℕ} {m : ℕ} (hb : b + (⟨1, ![N]⟩ : Shape).numel ≤ m) {o : Fin 1 → ℕ} (ho : o = ![k]) {inb : ∀ a, o a + S1.size a ≤ (⟨1, ![N]⟩ : Shape).size a}
    {hq : S1.Squeezes S_} (hlt : b + k < m) :
    (((SemArray.consecutive b (⟨1, ![N]⟩ : Shape) hb).slice (Rect.unit (s := ⟨1, ![N]⟩) o S1.size inb)).squeeze S_ hq).sem = (⟨b + k, hlt⟩ : Fin m) := by
  subst ho
  refine Fin.ext ?_
  show b + ((⟨1, ![N]⟩ : Shape).rowMajor _).val = b + k
  rw [Shape.rowMajor_val_one]
  show b + (k + 1 * _) = b + k
  exact congrArg (b + ·) (congrArg (k + 1 * ·) (Nat.lt_one_iff.mp (Fin.isLt (n := 1) _)))

theorem sem5 {n : ℕ} {o : Fin 1 → ℕ} (ho : o = ![n % 2]) {inb} {hq : S1.Squeezes S_} :
    ((cc1_scratch5.slice (Rect.unit (s := S2) o S1.size inb)).squeeze S_ hq).sem = xsS n := sem_of _ ho (show 8 + n % 2 < 26 by omega)
theorem sem6 {n : ℕ} {o : Fin 1 → ℕ} (ho : o = ![n % 4]) {inb} {hq : S1.Squeezes S_} :
    ((cc1_scratch6.slice (Rect.unit (s := S4) o S1.size inb)).squeeze S_ hq).sem = xrS n := sem_of _ ho (show 10 + n % 4 < 26 by omega)
theorem sem7 {n : ℕ} {o : Fin 1 → ℕ} (ho : o = ![n % 4]) {inb} {hq : S1.Squeezes S_} :
    ((cc1_scratch7.slice (Rect.unit (s := S4) o S1.size inb)).squeeze S_ hq).sem = ysS n := sem_of _ ho (show 14 + n % 4 < 26 by omega)
theorem sem8 {n : ℕ} {o : Fin 1 → ℕ} (ho : o = ![n % 4]) {inb} {hq : S1.Squeezes S_} :
    ((cc1_scratch8.slice (Rect.unit (s := S4) o S1.size inb)).squeeze S_ hq).sem = yrS n := sem_of _ ho (show 18 + n % 4 < 26 by omega)
theorem sem9 {n : ℕ} {o : Fin 1 → ℕ} (ho : o = ![n % 2]) {inb} {hq : S1.Squeezes S_} :
    ((cc1_scratch9.slice (Rect.unit (s := S4) o S1.size inb)).squeeze S_ hq).sem = stS n := sem_of _ ho (show 22 + n % 2 < 26 by omega)
theorem sem9' {n : ℕ} {o : Fin 1 → ℕ} (ho : o = ![2 + n % 2]) {inb} {hq : S1.Squeezes S_} :
    ((cc1_scratch9.slice (Rect.unit (s := S4) o S1.size inb)).squeeze S_ hq).sem = suS n :=
  (sem_of _ ho (show 22 + (2 + n % 2) < 26 by omega)).trans (Fin.ext (show 22 + (2 + n % 2) = 24 + n % 2 by omega))
theorem sem10 : cc1_scratch10.sem = xcS := by decide
theorem sem11 : cc1_scratch11.sem = ycS := by decide
theorem semB : (SemArray.scalar (sig.barrier 0 rfl) : Sems sig S_).sem = bS := by decide

/-! ## The state -/

variable (lg : Dev nD → S2x1024x8192.Idx → Elt F .bf16) (c : Dev nD) (n : ℕ)

/-- The slot of the own chunk `n`: free at first, later lent to the chunk sent two steps before. -/
def LocFree : sProp 𝕄 := iprop(locA (F := F) c n ∗ pos (xsC c n) (n / 2))
def LocSent : sProp 𝕄 := iprop(locH lg c n fullShare.right ∗ cred (tallyAt (xsC c n) 0 NX) ∗ pos (xsC c n) (n / 2))
def LocAt : sProp 𝕄 := if n < 2 then LocFree (F := F) c n else LocSent lg c (n - 2)

/-- The slot of the chunk received over the column link and sent on over the row link. -/
def YSent : sProp 𝕄 := iprop(cred (tallyAt (ysC c n) 0 NX) ∗ xrH lg c n fullShare.right ∗ pos (ysC c n) (n / 4))
def YFl : sProp 𝕄 := if n < 2 then pos (ysC c (n + 2)) 0 else YSent lg c (n - 2)

/-- The slot of the finished chunk `n` of the own rows, and of the other rows. -/
def StAt : sProp 𝕄 :=
  if n < 2 then iprop(stA (F := F) c n ∗ pos (stC c n) (n / 2)) else iprop(cred (tallyAt (stC c (n - 2)) 0 NO) ∗ pos (stC c (n - 2)) ((n - 2) / 2))
def St2At : sProp 𝕄 :=
  if n < 2 then iprop(suA (F := F) c n ∗ pos (suC c n) (n / 2)) else iprop(cred (tallyAt (suC c (n - 2)) 0 NO) ∗ pos (suC c (n - 2)) ((n - 2) / 2))

/-- The credits received so far before step `n`. -/
def XCp : sProp 𝕄 := iprop(∃ T, ⌜n - 4 + (Finset.range 4 \ T).card ≤ 4⌝ ∗ atPos ER (xcC c) 0 T (n - 4))
def YCp : sProp 𝕄 := iprop(∃ T, ⌜n - 4 + (Finset.range 4 \ T).card ≤ 4⌝ ∗ atPos ER (ycC c) 0 T (n - 4))

/-- The right to send chunk `n` into the neighbour's slot. -/
def XRight : sProp 𝕄 := iprop(xrA (F := F) (xn c) n ∗ reached ER (xrC (xn c) n) (n / 4))
def YRight : sProp 𝕄 := iprop(yrA (F := F) (yn c) n ∗ reached ER (yrC (yn c) n) (n / 4))

/-- `P` under a condition. -/
def only (p : Prop) [Decidable p] (P : sProp 𝕄) : sProp 𝕄 := if p then P else iprop(emp)

theorem only_pos {p : Prop} [Decidable p] (h : p) (P : sProp 𝕄) : only p P = P := if_pos h
theorem only_neg {p : Prop} [Decidable p] (h : ¬ p) (P : sProp 𝕄) : only p P = iprop(emp) := if_neg h

theorem ch_own {n : ℕ} (h : n < 8) : ch lg c (ownR c n) = chunk (lg c) (c.val % 2) n := by
  unfold ch ownR
  rw [show (n + 8 * (c.val % 2)) / 8 = c.val % 2 by omega, show (n + 8 * (c.val % 2)) % 8 = n by omega]
theorem ch_oth {n : ℕ} (h : n < 8) : ch lg c (othR c n) = chunk (lg c) (1 - c.val % 2) n := by
  unfold ch othR
  rw [show (n + 8 * (1 - c.val % 2)) / 8 = 1 - c.val % 2 by omega, show (n + 8 * (1 - c.val % 2)) % 8 = n by omega]

/-- A conditional block whose two ways leave the same. -/
theorem run_if {p : Prop} [Decidable p] {α : Type} {A : p → Prog (TpuEff nD τ sig (Elt F) Λ₀ .tc) α} {B : ¬ p → Prog (TpuEff nD τ sig (Elt F) Λ₀ .tc) α}
    {P : sProp 𝕄} {Q : α → sProp 𝕄} (hA : ∀ h, P ⊢ run c (A h) Q) (hB : ∀ h, P ⊢ run c (B h) Q) : P ⊢ run c (dite p A B) Q := by
  split
  · exact hA _
  · exact hB _

theorem share_loc {n : ℕ} : locH lg c n fullShare ⊣⊢ iprop(locH lg c n fullShare.left ∗ locH lg c n fullShare.right) :=
  pointsTo_share (PosShare.mem_left_op_right fullShare)
theorem share_xr {n : ℕ} : xrH lg c n fullShare ⊣⊢ iprop(xrH lg c n fullShare.left ∗ xrH lg c n fullShare.right) :=
  pointsTo_share (PosShare.mem_left_op_right fullShare)

theorem run_cond {p : Prop} [Decidable p] {β : Type} {P R : sProp 𝕄} {A : p → Prog (TpuEff nD τ sig (Elt F) Λ₀ .tc) β} {J : Prog (TpuEff nD τ sig (Elt F) Λ₀ .tc) β}
    {Q : β → sProp 𝕄} (hA : ∀ h, P ⊢ iprop((R -∗ run c J Q) -∗ run c (A h) Q)) (hB : ¬ p → P ⊢ R) :
    P ⊢ iprop((R -∗ run c J Q) -∗ run c (dite p A (fun _ => J)) Q) := by
  by_cases h : p
  · rw [dif_pos h]; exact hA h
  · rw [dif_neg h]
    iintro H Hk
    iapply Hk
    iapply (hB h); iexact H

/-! ## The waits, by what they give back -/

variable {lg c n} {K : GSem nD τ sig → ℕ} {m b : ℕ} {O : CellTallies nD τ sig ℕ} {sp sp' : Space} {sh sh' : Shape} {e e' : EltTy}
  {src : Memref sig .tc sp sh e} {dst : Memref sig .tc sp' sh' e'} {sem : DmaSem sig} {h1 : src.view.WordExact} {h2 : dst.view.WordExact}

theorem pos_xs : (pos (xsC c m) (m / 2 + 1) : sProp 𝕄) = pos (xsC c (m + 2)) ((m + 2) / 2) := by
  rw [xsC, xsC, xsS_add, show (m + 2) / 2 = m / 2 + 1 by omega]
theorem pos_xr : (pos (xrC c m) (m / 4 + 1) : sProp 𝕄) = pos (xrC c (m + 4)) ((m + 4) / 4) := by
  rw [xrC, xrC, xrS_add, show (m + 4) / 4 = m / 4 + 1 by omega]
theorem pos_ys : (pos (ysC c m) (m / 4 + 1) : sProp 𝕄) = pos (ysC c (m + 4)) ((m + 4) / 4) := by
  rw [ysC, ysC, ysS_add, show (m + 4) / 4 = m / 4 + 1 by omega]
theorem pos_yr : (pos (yrC c m) (m / 4 + 1) : sProp 𝕄) = pos (yrC c (m + 4)) ((m + 4) / 4) := by
  rw [yrC, yrC, yrS_add, show (m + 4) / 4 = m / 4 + 1 by omega]
theorem pos_st : (pos (stC c m) (m / 2 + 1) : sProp 𝕄) = pos (stC c (m + 2)) ((m + 2) / 2) := by
  rw [stC, stC, stS_add, show (m + 2) / 2 = m / 2 + 1 by omega]
theorem pos_su : (pos (suC c m) (m / 2 + 1) : sProp 𝕄) = pos (suC c (m + 2)) ((m + 2) / 2) := by
  rw [suC, suC, suS_add, show (m + 2) / 2 = m / 2 + 1 by omega]

theorem locA_add : locA (F := F) c (m + 2) = locA c m := by unfold locA; rw [Nat.add_mod_right]
theorem stA_add : stA (F := F) c (m + 2) = stA c m := by unfold stA; rw [Nat.add_mod_right]
theorem suA_add : suA (F := F) c (m + 2) = suA c m := by unfold suA; rw [Nat.add_mod_right]

/-- A rule used beside a frame. -/
theorem run_use {α : Type} {p : Prog (TpuEff nD τ sig (Elt F) Λ₀ .tc) α} {P P' X : sProp 𝕄} {R Q : α → sProp 𝕄}
    (h : P ⊢ run c p R) (hP : P' ⊢ iprop(P ∗ X)) (hR : ∀ x, iprop(R x ∗ X) ⊢ Q x) : P' ⊢ run c p Q :=
  hP.trans ((sep_mono_left h).trans ((wp_frame_r _ _ _).trans (wp_mono _ _ _ hR)))

theorem locH_any : locH lg c m fullShare ⊢ locA c m := by unfold locH locA; exact exists_intro _
theorem xrH_any : xrH lg c m fullShare ⊢ xrA c m := by unfold xrH xrA; exact exists_intro _

theorem wait_xs (hm : m < 8) (hO : Above 0 O) (hsem : sem = xsS m) (hN : dst.view.dmaCredit = NX) :
    iprop(pers lg K ∗ LocSent lg c m ∗ owe c O)
      ⊢ run c (Prog.lift (.waitDma2 sem src dst h1 h2)) (fun _ => iprop(LocFree (F := F) c (m + 2) ∗ owe c O)) := by
  refine run_use (wait_dma lg c (R := m / 2) (ι := 0) (K := K) (show 8 ≤ 8 + m % 2 by omega) (duties_xs lg c hm) (amount_x lg c _ _ _ (show 8 + m % 2 < 22 by omega))
    (payload_xs lg c m) (by omega) (by exact le_of_eq (lv_xs c m 0)) hO hsem hN) (X := locH lg c m fullShare.right) ?_ fun _ => ?_
  · unfold LocSent
    iintro ⟨#Hp, ⟨Hl, Hc, Hpos⟩, HO⟩
    isplitr [Hl]
    · isplitr; · iexact Hp
      isplitl [Hc]; · iexact Hc
      isplitl [HO] <;> iassumption
    iexact Hl
  · unfold LocFree
    rw [locA_add, ← pos_xs]
    iintro ⟨⟨HO, Hpos, Hl⟩, Hr⟩
    isplitr [HO]
    · isplitl [Hl Hr]
      · iapply (locH_any (lg := lg) (c := c) (m := m)); iapply (share_loc lg c).2; isplitl [Hl] <;> iassumption
      iexact Hpos
    iexact HO

theorem wait_ys (hm : m < 8) (hO : Above 0 O) (hsem : sem = ysS m) (hN : dst.view.dmaCredit = NX) :
    iprop(pers lg K ∗ YSent lg c m ∗ owe c O)
      ⊢ run c (Prog.lift (.waitDma2 sem src dst h1 h2)) (fun _ => iprop(pos (ysC c (m + 4)) ((m + 4) / 4) ∗ xrA (F := F) c m ∗ owe c O)) := by
  refine run_use (wait_dma lg c (R := m / 4) (ι := 0) (K := K) (show 8 ≤ 14 + m % 4 by omega) (duties_ys lg c hm) (amount_x lg c _ _ _ (show 14 + m % 4 < 22 by omega))
    (payload_ys lg c m) (by omega) (by exact le_of_eq (lv_ys c m 0)) hO hsem hN) (X := xrH lg c m fullShare.right) ?_ fun _ => ?_
  · unfold YSent
    iintro ⟨#Hp, ⟨Hc, Hl, Hpos⟩, HO⟩
    isplitr [Hl]
    · isplitr; · iexact Hp
      isplitl [Hc]; · iexact Hc
      isplitl [HO] <;> iassumption
    iexact Hl
  · rw [← pos_ys]
    iintro ⟨⟨HO, Hpos, Hl⟩, Hr⟩
    isplitl [Hpos]; · iexact Hpos
    isplitl [Hl Hr]
    · iapply (xrH_any (lg := lg) (c := c) (m := m)); iapply (share_xr lg c).2; isplitl [Hl] <;> iassumption
    iexact HO

theorem wait_st (hm : m < 8) (hO : Above 0 O) (hsem : sem = stS m) (hN : dst.view.dmaCredit = NO) :
    iprop(pers lg K ∗ (cred (tallyAt (stC c m) 0 NO) ∗ pos (stC c m) (m / 2)) ∗ owe c O)
      ⊢ run c (Prog.lift (.waitDma2 sem src dst h1 h2))
        (fun _ => iprop((stA (F := F) c (m + 2) ∗ pos (stC c (m + 2)) ((m + 2) / 2)) ∗ outH lg c (ownR c m) ∗ owe c O)) := by
  refine run_use (wait_dma lg c (R := m / 2) (ι := 0) (K := K) (show 8 ≤ 22 + m % 2 by omega) (duties_st lg c hm) (amount_o lg c _ _ _ (show 22 ≤ 22 + m % 2 by omega))
    (payload_st lg c m) (by omega) (by exact le_of_eq (lv_st c m 0)) hO hsem hN) (X := iprop(emp)) ?_ fun _ => ?_
  · iintro ⟨#Hp, ⟨Hc, Hpos⟩, HO⟩
    isplitl
    · isplitr; · iexact Hp
      isplitl [Hc]; · iexact Hc
      isplitl [HO] <;> iassumption
    iempintro
  · rw [← pos_st, stA_add]; unfold stPay
    iintro ⟨⟨HO, Hpos, ⟨Hout, Hst⟩⟩, -⟩
    isplitl [Hpos Hst]; · isplitl [Hst] <;> iassumption
    isplitl [Hout] <;> iassumption

theorem wait_su (hm : m < 8) (hO : Above 0 O) (hsem : sem = suS m) (hN : dst.view.dmaCredit = NO) :
    iprop(pers lg K ∗ (cred (tallyAt (suC c m) 0 NO) ∗ pos (suC c m) (m / 2)) ∗ owe c O)
      ⊢ run c (Prog.lift (.waitDma2 sem src dst h1 h2))
        (fun _ => iprop((suA (F := F) c (m + 2) ∗ pos (suC c (m + 2)) ((m + 2) / 2)) ∗ outH lg c (othR c m) ∗ owe c O)) := by
  refine run_use (wait_dma lg c (R := m / 2) (ι := 0) (K := K) (show 8 ≤ 24 + m % 2 by omega) (duties_su lg c hm) (amount_o lg c _ _ _ (show 22 ≤ 24 + m % 2 by omega))
    (payload_su lg c m) (by omega) (by exact le_of_eq (lv_su c m 0)) hO hsem hN) (X := iprop(emp)) ?_ fun _ => ?_
  · iintro ⟨#Hp, ⟨Hc, Hpos⟩, HO⟩
    isplitl
    · isplitr; · iexact Hp
      isplitl [Hc]; · iexact Hc
      isplitl [HO] <;> iassumption
    iempintro
  · rw [← pos_su, suA_add]; unfold suPay
    iintro ⟨⟨HO, Hpos, ⟨Hout, Hst⟩⟩, -⟩
    isplitl [Hpos Hst]; · isplitl [Hst] <;> iassumption
    isplitl [Hout] <;> iassumption

theorem wait_xr (hm : m < 8) (hO : Above (10 * m + 2) O) (hsem : sem = xrS m) (hN : dst.view.dmaCredit = NX) :
    iprop(pers lg K ∗ cred (tallyAt (xrC c m) m NX) ∗ pos (xrC c m) (m / 4) ∗ owe c O)
      ⊢ run c (Prog.lift (.waitDma2 sem src dst h1 h2))
        (fun _ => iprop(pos (xrC c (m + 4)) ((m + 4) / 4) ∗ xrH lg c m fullShare ∗ xRide (F := F) (xn c) m ∗ owe c O)) := by
  refine run_use (wait_dma lg c (R := m / 4) (ι := m) (K := K) (show 8 ≤ 10 + m % 4 by omega) (duties_xr lg c hm) (amount_x lg c _ _ _ (show 10 + m % 4 < 22 by omega))
    ((payload_xr lg c m).trans (xrPay_eq lg c m)) (by omega) (by exact le_of_eq (lv_xr c m m)) hO hsem hN) (X := iprop(emp)) ?_ fun _ => ?_
  · iintro ⟨#Hp, Hc, Hpos, HO⟩
    isplitl
    · isplitr; · iexact Hp
      isplitl [Hc]; · iexact Hc
      isplitl [HO] <;> iassumption
    iempintro
  · rw [← pos_xr]
    iintro ⟨⟨HO, Hpos, ⟨Hx, Hr⟩⟩, -⟩
    isplitl [Hpos]; · iexact Hpos
    isplitl [Hx]; · iexact Hx
    isplitl [Hr] <;> iassumption

theorem wait_yr (hm : m < 8) (hO : Above (10 * m + 4) O) (hsem : sem = yrS m) (hN : dst.view.dmaCredit = NX) :
    iprop(pers lg K ∗ cred (tallyAt (yrC c m) m NX) ∗ pos (yrC c m) (m / 4) ∗ owe c O)
      ⊢ run c (Prog.lift (.waitDma2 sem src dst h1 h2))
        (fun _ => iprop(pos (yrC c (m + 4)) ((m + 4) / 4) ∗ yrH lg c m ∗ yRide (F := F) (yn c) m ∗ owe c O)) := by
  refine run_use (wait_dma lg c (R := m / 4) (ι := m) (K := K) (show 8 ≤ 18 + m % 4 by omega) (duties_yr lg c hm) (amount_x lg c _ _ _ (show 18 + m % 4 < 22 by omega))
    ((payload_yr lg c m).trans (yrPay_eq lg c m)) (by omega) (by exact le_of_eq (lv_yr c m m)) hO hsem hN) (X := iprop(emp)) ?_ fun _ => ?_
  · iintro ⟨#Hp, Hc, Hpos, HO⟩
    isplitl
    · isplitr; · iexact Hp
      isplitl [Hc]; · iexact Hc
      isplitl [HO] <;> iassumption
    iempintro
  · rw [← pos_yr]
    iintro ⟨⟨HO, Hpos, ⟨Hx, Hr⟩⟩, -⟩
    isplitl [Hpos]; · iexact Hpos
    isplitl [Hx]; · iexact Hx
    isplitl [Hr] <;> iassumption

/-- The column credit and the row credit, awaited from step four on. -/
theorem wait_xc (h4 : 4 ≤ n) (hn : n < 8) (hO : Above (10 * n) O) {s' : Sem sig} (hs : s' = xcS) :
    iprop(pers lg K ∗ cred (tallyAt (xcC c) (n - 2) 1) ∗ XCp (F := F) c n ∗ owe c O)
      ⊢ run c (semWaitWord s' 1#32) (fun _ => iprop(XCp (F := F) c (n + 1) ∗ owe c O)) := by
  refine run_use (await lg c (ι := n - 2) (m := n - 4) (K := K) hs (mem_xc c) (by omega) (le_of_eq (lv_xc c (n - 2))) (hO.mono (by omega))) (X := iprop(emp)) ?_ fun _ => ?_
  · unfold XCp
    iintro ⟨#Hp, Hc, ⟨%T, -, Hat⟩, HO⟩
    isplitl
    · isplitr; · iexact Hp
      isplitl [Hc]; · iexact Hc
      isplitl [HO]; · iexact HO
      iexists T; iexact Hat
    iempintro
  · unfold XCp
    rw [show n + 1 - 4 = n - 4 + 1 by omega]
    iintro ⟨⟨HO, ⟨%T, %hT, Hat⟩⟩, -⟩
    isplitl [Hat]
    · iexists T
      isplitr; · ipureintro; exact hT
      iexact Hat
    iexact HO
theorem wait_yc (h4 : 4 ≤ n) (hn : n < 8) (hO : Above (10 * n) O) {s' : Sem sig} (hs : s' = ycS) :
    iprop(pers lg K ∗ cred (tallyAt (ycC c) (n - 3) 1) ∗ YCp (F := F) c n ∗ owe c O)
      ⊢ run c (semWaitWord s' 1#32) (fun _ => iprop(YCp (F := F) c (n + 1) ∗ owe c O)) := by
  refine run_use (await lg c (ι := n - 3) (m := n - 4) (K := K) hs (mem_yc c) (by omega) (le_of_eq (lv_yc c (n - 3))) (hO.mono (by omega))) (X := iprop(emp)) ?_ fun _ => ?_
  · unfold YCp
    iintro ⟨#Hp, Hc, ⟨%T, -, Hat⟩, HO⟩
    isplitl
    · isplitr; · iexact Hp
      isplitl [Hc]; · iexact Hc
      isplitl [HO]; · iexact HO
      iexists T; iexact Hat
    iempintro
  · unfold YCp
    rw [show n + 1 - 4 = n - 4 + 1 by omega]
    iintro ⟨⟨HO, ⟨%T, %hT, Hat⟩⟩, -⟩
    isplitl [Hat]
    · iexists T
      isplitr; · ipureintro; exact hT
      iexact Hat
    iexact HO

theorem XCp_early (h : n < 4) : XCp (F := F) c (n + 1) = XCp c n := by unfold XCp; rw [show n + 1 - 4 = n - 4 by omega]
theorem YCp_early (h : n < 4) : YCp (F := F) c (n + 1) = YCp c n := by unfold YCp; rw [show n + 1 - 4 = n - 4 by omega]

/-- The credits sent: to the column neighbour in steps two to five, to the row neighbour in steps one to four. -/
theorem give_xc (h2 : 2 ≤ n) (h5 : n ≤ 5) {s' : Sem sig} (hs : s' = xcS) {d' : Dev nD} (hd : d' = xn c) :
    iprop(pers lg K ∗ owe c (O + dueB c n) ∗ dutyTok ER (xcC (xn c)) 0 (n - 2) ∗ reached ER (xcC (xn c)) 0)
      ⊢ run c (semSignalWord d' s' 1#32) (fun _ => owe c O) := by
  have hB : dueB c n = tallyAt (xcC (xn c)) n 1 := if_pos ⟨h2, h5⟩
  rw [hB]
  refine run_use (raise lg c (d := n - 2) (ι := n) (K := K) (O := O) (P := iprop(emp)) hs hd (mem_xc (xn c)) (by rw [duties_xc]; exact Finset.mem_range.mpr (by omega)) .rfl)
    (X := iprop(emp)) ?_ fun _ => ?_
  · iintro ⟨#Hp, HO, Ht, Hr⟩
    isplitl
    · isplitr; · iexact Hp
      isplitr; · iempintro
      isplitl [HO]; · iexact HO
      isplitl [Ht] <;> iassumption
    iempintro
  · iintro ⟨HO, -⟩; iexact HO
theorem give_yc (h1 : 1 ≤ n) (h4 : n ≤ 4) {s' : Sem sig} (hs : s' = ycS) {d' : Dev nD} (hd : d' = yn c) :
    iprop(pers lg K ∗ owe c (O + dueD c n) ∗ dutyTok ER (ycC (yn c)) 0 (n - 1) ∗ reached ER (ycC (yn c)) 0)
      ⊢ run c (semSignalWord d' s' 1#32) (fun _ => owe c O) := by
  have hB : dueD c n = tallyAt (ycC (yn c)) n 1 := if_pos ⟨h1, h4⟩
  rw [hB]
  refine run_use (raise lg c (d := n - 1) (ι := n) (K := K) (O := O) (P := iprop(emp)) hs hd (mem_yc (yn c)) (by rw [duties_yc]; exact Finset.mem_range.mpr (by omega)) .rfl)
    (X := iprop(emp)) ?_ fun _ => ?_
  · iintro ⟨#Hp, HO, Ht, Hr⟩
    isplitl
    · isplitr; · iexact Hp
      isplitr; · iempintro
      isplitl [HO]; · iexact HO
      isplitl [Ht] <;> iassumption
    iempintro
  · iintro ⟨HO, -⟩; iexact HO

end Cert.Exchange
-- ==== Proof.First.lean ====
/-
  The first half of a step: chunk `q` is received and sent on, and the finished own chunk is copied out.
-/
module

public import proofs.«01_k».proof.Proof.State

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (lg : Dev nD → S2x1024x8192.Idx → Elt F .bf16) {K : GSem nD τ sig → ℕ} (c : Dev nD) {O : CellTallies nD τ sig ℕ} {n : ℕ}

/-- The two chunks of step `n` in their slots, or the slots still free. -/
def Placed (p : Prop) [Decidable p] (n : ℕ) : sProp 𝕄 :=
  if p then iprop(locH lg c n fullShare ∗ othH lg c n) else iprop(locA (F := F) c n ∗ othA (F := F) c n)

/-- The input block is readable: both halves of chunk `n`. -/
structure Reads {win : Memref sig .tc .vmem S2x128x8192 .bf16} (S : Finset (Idx (win.view.loc (c : Thread nD τ)))) (f : Buf (Elt F) (win.view.loc (c : Thread nD τ)))
    (n : ℕ) : Prop where
  sub : ∀ (k : ℕ) (hk : k < 2) (inb : ∀ a, (![k, 0, 0] : Fin 3 → ℕ) a + S1x128x8192.size a ≤ S2x128x8192.size a),
    (win.access (Rect.unit (s := S2x128x8192) ![k, 0, 0] S1x128x8192.size inb)).set ⊆ S
  val : ∀ (k : ℕ) (hk : k < 2) (inb : ∀ a, (![k, 0, 0] : Fin 3 → ℕ) a + S1x128x8192.size a ≤ S2x128x8192.size a),
    (win.access (Rect.unit (s := S2x128x8192) ![k, 0, 0] S1x128x8192.size inb)).read (Elt F) f = chunk (lg c) k n

variable {lg c}

theorem pay_same (v : VX F) : shapeCast S1x128x8192 (shapeCast S128x8192 v shapeCasts_S1x128x8192_S128x8192) shapeCasts_S128x8192_S1x128x8192 = v := by
  rw [shapeCast_shapeCast]

/-- One half of the input block laid in its slot. -/
theorem lay_loc {win : Memref sig .tc .vmem S2x128x8192 .bf16} {S : Finset (Idx (win.view.loc (c : Thread nD τ)))} {f : Buf (Elt F) (win.view.loc (c : Thread nD τ))}
    {q : PosShare TreeShare} (hR : Reads lg c S f n) {k : ℕ} (hk : k < 2) {w : VX F} (hw : chunk (lg c) k n = w) {pay : VX F → VX F} (hpay : ∀ v, pay v = v)
    {inb : ∀ a, (![k, 0, 0] : Fin 3 → ℕ) a + S1x128x8192.size a ≤ S2x128x8192.size a} {o : Fin 3 → ℕ} (ho : o = ![n % 2, 0, 0])
    {inb' : ∀ a, o a + S1x128x8192.size a ≤ S2x128x8192.size a} {hl hl' hx hm} {β : Type} {J : Prog (TpuEff nD τ sig (Elt F) Λ₀ .tc) β} {Q : β → sProp 𝕄} :
    iprop((win.view.loc (c : Thread nD τ) ↦[S]{q} f) ∗ locA c n)
      ⊢ iprop((((win.view.loc (c : Thread nD τ) ↦[S]{q} f) ∗ locP c (n % 2) fullShare (lay w)) -∗ run c J Q)
        -∗ run c (Prog.lift (.load win (Rect.unit (s := S2x128x8192) ![k, 0, 0] S1x128x8192.size inb).toLoadRect hl) >>= fun v =>
          Prog.lift (.load locM (Rect.unit (s := S2x128x8192) o S1x128x8192.size inb').toLoadRect hl') >>= fun _ =>
          Prog.lift (.store locM (Rect.unit (s := S2x128x8192) o S1x128x8192.size inb') (pay v) Finset.univ hx hm) >>= fun _ => J) Q) := by
  subst hw
  unfold locA
  iintro ⟨Hw, ⟨%g, Hg⟩⟩ Hk
  iapply (run_seq (load_at c (hR.sub k hk inb) (hR.val k hk inb))) $$ Hw
  iintro %v ⟨%hv, Hw⟩
  subst hv
  iapply (run_seq (peek_loc c ho inb')) $$ Hg
  iintro %u Hg
  rw [hpay]
  iapply (run_then (store_loc c ho inb')) $$ Hg
  iintro Hg
  iapply Hk
  isplitl [Hw] <;> iassumption
theorem lay_oth {win : Memref sig .tc .vmem S2x128x8192 .bf16} {S : Finset (Idx (win.view.loc (c : Thread nD τ)))} {f : Buf (Elt F) (win.view.loc (c : Thread nD τ))}
    {q : PosShare TreeShare} (hR : Reads lg c S f n) {k : ℕ} (hk : k < 2) {w : VX F} (hw : chunk (lg c) k n = w) {pay : VX F → VX F} (hpay : ∀ v, pay v = v)
    {inb : ∀ a, (![k, 0, 0] : Fin 3 → ℕ) a + S1x128x8192.size a ≤ S2x128x8192.size a} {o : Fin 3 → ℕ} (ho : o = ![n % 2, 0, 0])
    {inb' : ∀ a, o a + S1x128x8192.size a ≤ S2x128x8192.size a} {hl hl' hx hm} {β : Type} {J : Prog (TpuEff nD τ sig (Elt F) Λ₀ .tc) β} {Q : β → sProp 𝕄} :
    iprop((win.view.loc (c : Thread nD τ) ↦[S]{q} f) ∗ othA c n)
      ⊢ iprop((((win.view.loc (c : Thread nD τ) ↦[S]{q} f) ∗ othP c (n % 2) (lay w)) -∗ run c J Q)
        -∗ run c (Prog.lift (.load win (Rect.unit (s := S2x128x8192) ![k, 0, 0] S1x128x8192.size inb).toLoadRect hl) >>= fun v =>
          Prog.lift (.load othM (Rect.unit (s := S2x128x8192) o S1x128x8192.size inb').toLoadRect hl') >>= fun _ =>
          Prog.lift (.store othM (Rect.unit (s := S2x128x8192) o S1x128x8192.size inb') (pay v) Finset.univ hx hm) >>= fun _ => J) Q) := by
  subst hw
  unfold othA
  iintro ⟨Hw, ⟨%g, Hg⟩⟩ Hk
  iapply (run_seq (load_at c (hR.sub k hk inb) (hR.val k hk inb))) $$ Hw
  iintro %v ⟨%hv, Hw⟩
  subst hv
  iapply (run_seq (peek_oth c ho inb')) $$ Hg
  iintro %u Hg
  rw [hpay]
  iapply (run_then (store_oth c ho inb')) $$ Hg
  iintro Hg
  iapply Hk
  isplitl [Hw] <;> iassumption

/-- The copies of the input, the sends and the waits of the first half of step `n`, up to the send to the column neighbour. -/
theorem part1 {i : grid1.Coords} (hi : (i 0).val = n) (hn : n < 8) {win : Memref sig .tc .vmem S2x128x8192 .bf16} {S : Finset (Idx (win.view.loc (c : Thread nD τ)))}
    {f : Buf (Elt F) (win.view.loc (c : Thread nD τ))} {q : PosShare TreeShare} (hR : Reads lg c S f n) (hO : Above (10 * n) (O + dueA c n))
    {hw ho hloc hoth hxr hyr hst v5 v6 v8 hc} :
    iprop(pers lg K ∗ (win.view.loc (c : Thread nD τ) ↦[S]{q} f) ∗ owe c (O + dueA c n) ∗ LocAt lg c n ∗ othA (F := F) c n ∗ XCp (F := F) c n
        ∗ only (4 ≤ n) (cred (tallyAt (xcC c) (n - 2) 1)) ∗ xRide (F := F) c n ∗ XRight (F := F) c n
        ∗ dutyTok ER (xsC c n) (n / 2) 0 ∗ dutyTok ER (xrC (xn c) n) (n / 4) 0)
      ⊢ run c (k1_part1 (F := F) i win hw outM ho locM hloc othM hoth xrM hxr yrM hyr stM hst cc1_scratch5 cc1_scratch6 cc1_scratch7 cc1_scratch8 cc1_scratch9
          cc1_scratch10 cc1_scratch11 (BitVec.ofNat 32 (i 0).val) c v5 v6 v8 hc)
        (fun _ => iprop((win.view.loc (c : Thread nD τ) ↦[S]{q} f) ∗ owe c O ∗ LocSent lg c n ∗ othH lg c n ∗ XCp (F := F) c (n + 1))) := by
  subst hi
  rw [k1_part1_eq_skeleton]
  unfold k1_part1_skel XRight
  iintro ⟨#Hp, Hw, HO, Hloc, Hoth, Hxc, Hcx, Hride, ⟨Hxr, Hrr⟩, Ht1, Ht2⟩
  -- the own chunk's slot is free
  iapply (run_cond c (P := iprop(pers lg K ∗ LocAt lg c (i 0).val ∗ owe c (O + dueA c (i 0).val)))
    (R := iprop(LocFree (F := F) c (i 0).val ∗ owe c (O + dueA c (i 0).val)))
    (fun h => run_then (by
      obtain ⟨m, hm⟩ : ∃ m, (i 0).val = m + 2 := ⟨(i 0).val - 2, by have := (cond3_iff i hn).mp h; omega⟩
      unfold LocAt
      rw [if_neg (by omega), hm]
      exact wait_xs (m := m) (by omega) (by rw [← hm]; exact hO.mono (by omega)) ((sem5 (n := m) (by rw [off1_eq, hm, Nat.add_mod_right]))) rfl))
    (fun h => by
      unfold LocAt
      rw [if_pos (by have := mt (cond3_iff i hn).mpr h; omega)]
      exact sep_elim_right)) $$ [Hloc HO]
  · isplitr; · iexact Hp
    isplitl [Hloc] <;> iassumption
  iintro ⟨Hloc, HO⟩
  unfold LocFree
  icases Hloc with ⟨Hloc, Hpos⟩
  -- the column neighbour's slot is free
  iapply (run_cond c (P := iprop(pers lg K ∗ only (4 ≤ (i 0).val) (cred (tallyAt (xcC c) ((i 0).val - 2) 1)) ∗ XCp (F := F) c (i 0).val ∗ owe c (O + dueA c (i 0).val)))
    (R := iprop(XCp (F := F) c ((i 0).val + 1) ∗ owe c (O + dueA c (i 0).val)))
    (fun h => run_then (by
      rw [only_pos ((cond4_iff i).mp h)]
      exact wait_xc ((cond4_iff i).mp h) hn hO sem10))
    (fun h => by
      rw [XCp_early (by have := mt (cond4_iff i).mpr h; omega)]
      exact sep_elim_right.trans sep_elim_right)) $$ [Hcx Hxc HO]
  · isplitr; · iexact Hp
    isplitl [Hcx]; · iexact Hcx
    isplitl [Hxc] <;> iassumption
  iintro ⟨Hxc, HO⟩
  -- the input block's halves, by the device's row
  iapply (run_cond c (P := iprop((win.view.loc (c : Thread nD τ) ↦[S]{q} f) ∗ locA (F := F) c (i 0).val ∗ othA (F := F) c (i 0).val))
    (R := iprop((win.view.loc (c : Thread nD τ) ↦[S]{q} f) ∗ Placed lg c (c.val % 2 = 0) (i 0).val))
    (fun h => by
      have h0 := (cond5_iff c).mp h
      unfold Placed
      rw [if_pos h0]
      iintro ⟨Hw, Hl, Ho⟩ Hk
      iapply (lay_loc hR (k := 0) (by omega) (w := ch lg c (ownR c (i 0).val)) (by rw [ch_own lg c hn, h0]) (pay := k1_pay6) pay_same (off4_eq i)) $$ [Hw Hl]
      · isplitl [Hw] <;> iassumption
      iintro ⟨Hw, Hl⟩
      iapply (lay_oth hR (k := 1) (by omega) (w := ch lg c (othR c (i 0).val)) (by rw [ch_oth lg c hn, h0]) (pay := k1_pay7) pay_same (off4_eq i)) $$ [Hw Ho]
      · isplitl [Hw] <;> iassumption
      iintro ⟨Hw, Ho⟩
      iapply Hk
      isplitl [Hw]; · iexact Hw
      isplitl [Hl]; · unfold locH; iexact Hl
      unfold othH; iexact Ho)
    (fun h => by
      unfold Placed
      rw [if_neg (mt (cond5_iff c).mpr h)])) $$ [Hw Hloc Hoth]
  · isplitl [Hw]; · iexact Hw
    isplitl [Hloc] <;> iassumption
  iintro ⟨Hw, Hpl⟩
  iapply (run_cond c (P := iprop((win.view.loc (c : Thread nD τ) ↦[S]{q} f) ∗ Placed lg c (c.val % 2 = 0) (i 0).val))
    (R := iprop((win.view.loc (c : Thread nD τ) ↦[S]{q} f) ∗ locH lg c (i 0).val fullShare ∗ othH lg c (i 0).val))
    (fun h => by
      have h0 := (cond6_iff c).mp h
      unfold Placed
      rw [if_neg (by omega)]
      iintro ⟨Hw, Hl, Ho⟩ Hk
      iapply (lay_loc hR (k := 1) (by omega) (w := ch lg c (ownR c (i 0).val)) (by rw [ch_own lg c hn, h0]) (pay := k1_pay8) pay_same (off5_eq i)) $$ [Hw Hl]
      · isplitl [Hw] <;> iassumption
      iintro ⟨Hw, Hl⟩
      iapply (lay_oth hR (k := 0) (by omega) (w := ch lg c (othR c (i 0).val)) (by rw [ch_oth lg c hn, h0]) (pay := k1_pay9) pay_same (off5_eq i)) $$ [Hw Ho]
      · isplitl [Hw] <;> iassumption
      iintro ⟨Hw, Ho⟩
      iapply Hk
      isplitl [Hw]; · iexact Hw
      isplitl [Hl]; · unfold locH; iexact Hl
      unfold othH; iexact Ho)
    (fun h => by
      unfold Placed
      rw [if_pos (by have := mt (cond6_iff c).mpr h; omega)])) $$ [Hw Hpl]
  · isplitl [Hw] <;> iassumption
  iintro ⟨Hw, Hloc, Hoth⟩
  -- the send
  ihave Hloc := (share_loc lg c).1 $$ Hloc
  icases Hloc with ⟨Hl, Hr⟩
  unfold pos
  icases Hpos with ⟨Hat, #Hre⟩
  iapply (run_then (send_x lg c hn (off9_eq i) (off8_eq i) (dev3_eq c) (sem5 (off6_eq i)) (sem6 (off7_eq4 i)))) $$ [Hl Hxr Hrr Hride HO Ht1 Ht2]
  · isplitr; · iexact Hp
    isplitl [Hl]; · iexact Hl
    isplitl [Hxr]; · iexact Hxr
    isplitl [Hride]; · iexact Hride
    isplitl [HO]; · iexact HO
    isplitl [Ht1]; · iexact Ht1
    isplitr; · iexact Hre
    isplitl [Ht2] <;> iassumption
  iintro ⟨Hc, HO⟩
  iapply (run_ret (c := c) (a := PUnit.unit) .rfl)
  isplitl [Hw]; · iexact Hw
  isplitl [HO]; · iexact HO
  isplitl [Hr Hc Hat]
  · unfold LocSent pos
    isplitl [Hr]; · iexact Hr
    isplitl [Hc]; · iexact Hc
    isplitl [Hat] <;> iassumption
  isplitl [Hoth] <;> iassumption

/-- The receipt of chunk `n`, the slot two steps back freed and announced, the send to the row neighbour, and the two loads. -/
theorem part2 {i : grid1.Coords} (hi : (i 0).val = n) (hn : n < 8) (hO : Above (10 * n + 2) (O + dueC c n + dueB c n)) (hO' : Above (10 * n + 2) (O + dueC c n))
    (hO₀ : Above 0 O)
    {win : Memref sig .tc .vmem S2x128x8192 .bf16} {hw ho hloc hoth hxr hyr hst v2 v5 v6 v7 v8 v9 hc} :
    iprop(pers lg K ∗ owe c (O + dueC c n + dueB c n) ∗ LocSent lg c n ∗ cred (tallyAt (xrC c n) n NX) ∗ pos (xrC c n) (n / 4) ∗ YFl lg c n
        ∗ pos (ysC c n) (n / 4) ∗ only (2 ≤ n ∧ n ≤ 5) (dutyTok ER (xcC (xn c)) 0 (n - 2)) ∗ reached ER (xcC (xn c)) 0
        ∗ YCp (F := F) c n ∗ only (4 ≤ n) (cred (tallyAt (ycC c) (n - 3) 1)) ∗ yRide (F := F) c n ∗ YRight (F := F) c n
        ∗ dutyTok ER (ysC c n) (n / 4) 0 ∗ dutyTok ER (yrC (yn c) n) (n / 4) 0 ∗ StAt (F := F) c n)
      ⊢ run c (k1_part2 (F := F) i win hw outM ho locM hloc othM hoth xrM hxr yrM hyr stM hst cc1_scratch5 cc1_scratch6 cc1_scratch7 cc1_scratch8 cc1_scratch9
          cc1_scratch10 cc1_scratch11 (BitVec.ofNat 32 (i 0).val) c v2 v5 v6 v7 v8 v9 hc)
        (fun x => iprop(⌜∃ w, x = ⟨w, k1_pay10 (ch lg c (ownR c n)), k1_pay11 (ch lg (xn c) (ownR c n)), k1_pay12 (ch lg c (ownR c n)), k1_pay13 (ch lg (xn c) (ownR c n))⟩⌝
          ∗ owe c O ∗ LocSent lg c n ∗ pos (xrC c (n + 4)) ((n + 4) / 4) ∗ xRide (F := F) (xn c) n ∗ YSent lg c n
          ∗ pos (ysC c (n + 2)) ((n + 2) / 4) ∗ only (2 ≤ n) (xrA (F := F) c (n - 2)) ∗ YCp (F := F) c (n + 1)
          ∗ (stA (F := F) c n ∗ pos (stC c n) (n / 2)) ∗ only (2 ≤ n) (outH lg c (ownR c (n - 2))))) := by
  subst hi
  rw [k1_part2_eq_skeleton]
  unfold k1_part2_skel YRight
  iintro ⟨#Hp, HO, Hloc, Hcr, Hxp, Hyf, Hysp, Htx, #Hrx, Hyc, Hcy, Hride, ⟨Hyr, Hrr⟩, Ht1, Ht2, Hst⟩
  -- chunk `n` lands
  iapply (run_then (wait_xr (lg := lg) (K := K) (m := (i 0).val) hn hO (sem6 (off7_eq4 i)) rfl)) $$ [Hcr Hxp HO]
  · isplitr; · iexact Hp
    isplitl [Hcr]; · iexact Hcr
    isplitl [Hxp] <;> iassumption
  iintro ⟨Hxp, Hx, Hxride, HO⟩
  -- the slot sent on two steps before is free, and is announced
  iapply (run_cond c
    (P := iprop(pers lg K ∗ YFl lg c (i 0).val ∗ owe c (O + dueC c (i 0).val + dueB c (i 0).val) ∗ only (2 ≤ (i 0).val ∧ (i 0).val ≤ 5) (dutyTok ER (xcC (xn c)) 0 ((i 0).val - 2))
      ∗ reached ER (xcC (xn c)) 0))
    (R := iprop(pos (ysC c ((i 0).val + 2)) (((i 0).val + 2) / 4) ∗ only (2 ≤ (i 0).val) (xrA (F := F) c ((i 0).val - 2)) ∗ owe c (O + dueC c (i 0).val)))
    (fun h => by
      have h2 := (cond7_iff i hn).mp h
      unfold YFl
      rw [if_neg (by omega), only_pos h2]
      iintro ⟨#Hp, Hy, HO, Ht, #Hr⟩ Hk
      iapply (run_then (wait_ys (lg := lg) (K := K) (m := (i 0).val - 2) (by omega) (hO.mono (by omega))
        (sem7 (by rw [off10_eq, show ((i 0).val + 2) % 4 = ((i 0).val - 2) % 4 by omega])) rfl)) $$ [Hy HO]
      · isplitr; · iexact Hp
        isplitl [Hy] <;> iassumption
      iintro ⟨Hpos, Hx, HO⟩
      iapply (run_cond c (P := iprop(pers lg K ∗ owe c (O + dueC c (i 0).val + dueB c (i 0).val) ∗ only (2 ≤ (i 0).val ∧ (i 0).val ≤ 5) (dutyTok ER (xcC (xn c)) 0 ((i 0).val - 2))
          ∗ reached ER (xcC (xn c)) 0))
        (R := owe c (O + dueC c (i 0).val))
        (fun h => run_then (by
          rw [only_pos ⟨h2, (cond8_iff i hn).mp h⟩]
          exact give_xc h2 ((cond8_iff i hn).mp h) sem10 (dev4_eq c)))
        (fun h => by
          have h5 := mt (cond8_iff i hn).mpr h
          rw [show dueB c (i 0).val = 0 from if_neg (by omega), add_zero]
          exact sep_elim_right.trans sep_elim_left)) $$ [HO Ht]
      · isplitr; · iexact Hp
        isplitl [HO]; · iexact HO
        isplitl [Ht]; · iexact Ht
        iexact Hr
      iintro HO
      iapply Hk
      isplitl [Hpos]
      · rw [show (i 0).val + 2 = (i 0).val - 2 + 4 by omega]; iexact Hpos
      isplitl [Hx] <;> iassumption)
    (fun h => by
      have h2 := mt (cond7_iff i hn).mpr h
      unfold YFl
      rw [if_pos (by omega), only_neg h2, show dueB c (i 0).val = 0 from if_neg (by omega), add_zero, show ((i 0).val + 2) / 4 = 0 by omega]
      iintro ⟨-, Hy, HO, -, -⟩
      isplitl [Hy]; · iexact Hy
      isplitr; · iempintro
      iexact HO)) $$ [Hyf HO Htx]
  · isplitr; · iexact Hp
    isplitl [Hyf]; · iexact Hyf
    isplitl [HO]; · iexact HO
    isplitl [Htx]; · iexact Htx
    iexact Hrx
  iintro ⟨Hys2, Hxa, HO⟩
  -- the row neighbour's slot is free
  iapply (run_cond c (P := iprop(pers lg K ∗ only (4 ≤ (i 0).val) (cred (tallyAt (ycC c) ((i 0).val - 3) 1)) ∗ YCp (F := F) c (i 0).val ∗ owe c (O + dueC c (i 0).val)))
    (R := iprop(YCp (F := F) c ((i 0).val + 1) ∗ owe c (O + dueC c (i 0).val)))
    (fun h => run_then (by
      rw [only_pos ((cond4_iff i).mp h)]
      exact wait_yc ((cond4_iff i).mp h) hn (hO'.mono (by omega)) sem11))
    (fun h => by
      rw [YCp_early (by have := mt (cond4_iff i).mpr h; omega)]
      exact sep_elim_right.trans sep_elim_right)) $$ [Hcy Hyc HO]
  · isplitr; · iexact Hp
    isplitl [Hcy]; · iexact Hcy
    isplitl [Hyc] <;> iassumption
  iintro ⟨Hyc, HO⟩
  -- the send
  ihave Hx := (share_xr lg c).1 $$ Hx
  icases Hx with ⟨Hl, Hr⟩
  unfold pos
  icases Hysp with ⟨Hat, #Hre⟩
  iapply (run_then (send_y lg c hn (off8_eq i) (off8_eq i) (dev5_eq c) (sem7 (off7_eq4 i)) (sem8 (off7_eq4 i)))) $$ [Hl Hyr Hrr Hride HO Ht1 Ht2]
  · isplitr; · iexact Hp
    isplitl [Hl]; · iexact Hl
    isplitl [Hyr]; · iexact Hyr
    isplitl [Hride]; · iexact Hride
    isplitl [HO]; · iexact HO
    isplitl [Ht1]; · iexact Ht1
    isplitr; · iexact Hre
    isplitl [Ht2] <;> iassumption
  iintro ⟨Hc, HO⟩
  -- the finished chunk's slot is free
  iapply (run_cond c (P := iprop(pers lg K ∗ StAt (F := F) c (i 0).val ∗ owe c O))
    (R := iprop((stA (F := F) c (i 0).val ∗ pos (stC c (i 0).val) ((i 0).val / 2)) ∗ only (2 ≤ (i 0).val) (outH lg c (ownR c ((i 0).val - 2))) ∗ owe c O))
    (fun h => run_then (by
      obtain ⟨m, hm⟩ : ∃ m, (i 0).val = m + 2 := ⟨(i 0).val - 2, by have := (cond10_iff i hn).mp h; omega⟩
      unfold StAt
      rw [if_neg (by omega), only_pos (by omega), hm]
      exact wait_st (m := m) (by omega) hO₀ (sem9 (n := m) (by rw [off12_eq, hm, Nat.add_mod_right])) rfl))
    (fun h => by
      have h2 := mt (cond10_iff i hn).mpr h
      unfold StAt
      rw [if_pos (by omega), only_neg h2]
      iintro ⟨-, Hs, HO⟩
      isplitl [Hs]; · iexact Hs
      isplitr; · iempintro
      iexact HO)) $$ [Hst HO]
  · isplitr; · iexact Hp
    isplitl [Hst]; · iexact Hst
    iexact HO
  iintro ⟨Hst, Hout, HO⟩
  unfold LocSent locH xrH
  icases Hloc with ⟨Hloc, Hlc⟩
  iapply (run_seq (load_loc c (off14_eq i) _)) $$ Hloc
  iintro %l ⟨%hl, Hloc⟩
  subst hl
  iapply (run_seq (load_xr c (off15_eq i) _)) $$ Hr
  iintro %r ⟨%hr, Hr⟩
  subst hr
  iapply (run_ret (c := c) .rfl)
  isplitr; · ipureintro; exact ⟨_, rfl⟩
  isplitl [HO]; · iexact HO
  isplitl [Hloc Hlc]; · isplitl [Hloc] <;> iassumption
  isplitl [Hxp]; · iexact Hxp
  isplitl [Hxride]; · iexact Hxride
  isplitl [Hc Hr Hat]
  · unfold YSent pos xrH
    isplitl [Hc]; · iexact Hc
    isplitl [Hr]; · iexact Hr
    isplitl [Hat] <;> iassumption
  isplitl [Hys2]; · iexact Hys2
  isplitl [Hxa]; · iexact Hxa
  isplitl [Hyc]; · iexact Hyc
  isplitl [Hst]; · unfold pos; iexact Hst
  iexact Hout

/-- The two halves of a finished chunk stored, and the chunk copied out. -/
theorem finish {s : DmaSem sig} {R k r : ℕ} (hs : 22 ≤ s.val) (hdut : (Rd lg).duties ((c : Thread nD τ), .dma s) R = {0})
    (hpay : iprop(outH lg c r ∗ ∃ g, stP c k g) ⊢ (Rd lg).payload ((c : Thread nD τ), .dma s) R 0) {a b : VX F} (hab : side (c.val / 2) a b = stV lg c r)
    {o₁ o₂ o₃ : Fin 3 → ℕ} {o₄ : Fin 2 → ℕ} (h₁ : o₁ = ![k, 0, 8192 * (c.val / 2)]) (h₂ : o₂ = ![k, 0, 8192 - 8192 * (c.val / 2)]) (h₃ : o₃ = ![k, 0, 0]) (h₄ : o₄ = ![128 * r, 0])
    {inb₁ : ∀ a, o₁ a + S1x128x8192.size a ≤ S4x128x16384.size a} {inb₂ : ∀ a, o₂ a + S1x128x8192.size a ≤ S4x128x16384.size a}
    {inb₃ : ∀ a, o₃ a + S1x128x16384.size a ≤ S4x128x16384.size a} {inb₄ : ∀ a, o₄ a + S128x16384.size a ≤ S2048x16384.size a} {hu₁ hu₂}
    {hq : S1x128x16384.Squeezes S128x16384} {s' : DmaSem sig} (hs' : s' = s) {hl₁ hl₂ hx₁ hx₂ hm₁ hm₂ hsrc hdst hsem} {β : Type}
    {J : Prog (TpuEff nD τ sig (Elt F) Λ₀ .tc) β} {Q : β → sProp 𝕄} :
    iprop(pers lg K ∗ (∃ g, stP c k g) ∗ outA (F := F) c r ∗ dutyTok ER ((c : Thread nD τ), .dma s) R 0 ∗ reached ER ((c : Thread nD τ), .dma s) R)
      ⊢ iprop((cred (tallyAt ((c : Thread nD τ), .dma s) 0 NO) -∗ run c J Q)
        -∗ run c (Prog.lift (.load stM (Rect.unit (s := S4x128x16384) o₁ S1x128x8192.size inb₁).toLoadRect hl₁) >>= fun _ =>
          Prog.lift (.store stM (Rect.unit (s := S4x128x16384) o₁ S1x128x8192.size inb₁) a Finset.univ hx₁ hm₁) >>= fun _ =>
          Prog.lift (.load stM (Rect.unit (s := S4x128x16384) o₂ S1x128x8192.size inb₂).toLoadRect hl₂) >>= fun _ =>
          Prog.lift (.store stM (Rect.unit (s := S4x128x16384) o₂ S1x128x8192.size inb₂) b Finset.univ hx₂ hm₂) >>= fun _ =>
          Prog.lift (.enqueueDma ((stM.slice (Rect.unit (s := S4x128x16384) o₃ S1x128x16384.size inb₃) hu₁).squeeze S128x16384 hq)
            (.here (outM.slice (Rect.unit (s := S2048x16384) o₄ S128x16384.size inb₄) hu₂)) (.dma s') hsrc hdst hsem) >>= fun _ => J) Q) := by
  have hk : c.val / 2 < 2 := by have := c.isLt; simp only [nD] at this; omega
  iintro ⟨#Hp, ⟨%g, Hst⟩, Ho, Ht, Hr⟩ Hk
  iapply (run_seq (peek_st c h₁ inb₁)) $$ Hst
  iintro %u Hst
  iapply (run_then (store_st c h₁ inb₁)) $$ Hst
  iintro Hst
  iapply (run_seq (peek_st c (k := 1 - c.val / 2) (h₂.trans (by rw [Nat.mul_sub])) inb₂)) $$ Hst
  iintro %u Hst
  iapply (run_then (store_st c (k := 1 - c.val / 2) (h₂.trans (by rw [Nat.mul_sub])) inb₂)) $$ Hst
  iintro Hst
  ihave Hst := (filled (F := F) c h₁ h₂ hk inb₁ inb₂ (a := a) (b := b)) $$ Hst
  ihave Hst := (Entails.of_eq (show stP (F := F) c k (lay (side (c.val / 2) a b)) = stP c k (lay (stV lg c r)) by rw [hab])) $$ Hst
  iapply (run_then (k := fun _ => J) (copy_out (K := K) lg c hs hdut hpay h₃ h₄ hs')) $$ [Hst Ho Ht Hr]
  · isplitr; · iexact Hp
    isplitl [Hst]; · iexact Hst
    isplitl [Ho]; · iexact Ho
    isplitl [Ht] <;> iassumption
  iintro Hc
  iapply Hk; iexact Hc

end Cert.Exchange
-- ==== Proof.Second.lean ====
/-
  The second half of a step: what the row neighbour sent is finished and copied out; the barrier; the last waits.
-/
module

public import proofs.«01_k».proof.Proof.First

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {lg : Dev nD → S2x1024x8192.Idx → Elt F .bf16} {K : GSem nD τ sig → ℕ} {c : Dev nD} {O : CellTallies nD τ sig ℕ} {m : ℕ}

/-- The receipt of chunk `m` from the row neighbour, and the two loads. -/
theorem part3 {i : grid1.Coords} (hi : (i 0).val = m + 1) (hm : m < 8) (hO : Above (10 * m + 4) O)
    {win : Memref sig .tc .vmem S2x128x8192 .bf16} {hw ho hloc hoth hxr hyr hst v2 v5 v7 v11 v13 hc} :
    iprop(pers lg K ∗ owe c O ∗ cred (tallyAt (yrC c m) m NX) ∗ pos (yrC c m) (m / 4) ∗ St2At (F := F) c m ∗ othH lg c m)
      ⊢ run c (k1_part3 (F := F) i win hw outM ho locM hloc othM hoth xrM hxr yrM hyr stM hst cc1_scratch5 cc1_scratch6 cc1_scratch7 cc1_scratch8 cc1_scratch9
          cc1_scratch10 cc1_scratch11 (BitVec.ofNat 32 (i 0).val) v2 v5 v7 v11 v13 hc)
        (fun x => iprop(⌜∃ w w', x = ⟨w, w', k1_pay15 (ch lg (xn (yn c)) (othR c m)), k1_pay16 (ch lg c (othR c m)) (ch lg (xn (yn c)) (othR c m)),
            k1_pay17 (ch lg c (othR c m)) (ch lg (xn (yn c)) (othR c m))⟩⌝
          ∗ owe c O ∗ pos (yrC c (m + 4)) ((m + 4) / 4) ∗ yrH lg c m ∗ yRide (F := F) (yn c) m
          ∗ (suA (F := F) c m ∗ pos (suC c m) (m / 2)) ∗ only (2 ≤ m) (outH lg c (othR c (m - 2))) ∗ othH lg c m)) := by
  have h1 : 1 ≤ (i 0).val := by omega
  have hm' : (i 0).val - 1 = m := by omega
  rw [k1_part3_eq_skeleton]
  unfold k1_part3_skel
  iintro ⟨#Hp, HO, Hcr, Hyp, Hst, Hoth⟩
  iapply (run_then (wait_yr (lg := lg) (K := K) (m := m) hm hO (sem8 (by rw [off20_eq i h1, hm'])) rfl)) $$ [Hcr Hyp HO]
  · isplitr; · iexact Hp
    isplitl [Hcr]; · iexact Hcr
    isplitl [Hyp] <;> iassumption
  iintro ⟨Hyp, Hy, Hride, HO⟩
  iapply (run_cond c (P := iprop(pers lg K ∗ St2At (F := F) c m ∗ owe c O))
    (R := iprop((suA (F := F) c m ∗ pos (suC c m) (m / 2)) ∗ only (2 ≤ m) (outH lg c (othR c (m - 2))) ∗ owe c O))
    (fun h => run_then (by
      obtain ⟨l, rfl⟩ : ∃ l, m = l + 2 := ⟨m - 2, by have := (cond12_iff i ⟨h1, by omega⟩).mp h; omega⟩
      unfold St2At
      rw [if_neg (by omega), only_pos (by omega), Nat.add_sub_cancel]
      exact wait_su (m := l) (by omega) (hO.mono (by omega)) (sem9' (n := l) (by rw [off22_eq i h1, hm', Nat.add_mod_right])) rfl))
    (fun h => by
      have h2 := mt (cond12_iff i ⟨h1, by omega⟩).mpr h
      unfold St2At
      rw [if_pos (by omega), only_neg (by omega)]
      iintro ⟨-, Hs, HO⟩
      isplitl [Hs]; · iexact Hs
      isplitr; · iempintro
      iexact HO)) $$ [Hst HO]
  · isplitr; · iexact Hp
    isplitl [Hst] <;> iassumption
  iintro ⟨Hst, Hout, HO⟩
  unfold othH yrH
  iapply (run_seq (load_oth c (by rw [off24_eq i h1, hm']) _)) $$ Hoth
  iintro %l ⟨%hl, Hoth⟩
  subst hl
  iapply (run_seq (load_yr c (by rw [off25_eq i h1, hm']) _)) $$ Hy
  iintro %r ⟨%hr, Hy⟩
  subst hr
  iapply (run_ret (c := c) .rfl)
  isplitr; · ipureintro; exact ⟨_, _, rfl⟩
  isplitl [HO]; · iexact HO
  isplitl [Hyp]; · iexact Hyp
  isplitl [Hy]; · iexact Hy
  isplitl [Hride]; · iexact Hride
  isplitl [Hst]; · iexact Hst
  isplitl [Hout] <;> iassumption

/-- The barrier: each neighbour is told that the own slots are free, and both tell. -/
theorem barrier (hO : Above 1 O) {d₁ d₂ : Dev nD} (h₁ : d₁ = xn c) (h₂ : d₂ = yn c) {s : Sem sig} (hs : s = bS) {β : Type}
    {J : Prog (TpuEff nD τ sig (Elt F) Λ₀ .tc) β} {Q : β → sProp 𝕄} :
    iprop(pers lg K ∗ owe c (O + tallyAt (bC (yn c)) 0 1 + tallyAt (bC (xn c)) 0 1)
        ∗ (dutyTok ER (bC (xn c)) 0 0 ∗ reached ER (bC (xn c)) 0 ∗ barPay (F := F) (xn c) 0)
        ∗ (dutyTok ER (bC (yn c)) 0 1 ∗ reached ER (bC (yn c)) 0 ∗ barPay (F := F) (yn c) 1)
        ∗ cred (tallyAt (bC c) 0 2) ∗ pos (bC c) 0)
      ⊢ iprop((iprop(owe c O ∗ pos (bC c) 1 ∗ barPay (F := F) c 0 ∗ barPay (F := F) c 1) -∗ run c J Q)
        -∗ run c (semSignalWord d₁ s 1#32 >>= fun _ => semSignalWord d₂ s 1#32 >>= fun _ => semWaitWord s 2#32 >>= fun _ => J) Q) := by
  iintro ⟨#Hp, HO, ⟨Ht1, Hr1, Hb1⟩, ⟨Ht2, Hr2, Hb2⟩, Hc, Hpos⟩ Hk
  iapply (run_then (raise lg c (K := K) (d := 0) (ι := 0) (P := barPay (F := F) (xn c) 0) hs h₁ (mem_bar (xn c)) (by rw [duties_bar]; decide)
    (Entails.of_eq (payload_bar lg (xn c) 0).symm))) $$ [HO Ht1 Hr1 Hb1]
  · isplitr; · iexact Hp
    isplitl [Hb1]; · iexact Hb1
    isplitl [HO]; · iexact HO
    isplitl [Ht1] <;> iassumption
  iintro HO
  iapply (run_then (raise lg c (K := K) (d := 1) (ι := 0) (P := barPay (F := F) (yn c) 1) hs h₂ (mem_bar (yn c)) (by rw [duties_bar]; decide)
    (Entails.of_eq (payload_bar lg (yn c) 1).symm))) $$ [HO Ht2 Hr2 Hb2]
  · isplitr; · iexact Hp
    isplitl [Hb2]; · iexact Hb2
    isplitl [HO]; · iexact HO
    isplitl [Ht2] <;> iassumption
  iintro HO
  iapply (run_then (await_bar lg c (K := K) hs hO)) $$ [HO Hc Hpos]
  · isplitr; · iexact Hp
    isplitl [Hc]; · iexact Hc
    isplitl [HO] <;> iassumption
  iintro H
  iapply Hk; iexact H

/-- The first three of the last waits. -/
theorem part4 {i : grid1.Coords} (hO : Above 0 O)
    {win : Memref sig .tc .vmem S2x128x8192 .bf16} {hw ho hloc hoth hxr hyr hst} :
    iprop(pers lg K ∗ owe c O ∗ LocSent lg c 6 ∗ LocSent lg c 7 ∗ YSent lg c 6)
      ⊢ run c (k1_part4 (F := F) i win hw outM ho locM hloc othM hoth xrM hxr yrM hyr stM hst cc1_scratch5 cc1_scratch6 cc1_scratch7 cc1_scratch8 cc1_scratch9
          cc1_scratch10 cc1_scratch11)
        (fun _ => iprop(owe c O ∗ LocFree (F := F) c 8 ∗ LocFree (F := F) c 9 ∗ pos (ysC c 10) 2 ∗ xrA (F := F) c 6)) := by
  rw [k1_part4_eq_skeleton]
  unfold k1_part4_skel
  iintro ⟨#Hp, HO, Hl6, Hl7, Hy6⟩
  iapply (run_then (wait_xs (lg := lg) (K := K) (m := 6) (by omega) hO (sem5 rfl) rfl)) $$ [Hl6 HO]
  · isplitr; · iexact Hp
    isplitl [Hl6] <;> iassumption
  iintro ⟨Hl6, HO⟩
  iapply (run_then (wait_xs (lg := lg) (K := K) (m := 7) (by omega) hO (sem5 rfl) rfl)) $$ [Hl7 HO]
  · isplitr; · iexact Hp
    isplitl [Hl7] <;> iassumption
  iintro ⟨Hl7, HO⟩
  iapply (run_then (wait_ys (lg := lg) (K := K) (m := 6) (by omega) hO (sem7 rfl) rfl)) $$ [Hy6 HO]
  · isplitr; · iexact Hp
    isplitl [Hy6] <;> iassumption
  iintro ⟨Hp6, Hx6, HO⟩
  iapply (run_ret (c := c) (a := PUnit.unit) .rfl)
  isplitl [HO]; · iexact HO
  isplitl [Hl6]; · iexact Hl6
  isplitl [Hl7]; · iexact Hl7
  isplitl [Hp6] <;> iassumption

end Cert.Exchange
-- ==== Proof.Step.lean ====
/-
  One step of the exchange call: the state before it, the state after it, and the body that leads from one to the other.
-/
module

public import proofs.«01_k».proof.Proof.Second

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (lg : Dev nD → S2x1024x8192.Idx → Elt F .bf16) {K : GSem nD τ sig → ℕ} (c : Dev nD)

/-! ## Families over the chunks -/

section Families

variable (f : ℕ → sProp (MT nD τ sig ℕ (Elt F) ℕ UU ℕ)) {n : ℕ}

theorem take_Ico {e : ℕ} (h : n < e) : bigSep (Finset.Ico n e) f = iprop(f n ∗ bigSep (Finset.Ico (n + 1) e) f) := by
  rw [← Finset.insert_Ico_add_one_left_eq_Ico h, bigSep_insert (by simp)]; rfl
theorem push_Ico {s : ℕ} (h : s ≤ n) : bigSep (Finset.Ico s (n + 1)) f = iprop(f n ∗ bigSep (Finset.Ico s n) f) := by
  rw [← Finset.insert_Ico_right_eq_Ico_add_one h, bigSep_insert (by simp)]; rfl
theorem none_Ico {s e : ℕ} (h : e ≤ s) : bigSep (Finset.Ico s e) f = iprop(emp) := by
  rw [Finset.Ico_eq_empty_of_le h]; rfl

theorem only_iff {p p' : Prop} [Decidable p] [Decidable p'] {P : sProp 𝕄} (h : p ↔ p') : only p P ⊢ only p' P := by
  by_cases hp : p
  · rw [only_pos hp, only_pos (h.mp hp)]
  · rw [only_neg hp, only_neg fun a => hp (h.mpr a)]

/-- The chunks done two steps after they were started. -/
def done (g : ℕ → sProp 𝕄) (n : ℕ) : sProp 𝕄 := bigSep (Finset.Ico 0 (n - 2)) g
theorem done_step : iprop(done f n ∗ only (2 ≤ n) (f (n - 2))) ⊢ done f (n + 1) := by
  unfold done
  by_cases h : 2 ≤ n
  · rw [only_pos h, show n + 1 - 2 = n - 2 + 1 by omega, push_Ico f (Nat.zero_le _)]
    exact sep_comm.1
  · rw [none_Ico f (by omega : n + 1 - 2 ≤ 0)]
    iintro -; iempintro

/-- The rights held before step `n`: the first four are given at the barrier, each later one comes a step before it is used. -/
def rights (g : ℕ → sProp 𝕄) (n : ℕ) : sProp 𝕄 := iprop(bigSep (Finset.Ico n 4) g ∗ only (4 ≤ n ∧ n ≤ 7) (g n))
theorem rights_step (h : n < 8) : rights f n ⊢ iprop(f n ∗ (only (3 ≤ n ∧ n ≤ 6) (f (n + 1)) -∗ rights f (n + 1))) := by
  unfold rights
  by_cases h4 : n < 4
  · rw [take_Ico f h4]
    iintro ⟨⟨Hf, Hr⟩, -⟩
    isplitl [Hf]; · iexact Hf
    iintro H
    isplitl [Hr]; · iexact Hr
    iapply (only_iff (show (3 ≤ n ∧ n ≤ 6) ↔ (4 ≤ n + 1 ∧ n + 1 ≤ 7) by omega)); iexact H
  · rw [only_pos (by omega), none_Ico f (by omega), none_Ico f (by omega)]
    iintro ⟨-, Hf⟩
    isplitl [Hf]; · iexact Hf
    iintro H
    isplitr; · iempintro
    iapply (only_iff (show (3 ≤ n ∧ n ≤ 6) ↔ (4 ≤ n + 1 ∧ n + 1 ≤ 7) by omega)); iexact H
theorem rights_end (h : 8 ≤ n) : ⊢ rights f n := by
  unfold rights
  rw [none_Ico f (by omega), only_neg (by omega)]
  isplitr <;> iempintro
theorem rights_zero : bigSep (Finset.range 4) f ⊢ rights f 0 := by
  unfold rights
  rw [Finset.range_eq_Ico, only_neg (by omega)]
  iintro H
  isplitl [H]; · iexact H
  iempintro

end Families

/-! ## The state of each half -/

/-- What chunk `n` will use up in the first half of its step. -/
def KitA (n : ℕ) : sProp 𝕄 :=
  iprop(dutyTok ER (xsC c n) (n / 2) 0 ∗ dutyTok ER (xrC (xn c) n) (n / 4) 0 ∗ dutyTok ER (ysC c n) (n / 4) 0 ∗ dutyTok ER (yrC (yn c) n) (n / 4) 0
    ∗ dutyTok ER (stC c n) (n / 2) 0 ∗ cred (tallyAt (xrC c n) n NX) ∗ outA (F := F) c (ownR c n)
    ∗ only (2 ≤ n ∧ n ≤ 5) (dutyTok ER (xcC (xn c)) 0 (n - 2)) ∗ only (4 ≤ n) (cred (tallyAt (xcC c) (n - 2) 1)) ∗ only (4 ≤ n) (cred (tallyAt (ycC c) (n - 3) 1)))
/-- What chunk `m` will use up in the second half of the step after it. -/
def KitB (m : ℕ) : sProp 𝕄 :=
  iprop(dutyTok ER (suC c m) (m / 2) 0 ∗ cred (tallyAt (yrC c m) m NX) ∗ outA (F := F) c (othR c m) ∗ only (m ≤ 3) (dutyTok ER (ycC (yn c)) 0 m))

/-- The slot that rides with the next chunk, and those kept to the end. -/
def Carry (n : ℕ) : sProp 𝕄 := iprop(only (3 ≤ n ∧ n ≤ 6) (xrA (F := F) c (n - 3)) ∗ bigSep (Finset.Ico 4 (n - 2)) (xrA (F := F) c))
theorem Carry_step {n : ℕ} (h : n < 8) : iprop(bigSep (Finset.Ico 4 (n - 2)) (xrA (F := F) c) ∗ only (2 ≤ n) (xrA (F := F) c (n - 2))) ⊢ Carry (F := F) c (n + 1) := by
  unfold Carry
  by_cases h2 : 2 ≤ n
  · rw [only_pos h2]
    by_cases h5 : n ≤ 5
    · rw [only_pos (by omega), show n + 1 - 3 = n - 2 by omega, none_Ico _ (by omega), none_Ico _ (by omega)]
      exact sep_comm.1
    · rw [only_neg (by omega), show n + 1 - 2 = n - 2 + 1 by omega, push_Ico _ (by omega)]
      iintro ⟨H1, H2⟩
      isplitr; · iempintro
      isplitl [H2] <;> iassumption
  · rw [only_neg h2, only_neg (by omega), none_Ico _ (by omega), none_Ico _ (by omega)]

/-- The state of the first half before chunk `n`. -/
def StA (n : ℕ) : sProp 𝕄 :=
  iprop((LocAt lg c n ∗ LocAt lg c (n + 1))
    ∗ (pos (xrC c n) (n / 4) ∗ pos (xrC c (n + 1)) ((n + 1) / 4) ∗ pos (xrC c (n + 2)) ((n + 2) / 4) ∗ pos (xrC c (n + 3)) ((n + 3) / 4))
    ∗ (YFl lg c n ∗ YFl lg c (n + 1) ∗ pos (ysC c n) (n / 4) ∗ pos (ysC c (n + 1)) ((n + 1) / 4))
    ∗ (XCp (F := F) c n ∗ YCp (F := F) c n) ∗ (StAt (F := F) c n ∗ StAt (F := F) c (n + 1))
    ∗ Carry (F := F) c n ∗ bigSep (Finset.Ico n 8) (KitA (F := F) c) ∗ done (fun k => outH lg c (ownR c k)) n)
/-- The state of the second half before chunk `m`. -/
def StB (m : ℕ) : sProp 𝕄 :=
  iprop((pos (yrC c m) (m / 4) ∗ pos (yrC c (m + 1)) ((m + 1) / 4) ∗ pos (yrC c (m + 2)) ((m + 2) / 4) ∗ pos (yrC c (m + 3)) ((m + 3) / 4))
    ∗ (St2At (F := F) c m ∗ St2At (F := F) c (m + 1)) ∗ bigSep (Finset.Ico 4 m) (yrA (F := F) c) ∗ bigSep (Finset.Ico m 8) (KitB (F := F) c)
    ∗ done (fun k => outH lg c (othR c k)) m)

/-- The two slots of the other rows' chunks before step `q`. -/
def Oth (q : ℕ) : sProp 𝕄 := iprop((if 1 ≤ q ∧ q ≤ 8 then othH lg c (q - 1) else othA (F := F) c (q + 1)) ∗ othA (F := F) c q)

/-- A ride is a freed slot and the round it was freed in. -/
theorem xRide_intro {n : ℕ} : iprop(only (3 ≤ n ∧ n ≤ 6) (xrA (F := F) c (n - 3)) ∗ reached ER (xrC c (n + 1)) ((n + 1) / 4)) ⊢ xRide (F := F) c n := by
  unfold xRide
  by_cases h : 3 ≤ n ∧ n ≤ 6
  · rw [only_pos h, if_pos h, show xrC c (n + 1) = xrC c (n - 3) by unfold xrC; rw [← xrS_add (n - 3), show n - 3 + 4 = n + 1 by omega], show (n + 1) / 4 = 1 by omega]
  · rw [if_neg h]; iintro -; iempintro
theorem yRide_intro {n : ℕ} : iprop(only (2 ≤ n ∧ n ≤ 5) (yrA (F := F) c (n - 2)) ∗ reached ER (yrC c (n + 2)) ((n + 2) / 4)) ⊢ yRide (F := F) c n := by
  unfold yRide
  by_cases h : 2 ≤ n ∧ n ≤ 5
  · rw [only_pos h, if_pos h, show yrC c (n + 2) = yrC c (n - 2) by unfold yrC; rw [← yrS_add (n - 2), show n - 2 + 4 = n + 2 by omega], show (n + 2) / 4 = 1 by omega]
  · rw [if_neg h]; iintro -; iempintro
theorem xRide_right {n : ℕ} : xRide (F := F) (xn c) n ⊢ only (3 ≤ n ∧ n ≤ 6) (XRight (F := F) c (n + 1)) := by
  unfold xRide XRight
  by_cases h : 3 ≤ n ∧ n ≤ 6
  · rw [only_pos h, if_pos h]
    have e : n - 3 + 4 = n + 1 := by omega
    rw [show xrC (xn c) (n + 1) = xrC (xn c) (n - 3) by unfold xrC; rw [← xrS_add (n - 3), e], show (n + 1) / 4 = 1 by omega,
      show xrA (F := F) (xn c) (n + 1) = xrA (xn c) (n - 3) by unfold xrA; rw [← e, Nat.add_mod_right]]
  · rw [only_neg h, if_neg h]
theorem yRide_right {m : ℕ} : yRide (F := F) (yn c) m ⊢ only (3 ≤ m + 1 ∧ m + 1 ≤ 6) (YRight (F := F) c (m + 1 + 1)) := by
  unfold yRide YRight
  by_cases h : 2 ≤ m ∧ m ≤ 5
  · rw [only_pos (by omega), if_pos h]
    have e : m - 2 + 4 = m + 1 + 1 := by omega
    rw [show yrC (yn c) (m + 1 + 1) = yrC (yn c) (m - 2) by unfold yrC; rw [← yrS_add (m - 2), e], show (m + 1 + 1) / 4 = 1 by omega,
      show yrA (F := F) (yn c) (m + 1 + 1) = yrA (yn c) (m - 2) by unfold yrA; rw [← e, Nat.add_mod_right]]
  · rw [only_neg (by omega), if_neg h]

theorem LocAt_sent {n : ℕ} : LocAt lg c (n + 2) = LocSent lg c n := by unfold LocAt; rw [if_neg (by omega), Nat.add_sub_cancel]
theorem YFl_sent {n : ℕ} : YFl lg c (n + 2) = YSent lg c n := by unfold YFl; rw [if_neg (by omega), Nat.add_sub_cancel]
theorem StAt_sent {n : ℕ} : StAt (F := F) c (n + 2) = iprop(cred (tallyAt (stC c n) 0 NO) ∗ pos (stC c n) (n / 2)) := by
  unfold StAt; rw [if_neg (by omega), Nat.add_sub_cancel]
theorem St2At_sent {n : ℕ} : St2At (F := F) c (n + 2) = iprop(cred (tallyAt (suC c n) 0 NO) ∗ pos (suC c n) (n / 2)) := by
  unfold St2At; rw [if_neg (by omega), Nat.add_sub_cancel]
theorem othA_of {n : ℕ} : othH lg c n ⊢ othA (F := F) c n := by unfold othH othA; exact exists_intro _
theorem othA_add {n : ℕ} : othA (F := F) c (n + 2) = othA c n := by unfold othA; rw [Nat.add_mod_right]
theorem yrA_of {n : ℕ} : yrH lg c n ⊢ yrA (F := F) c n := by unfold yrH yrA; exact exists_intro _

/-! ## The barrier's part -/

/-- What the barrier takes, beside what is owed. -/
def Bar : sProp 𝕄 :=
  iprop((dutyTok ER (bC (xn c)) 0 0 ∗ reached ER (bC (xn c)) 0 ∗ barPay (F := F) (xn c) 0)
    ∗ (dutyTok ER (bC (yn c)) 0 1 ∗ reached ER (bC (yn c)) 0 ∗ barPay (F := F) (yn c) 1) ∗ cred (tallyAt (bC c) 0 2) ∗ pos (bC c) 0)
/-- What it leaves. -/
def Far : sProp 𝕄 := iprop(reached ER (xcC (xn c)) 0 ∗ reached ER (ycC (yn c)) 0)
instance : BI.Persistent (Far (F := F) c) := by unfold Far; infer_instance

/-- The state before step `q`, the barrier not yet passed. -/
def Core (q : ℕ) : sProp 𝕄 :=
  iprop(StA lg c (min q 8) ∗ StB lg c (min (q - 1) 8) ∗ only (2 ≤ q ∧ q ≤ 5) (yrA (F := F) c (q - 2)) ∗ Oth lg c q)
/-- The state before step `q`, the barrier passed. -/
def Mid (q : ℕ) : sProp 𝕄 := iprop(Core lg c q ∗ rights (XRight (F := F) c) (min q 8) ∗ rights (YRight (F := F) c) (min q 8) ∗ Far (F := F) c ∗ pos (bC c) 1)

/-- What the barrier leaves are the rights of the first four chunks. -/
theorem bar_rights : iprop(barPay (F := F) c 0 ∗ barPay (F := F) c 1)
    ⊢ iprop(rights (XRight (F := F) c) 0 ∗ rights (YRight (F := F) c) 0 ∗ Far (F := F) c) := by
  have hx : bigSep (Finset.range 4) (fun n => iprop(xrA (F := F) (xn c) n ∗ reached ER (xrC (xn c) n) 0)) = bigSep (Finset.range 4) (XRight (F := F) c) :=
    bigSep_congr fun n hn => by unfold XRight; rw [show n / 4 = 0 by have := Finset.mem_range.mp hn; omega]
  have hy : bigSep (Finset.range 4) (fun n => iprop(yrA (F := F) (yn c) n ∗ reached ER (yrC (yn c) n) 0)) = bigSep (Finset.range 4) (YRight (F := F) c) :=
    bigSep_congr fun n hn => by unfold YRight; rw [show n / 4 = 0 by have := Finset.mem_range.mp hn; omega]
  unfold barPay Far
  rw [if_pos rfl, if_neg (by decide), hx, hy]
  iintro ⟨⟨Hx, Hrx⟩, ⟨Hy, Hry⟩⟩
  isplitl [Hx]; · iapply (rights_zero (XRight (F := F) c)); iexact Hx
  isplitl [Hy]; · iapply (rights_zero (YRight (F := F) c)); iexact Hy
  isplitl [Hrx] <;> iassumption

section Halves

variable {lg c} {n m : ℕ} {i : grid1.Coords} {win : Memref sig .tc .vmem S2x128x8192 .bf16}

theorem pos_reached {g : GSem nD τ sig} {r : ℕ} : (pos g r : sProp 𝕄) ⊢ iprop(pos g r ∗ reached ER g r) := by
  unfold pos
  iintro ⟨H, #Hr⟩
  isplitl [H]
  · isplitl [H]; · iexact H
    iexact Hr
  iexact Hr

/-- What the first half of step `n` leaves, once its result chunk is being copied out. -/
def Next1 (lg : Dev nD → S2x1024x8192.Idx → Elt F .bf16) (c : Dev nD) (n : ℕ) : sProp 𝕄 :=
  iprop(StA lg c (n + 1) ∗ rights (XRight (F := F) c) (n + 1) ∗ (only (3 ≤ n ∧ n ≤ 6) (YRight (F := F) c (n + 1)) -∗ rights (YRight (F := F) c) (n + 1)) ∗ othH lg c n)

/-- The first half of step `n`, up to the storing of the result chunk. -/
theorem first (hi : (i 0).val = n) (hn : n < 8) {S : Finset (Idx (win.view.loc (c : Thread nD τ)))}
    {f : Buf (Elt F) (win.view.loc (c : Thread nD τ))} {q : PosShare TreeShare} (hR : Reads lg c S f n)
    {hw ho hloc hoth hxr hyr hst v2 v5 v6 v7 v8 v9 hc} {β : Type} {G : _ → Prog (TpuEff nD τ sig (Elt F) Λ₀ .tc) β} {Q : β → sProp 𝕄} :
    iprop(pers lg K ∗ (win.view.loc (c : Thread nD τ) ↦[S]{q} f) ∗ owe c (Owed c n) ∗ StA lg c n ∗ rights (XRight (F := F) c) n ∗ rights (YRight (F := F) c) n
        ∗ Far (F := F) c ∗ yRide (F := F) c n ∗ othA (F := F) c n)
      ⊢ iprop((∀ w, iprop((win.view.loc (c : Thread nD τ) ↦[S]{q} f) ∗ owe c (Owed c (n + 1) + dueD c n) ∗ stA (F := F) c n ∗ outA (F := F) c (ownR c n)
            ∗ dutyTok ER (stC c n) (n / 2) 0 ∗ reached ER (stC c n) (n / 2) ∗ (cred (tallyAt (stC c n) 0 NO) -∗ Next1 lg c n))
          -∗ run c (G ⟨w, k1_pay10 (ch lg c (ownR c n)), k1_pay11 (ch lg (xn c) (ownR c n)), k1_pay12 (ch lg c (ownR c n)), k1_pay13 (ch lg (xn c) (ownR c n))⟩) Q)
        -∗ run c (k1_part1 (F := F) i win hw outM ho locM hloc othM hoth xrM hxr yrM hyr stM hst cc1_scratch5 cc1_scratch6 cc1_scratch7 cc1_scratch8 cc1_scratch9
            cc1_scratch10 cc1_scratch11 (BitVec.ofNat 32 (i 0).val) c v5 v6 v8 hc >>= fun _ =>
          k1_part2 (F := F) i win hw outM ho locM hloc othM hoth xrM hxr yrM hyr stM hst cc1_scratch5 cc1_scratch6 cc1_scratch7 cc1_scratch8 cc1_scratch9
            cc1_scratch10 cc1_scratch11 (BitVec.ofNat 32 (i 0).val) c v2 v5 v6 v7 v8 v9 hc >>= G) Q) := by
  have hO := (above_Owed c (q := n + 1) (b := 10 * n + 2) (by omega)).add (above_D c (j := n) (b := 10 * n + 2) (by omega))
  have hOC := hO.add (above_C c hn (b := 10 * n + 2) (by omega))
  have hOB := hOC.add (above_B c (j := n) (b := 10 * n + 2) (by omega))
  have hOA : Above (10 * n) (Owed c (n + 1) + dueD c n + dueC c n + dueB c n + dueA c n) := (hOB.mono (by omega)).add (above_A c hn (by omega))
  rw [Owed_step c hn]
  unfold StA Far Carry
  rw [take_Ico _ hn]
  iintro ⟨#Hp, Hw, HO, HA, HX, HY, ⟨#Hfx, #Hfy⟩, Hyride, Hoth⟩ Hk
  icases HA with ⟨⟨Hloc, Hloc'⟩, ⟨Hx0, Hx1, Hx2, Hx3⟩, ⟨Hyf, Hyf', Hys, Hys'⟩, ⟨Hxc, Hyc⟩, ⟨Hst, Hst'⟩, ⟨Hxf, Hxk⟩, ⟨Hkit, Hkits⟩, Hdone⟩
  unfold KitA
  icases Hkit with ⟨Ht1, Ht2, Ht3, Ht4, Ht5, Hcx, Hout, Htx, Hcc, Hcy⟩
  ihave Hx1 := (pos_reached (F := F)) $$ Hx1
  icases Hx1 with ⟨Hx1, #Hxr1⟩
  ihave HX := (rights_step (XRight (F := F) c) hn) $$ HX
  icases HX with ⟨HX, HXs⟩
  ihave HY := (rights_step (YRight (F := F) c) hn) $$ HY
  icases HY with ⟨HY, HYs⟩
  ihave Hride := (xRide_intro (F := F) c (n := n)) $$ [Hxf]
  · isplitl [Hxf]; · iexact Hxf
    iexact Hxr1
  iapply (run_then (part1 (lg := lg) (K := K) (q := q) hi hn hR hOA)) $$ [Hw HO Hloc Hoth Hxc Hcc Hride HX Ht1 Ht2]
  · isplitr; · iexact Hp
    isplitl [Hw]; · iexact Hw
    isplitl [HO]; · iexact HO
    isplitl [Hloc]; · iexact Hloc
    isplitl [Hoth]; · iexact Hoth
    isplitl [Hxc]; · iexact Hxc
    isplitl [Hcc]; · iexact Hcc
    isplitl [Hride]; · iexact Hride
    isplitl [HX]; · iexact HX
    isplitl [Ht1] <;> iassumption
  iintro ⟨Hw, HO, Hloc, Hoth, Hxc⟩
  iapply (run_seq (part2 (lg := lg) (K := K) hi hn hOB hOC (hO.mono (by omega)))) $$ [HO Hloc Hcx Hx0 Hyf Hys Htx Hyc Hcy Hyride HY Ht3 Ht4 Hst]
  · isplitr; · iexact Hp
    isplitl [HO]; · iexact HO
    isplitl [Hloc]; · iexact Hloc
    isplitl [Hcx]; · iexact Hcx
    isplitl [Hx0]; · iexact Hx0
    isplitl [Hyf]; · iexact Hyf
    isplitl [Hys]; · iexact Hys
    isplitl [Htx]; · iexact Htx
    isplitr; · iexact Hfx
    isplitl [Hyc]; · iexact Hyc
    isplitl [Hcy]; · iexact Hcy
    isplitl [Hyride]; · iexact Hyride
    isplitl [HY]; · iexact HY
    isplitl [Ht3]; · iexact Ht3
    isplitl [Ht4] <;> iassumption
  iintro %x ⟨%hx, HO, Hloc, Hx4, Hxride, Hys0, Hys2, Hxf, Hyc, ⟨Hst, Hsp⟩, Hd⟩
  ihave Hsp := (pos_reached (F := F)) $$ Hsp
  icases Hsp with ⟨Hsp, #Hsr⟩
  obtain ⟨w, rfl⟩ := hx
  iapply Hk $$ %w
  isplitl [Hw]; · iexact Hw
  isplitl [HO]; · iexact HO
  isplitl [Hst]; · iexact Hst
  isplitl [Hout]; · iexact Hout
  isplitl [Ht5]; · iexact Ht5
  isplitr; · iexact Hsr
  iintro Hcr
  ihave Hcar := (Carry_step (F := F) c hn) $$ [Hxk Hxf]
  · isplitl [Hxk] <;> iassumption
  ihave Hdone := (done_step (fun k => outH lg c (ownR c k)) (n := n)) $$ [Hdone Hd]
  · isplitl [Hdone] <;> iassumption
  ihave Hloc := (Entails.of_eq (LocAt_sent lg c (n := n)).symm) $$ Hloc
  ihave Hys0 := (Entails.of_eq (YFl_sent lg c (n := n)).symm) $$ Hys0
  unfold Next1 StA
  isplitr [HXs Hxride HYs Hoth]
  · isplitl [Hloc' Hloc]; · isplitl [Hloc'] <;> iassumption
    isplitl [Hx1 Hx2 Hx3 Hx4]
    · isplitl [Hx1]
      · iexact Hx1
      isplitl [Hx2]; · iexact Hx2
      isplitl [Hx3] <;> iassumption
    isplitl [Hyf' Hys0 Hys' Hys2]
    · isplitl [Hyf']; · iexact Hyf'
      isplitl [Hys0]; · iexact Hys0
      isplitl [Hys'] <;> iassumption
    isplitl [Hxc Hyc]; · isplitl [Hxc] <;> iassumption
    isplitl [Hst' Hsp Hcr]
    · isplitl [Hst']; · iexact Hst'
      iapply (Entails.of_eq (StAt_sent (F := F) c (n := n)).symm)
      isplitl [Hcr]; · iexact Hcr
      iexact Hsp
    isplitl [Hcar]; · iexact Hcar
    isplitl [Hkits]; · iexact Hkits
    iexact Hdone
  · isplitl [HXs Hxride]
    · iapply HXs
      iapply (xRide_right (F := F) c (n := n)); iexact Hxride
    isplitl [HYs] <;> iassumption

theorem keep_yr : iprop(bigSep (Finset.Ico 4 m) (yrA (F := F) c) ∗ yrA (F := F) c m)
    ⊢ iprop(bigSep (Finset.Ico 4 (m + 1)) (yrA (F := F) c) ∗ only (m ≤ 3) (yrA (F := F) c m)) := by
  by_cases h : m ≤ 3
  · rw [only_pos h, none_Ico _ (by omega), none_Ico _ (by omega)]
  · rw [only_neg h, push_Ico _ (by omega)]
    iintro ⟨H1, H2⟩
    isplitl
    · isplitl [H2] <;> iassumption
    iempintro

/-- What the second half of the step after chunk `m` leaves, once its result chunk is being copied out. -/
def Next2 (lg : Dev nD → S2x1024x8192.Idx → Elt F .bf16) (c : Dev nD) (m : ℕ) : sProp 𝕄 :=
  iprop(StB lg c (m + 1) ∗ othA (F := F) c m ∗ yRide (F := F) (yn c) m ∗ only (m ≤ 3) (yrA (F := F) c m))

/-- The second half of the step after chunk `m`, up to the storing of the result chunk. -/
theorem second (hi : (i 0).val = m + 1) (hm : m < 8)
    {hw ho hloc hoth hxr hyr hst v2 v5 v7 v11 v13 hc} {β : Type} {G : _ → Prog (TpuEff nD τ sig (Elt F) Λ₀ .tc) β} {Q : β → sProp 𝕄} :
    iprop(pers lg K ∗ owe c (Owed c (m + 2) + dueD c (m + 1)) ∗ StB lg c m ∗ othH lg c m)
      ⊢ iprop((∀ w w', iprop(owe c (Owed c (m + 2) + dueD c (m + 1)) ∗ suA (F := F) c m ∗ outA (F := F) c (othR c m)
            ∗ dutyTok ER (suC c m) (m / 2) 0 ∗ reached ER (suC c m) (m / 2) ∗ only (m ≤ 3) (dutyTok ER (ycC (yn c)) 0 m)
            ∗ (cred (tallyAt (suC c m) 0 NO) -∗ Next2 lg c m))
          -∗ run c (G ⟨w, w', k1_pay15 (ch lg (xn (yn c)) (othR c m)), k1_pay16 (ch lg c (othR c m)) (ch lg (xn (yn c)) (othR c m)),
            k1_pay17 (ch lg c (othR c m)) (ch lg (xn (yn c)) (othR c m))⟩) Q)
        -∗ run c (k1_part3 (F := F) i win hw outM ho locM hloc othM hoth xrM hxr yrM hyr stM hst cc1_scratch5 cc1_scratch6 cc1_scratch7 cc1_scratch8 cc1_scratch9
          cc1_scratch10 cc1_scratch11 (BitVec.ofNat 32 (i 0).val) v2 v5 v7 v11 v13 hc >>= G) Q) := by
  have hO := (above_Owed c (q := m + 2) (b := 10 * m + 4) (by omega)).add (above_D c (j := m + 1) (b := 10 * m + 4) (by omega))
  unfold StB
  rw [take_Ico _ hm]
  iintro ⟨#Hp, HO, HB, Hoth⟩ Hk
  icases HB with ⟨⟨Hy0, Hy1, Hy2, Hy3⟩, ⟨Hst, Hst'⟩, Hyk, ⟨Hkit, Hkits⟩, Hdone⟩
  unfold KitB
  icases Hkit with ⟨Ht, Hcr, Hout, Hty⟩
  iapply (run_seq (part3 (lg := lg) (K := K) hi hm hO)) $$ [HO Hcr Hy0 Hst Hoth]
  · isplitr; · iexact Hp
    isplitl [HO]; · iexact HO
    isplitl [Hcr]; · iexact Hcr
    isplitl [Hy0]; · iexact Hy0
    isplitl [Hst] <;> iassumption
  iintro %x ⟨%hx, HO, Hy4, Hyh, Hride, ⟨Hst, Hsp⟩, Hd, Hoth⟩
  obtain ⟨w, w', rfl⟩ := hx
  ihave Hsp := (pos_reached (F := F)) $$ Hsp
  icases Hsp with ⟨Hsp, #Hsr⟩
  iapply Hk $$ %w %w'
  isplitl [HO]; · iexact HO
  isplitl [Hst]; · iexact Hst
  isplitl [Hout]; · iexact Hout
  isplitl [Ht]; · iexact Ht
  isplitr; · iexact Hsr
  isplitl [Hty]; · iexact Hty
  iintro Hcr
  ihave Hyh := (yrA_of lg c (n := m)) $$ Hyh
  ihave Hyk := (keep_yr (F := F) (c := c) (m := m)) $$ [Hyk Hyh]
  · isplitl [Hyk] <;> iassumption
  icases Hyk with ⟨Hyk, Hyh⟩
  ihave Hdone := (done_step (fun k => outH lg c (othR c k)) (n := m)) $$ [Hdone Hd]
  · isplitl [Hdone] <;> iassumption
  unfold Next2 StB
  isplitr [Hoth Hride Hyh]
  · isplitl [Hy1 Hy2 Hy3 Hy4]
    · isplitl [Hy1]; · iexact Hy1
      isplitl [Hy2]; · iexact Hy2
      isplitl [Hy3]; · iexact Hy3
      iexact Hy4
    isplitl [Hst' Hsp Hcr]
    · isplitl [Hst']; · iexact Hst'
      iapply (Entails.of_eq (St2At_sent (F := F) c (n := m)).symm)
      isplitl [Hcr]; · iexact Hcr
      iexact Hsp
    isplitl [Hyk]; · iexact Hyk
    isplitl [Hkits]; · iexact Hkits
    iexact Hdone
  isplitl [Hoth]; · iapply (othA_of lg c); iexact Hoth
  isplitl [Hride] <;> iassumption

end Halves

end Cert.Exchange
-- ==== Proof.Close.lean ====
/-
  The buffers cut into their slots and put together again, and the semaphores closed at the end.
-/
module

public import proofs.«01_k».proof.Proof.Step
public import Idealize.ShloMosaic.Lib.Ring

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Slots and rows -/

theorem slot_disj {n v : ℕ} (a b : Fin n) (h : a ≠ b) : Disjoint (slot (n := n) (v := v) a.val) (slot b.val) :=
  Finset.disjoint_filter.mpr fun x _ h1 h2 => h (Fin.ext (h1.symm.trans h2))
theorem slot_cover {n v : ℕ} : (Finset.univ : Finset (Fin n)).biUnion (fun a => slot (n := n) (v := v) a.val) = Finset.univ :=
  Finset.eq_univ_iff_forall.mpr fun x => Finset.mem_biUnion.mpr ⟨x 0, Finset.mem_univ _, Finset.mem_filter.mpr ⟨Finset.mem_univ _, rfl⟩⟩
theorem rows_disj (a b : Fin 2 × Fin 8) (h : a ≠ b) : Disjoint (rows (a.2.val + 8 * a.1.val)) (rows (b.2.val + 8 * b.1.val)) :=
  Finset.disjoint_filter.mpr fun x _ h1 h2 => h (Prod.ext (Fin.ext (by have := a.2.isLt; have := b.2.isLt; omega)) (Fin.ext (by have := a.2.isLt; have := b.2.isLt; omega)))
theorem rows_cover : (Finset.univ : Finset (Fin 2 × Fin 8)).biUnion (fun a => rows (a.2.val + 8 * a.1.val)) = Finset.univ :=
  Finset.eq_univ_iff_forall.mpr fun x => by
    have hx : (x 0).val < 2048 := (x 0).isLt
    refine Finset.mem_biUnion.mpr ⟨(⟨(x 0).val / 128 / 8, by omega⟩, ⟨(x 0).val / 128 % 8, by omega⟩), Finset.mem_univ _, ?_⟩
    refine Finset.mem_filter.mpr ⟨Finset.mem_univ _, ?_⟩
    show (x 0).val / 128 = (x 0).val / 128 % 8 + 8 * ((x 0).val / 128 / 8)
    omega

theorem bigSep_two (Φ : Fin 2 → sProp 𝕄) : bigSep Finset.univ Φ = iprop(Φ 0 ∗ Φ 1) := BI.bigSep_fin_two Φ
theorem bigSep_four (Φ : Fin 4 → sProp 𝕄) : bigSep Finset.univ Φ = iprop(Φ 0 ∗ Φ 1 ∗ Φ 2 ∗ Φ 3) := by
  rw [BI.bigSep_eq_bigSepL_of_eq [0, 1, 2, 3] (by decide) (by decide)]
  rfl
theorem bigSep_upto (n : ℕ) (f : ℕ → sProp 𝕄) : bigSep (Finset.univ : Finset (Fin n)) (fun k => f k.val) = bigSep (Finset.Ico 0 n) f := by
  rw [show Finset.Ico 0 n = (Finset.univ : Finset (Fin n)).map Fin.valEmbedding from by ext x; simp [Fin.exists_iff], BI.bigSep_map]
  rfl

variable {c : Dev nD}

theorem sep_comm_of (P Q : sProp 𝕄) : iprop(P ∗ Q) = iprop(Q ∗ P) :=
  have h : iprop(P ∗ Q) ⊣⊢ iprop(Q ∗ P) := Laws.sep_comm
  BI.equiv_iff.mp ⟨h.1, h.2⟩
theorem sep_assoc_of (P Q R : sProp 𝕄) : iprop((P ∗ Q) ∗ R) = iprop(P ∗ Q ∗ R) :=
  have h : iprop((P ∗ Q) ∗ R) ⊣⊢ iprop(P ∗ Q ∗ R) := Laws.sep_assoc
  BI.equiv_iff.mp ⟨h.1, h.2⟩
theorem two_nat (f : ℕ → sProp 𝕄) : bigSep (Finset.univ : Finset (Fin 2)) (fun a => f a.val) = iprop(f 0 ∗ f 1) := bigSep_two _
theorem four_nat (f : ℕ → sProp 𝕄) : bigSep (Finset.univ : Finset (Fin 4)) (fun a => f a.val) = iprop(f 0 ∗ f 1 ∗ f 2 ∗ f 3) := bigSep_four _

/-- A buffer of two slots, cut, and put together. -/
theorem cut_loc : iprop(∃ f, locM.view.loc (c : Thread nD τ) ↦{fullShare} f) ⊢ iprop(locA (F := F) c 0 ∗ locA (F := F) c 1) :=
  exists_elim fun f => (Entails.of_eq ((Ring.pointsTo_blocks (ℓ := locM.view.loc (c : Thread nD τ)) (fun a : Fin 2 => slot (n := 2) (v := 8192) a.val) slot_disj slot_cover f).trans
    (two_nat fun s => locP c s fullShare f))).trans (BIClass.sep_mono (exists_intro (Φ := fun g => locP (F := F) c 0 fullShare g) f) (exists_intro (Φ := fun g => locP (F := F) c 1 fullShare g) f))
theorem join_loc : iprop(locA (F := F) c 0 ∗ locA (F := F) c 1) ⊢ iprop(∃ f, locM.view.loc (c : Thread nD τ) ↦{fullShare} f) :=
  (Entails.of_eq (two_nat (fun s => iprop(∃ g, locP (F := F) c s fullShare g))).symm).trans
    (Ring.pointsTo_blocks_join_exists (ℓ := locM.view.loc (c : Thread nD τ)) (fun a : Fin 2 => slot (n := 2) (v := 8192) a.val) slot_disj slot_cover (fun _ => default))
theorem cut_oth : iprop(∃ f, othM.view.loc (c : Thread nD τ) ↦{fullShare} f) ⊢ iprop(othA (F := F) c 0 ∗ othA (F := F) c 1) :=
  exists_elim fun f => (Entails.of_eq ((Ring.pointsTo_blocks (ℓ := othM.view.loc (c : Thread nD τ)) (fun a : Fin 2 => slot (n := 2) (v := 8192) a.val) slot_disj slot_cover f).trans
    (two_nat fun s => othP c s f))).trans (BIClass.sep_mono (exists_intro (Φ := fun g => othP (F := F) c 0 g) f) (exists_intro (Φ := fun g => othP (F := F) c 1 g) f))
theorem join_oth : iprop(othA (F := F) c 0 ∗ othA (F := F) c 1) ⊢ iprop(∃ f, othM.view.loc (c : Thread nD τ) ↦{fullShare} f) :=
  (Entails.of_eq (two_nat (fun s => iprop(∃ g, othP (F := F) c s g))).symm).trans
    (Ring.pointsTo_blocks_join_exists (ℓ := othM.view.loc (c : Thread nD τ)) (fun a : Fin 2 => slot (n := 2) (v := 8192) a.val) slot_disj slot_cover (fun _ => default))

/-- The same for the buffers of four slots. -/
theorem cut_xr : iprop(∃ f, xrM.view.loc (c : Thread nD τ) ↦{fullShare} f) ⊢ iprop(xrA (F := F) c 0 ∗ xrA (F := F) c 1 ∗ xrA (F := F) c 2 ∗ xrA (F := F) c 3) :=
  exists_elim fun f => (Entails.of_eq ((Ring.pointsTo_blocks (ℓ := xrM.view.loc (c : Thread nD τ)) (fun a : Fin 4 => slot (n := 4) (v := 8192) a.val) slot_disj slot_cover f).trans
    (four_nat fun s => xrP c s fullShare f))).trans (BIClass.sep_mono (exists_intro (Φ := fun g => xrP (F := F) c 0 fullShare g) f) (BIClass.sep_mono (exists_intro (Φ := fun g => xrP (F := F) c 1 fullShare g) f) (BIClass.sep_mono (exists_intro (Φ := fun g => xrP (F := F) c 2 fullShare g) f) (exists_intro (Φ := fun g => xrP (F := F) c 3 fullShare g) f))))
theorem join_xr : iprop(xrA (F := F) c 0 ∗ xrA (F := F) c 1 ∗ xrA (F := F) c 2 ∗ xrA (F := F) c 3) ⊢ iprop(∃ f, xrM.view.loc (c : Thread nD τ) ↦{fullShare} f) :=
  (Entails.of_eq (four_nat (fun s => iprop(∃ g, xrP (F := F) c s fullShare g))).symm).trans
    (Ring.pointsTo_blocks_join_exists (ℓ := xrM.view.loc (c : Thread nD τ)) (fun a : Fin 4 => slot (n := 4) (v := 8192) a.val) slot_disj slot_cover (fun _ => default))
theorem cut_yr : iprop(∃ f, yrM.view.loc (c : Thread nD τ) ↦{fullShare} f) ⊢ iprop(yrA (F := F) c 0 ∗ yrA (F := F) c 1 ∗ yrA (F := F) c 2 ∗ yrA (F := F) c 3) :=
  exists_elim fun f => (Entails.of_eq ((Ring.pointsTo_blocks (ℓ := yrM.view.loc (c : Thread nD τ)) (fun a : Fin 4 => slot (n := 4) (v := 8192) a.val) slot_disj slot_cover f).trans
    (four_nat fun s => yrP c s f))).trans (BIClass.sep_mono (exists_intro (Φ := fun g => yrP (F := F) c 0 g) f) (BIClass.sep_mono (exists_intro (Φ := fun g => yrP (F := F) c 1 g) f) (BIClass.sep_mono (exists_intro (Φ := fun g => yrP (F := F) c 2 g) f) (exists_intro (Φ := fun g => yrP (F := F) c 3 g) f))))
theorem join_yr : iprop(yrA (F := F) c 0 ∗ yrA (F := F) c 1 ∗ yrA (F := F) c 2 ∗ yrA (F := F) c 3) ⊢ iprop(∃ f, yrM.view.loc (c : Thread nD τ) ↦{fullShare} f) :=
  (Entails.of_eq (four_nat (fun s => iprop(∃ g, yrP (F := F) c s g))).symm).trans
    (Ring.pointsTo_blocks_join_exists (ℓ := yrM.view.loc (c : Thread nD τ)) (fun a : Fin 4 => slot (n := 4) (v := 8192) a.val) slot_disj slot_cover (fun _ => default))
theorem st_four : iprop((stA (F := F) c 0 ∗ stA (F := F) c 1) ∗ suA (F := F) c 0 ∗ suA (F := F) c 1)
    = bigSep (Finset.univ : Finset (Fin 4)) (fun a => iprop(∃ g, stP (F := F) c a.val g)) :=
  (sep_assoc_of _ _ _).trans (four_nat (fun s => iprop(∃ g, stP (F := F) c s g))).symm
theorem cut_st : iprop(∃ f, stM.view.loc (c : Thread nD τ) ↦{fullShare} f) ⊢ iprop((stA (F := F) c 0 ∗ stA (F := F) c 1) ∗ suA (F := F) c 0 ∗ suA (F := F) c 1) :=
  exists_elim fun f => (Entails.of_eq (Ring.pointsTo_blocks (ℓ := stM.view.loc (c : Thread nD τ)) (fun a : Fin 4 => slot (n := 4) (v := 16384) a.val) slot_disj slot_cover f)).trans
    (BIBase.Entails.trans (BI.bigSep_mono fun a _ => exists_intro (Φ := fun g => stP (F := F) c a.val g) f) (Entails.of_eq st_four.symm))
theorem join_st : iprop((stA (F := F) c 0 ∗ stA (F := F) c 1) ∗ suA (F := F) c 0 ∗ suA (F := F) c 1) ⊢ iprop(∃ f, stM.view.loc (c : Thread nD τ) ↦{fullShare} f) :=
  (Entails.of_eq st_four).trans
    (Ring.pointsTo_blocks_join_exists (ℓ := stM.view.loc (c : Thread nD τ)) (fun a : Fin 4 => slot (n := 4) (v := 16384) a.val) slot_disj slot_cover (fun _ => default))

/-- The rows of the own half and of the other half make up the result. -/
theorem rows_halves (g : S2048x16384.Idx → Elt F .bf16) : (outM.view.loc (c : Thread nD τ) ↦{fullShare} g : sProp 𝕄)
    = iprop(bigSep (Finset.Ico 0 8) (fun n => outP c (ownR c n) g) ∗ bigSep (Finset.Ico 0 8) (fun n => outP c (othR c n) g)) := by
  refine (Ring.pointsTo_blocks (ℓ := outM.view.loc (c : Thread nD τ)) (fun a : Fin 2 × Fin 8 => rows (a.2.val + 8 * a.1.val)) rows_disj rows_cover g).trans ?_
  refine (BI.bigSep_univ_prod (fun a : Fin 2 × Fin 8 => (outP c (a.2.val + 8 * a.1.val) g : sProp 𝕄))).trans ?_
  rw [bigSep_two, bigSep_upto 8 (fun k => outP c (k + 8 * (0 : Fin 2).val) g), bigSep_upto 8 (fun k => outP c (k + 8 * (1 : Fin 2).val) g)]
  unfold ownR othR
  rcases Nat.mod_two_eq_zero_or_one c.val with h | h
  · rw [h]; rfl
  · rw [h]; exact sep_comm_of _ _

theorem cut_out : iprop(∃ f, outM.view.loc (c : Thread nD τ) ↦{fullShare} f)
    ⊢ iprop(bigSep (Finset.Ico 0 8) (fun n => outA (F := F) c (ownR c n)) ∗ bigSep (Finset.Ico 0 8) (fun n => outA (F := F) c (othR c n))) := by
  refine exists_elim fun f => (Entails.of_eq (rows_halves (F := F) (c := c) f)).trans (BIClass.sep_mono ?_ ?_)
  · exact BI.bigSep_mono fun n _ => exists_intro (Φ := fun g => outP (F := F) c (ownR c n) g) f
  · exact BI.bigSep_mono fun n _ => exists_intro (Φ := fun g => outP (F := F) c (othR c n) g) f

/-! ## The semaphores -/

variable {lg : Dev nD → S2x1024x8192.Idx → Elt F .bf16} {K : GSem nD τ sig → ℕ}

/-- The call's own semaphores, each at a round. -/
def Cells (c : Dev nD) (R : Fin 20 → ℕ) : sProp 𝕄 := bigSep Finset.univ fun k : Fin 20 => pos ((c : Thread nD τ), osem k) (R k)

/-- The first round of each without duties. -/
def lastR (k : Fin 20) : ℕ := if k.val < 2 then 1 else if k.val < 4 then 4 else if k.val < 16 then 2 else 4

theorem lastR_spec (k : Fin 20) (r : ℕ) (h : lastR k ≤ r) : dutiesAt (osem k) r = ∅ := by
  unfold lastR at h
  by_cases h2 : k.val < 2
  · rw [if_pos h2] at h
    rw [show osem k = .reg (⟨k.val, by omega⟩ : Fin 3) from dif_pos h2]
    unfold dutiesAt
    exact if_neg (by omega)
  · rw [if_neg h2] at h
    rw [show osem k = .dma (⟨k.val + 6, by omega⟩ : Fin 26) from dif_neg h2]
    unfold dutiesAt
    refine if_neg ?_
    show ¬ (8 ≤ k.val + 6 ∧ r < if k.val + 6 < 10 then 4 else if k.val + 6 < 22 then 2 else 4)
    split_ifs at h ⊢ <;> omega

theorem close_cells : iprop(pers lg K ∗ Cells (F := F) c lastR) ⊢ (|={Set.univ}=> Pipeline.ownSems0 osem c : sProp 𝕄) := by
  unfold Cells Pipeline.ownSems0
  refine (bigSep_with_persistent (Ψ := fun k : Fin 20 => iprop(|={Set.univ}=> semVal ((c : Thread nD τ), osem k) 0)) fun k _ => ?_).trans (bigSep_fupd _ _)
  unfold pos
  iintro ⟨#Hp, ⟨Hat, -⟩⟩
  iapply (Rounds.cell_close ER (Rd lg) (g := ((c : Thread nD τ), osem k)) (Set.mem_univ (K _)) id (duties_later lg c (osem k) (lastR k) (lastR_spec k)))
  isplitr; · iapply (pers_inv lg (mem_sc c k)); iexact Hp
  iexact Hat

theorem cells_eq (R : Fin 20 → ℕ) : Cells (F := F) c R
    = iprop(pos (xcC c) (R 0) ∗ pos (ycC c) (R 1) ∗ pos (xsC c 0) (R 2) ∗ pos (xsC c 1) (R 3)
      ∗ pos (xrC c 0) (R 4) ∗ pos (xrC c 1) (R 5) ∗ pos (xrC c 2) (R 6) ∗ pos (xrC c 3) (R 7)
      ∗ pos (ysC c 0) (R 8) ∗ pos (ysC c 1) (R 9) ∗ pos (ysC c 2) (R 10) ∗ pos (ysC c 3) (R 11)
      ∗ pos (yrC c 0) (R 12) ∗ pos (yrC c 1) (R 13) ∗ pos (yrC c 2) (R 14) ∗ pos (yrC c 3) (R 15)
      ∗ pos (stC c 0) (R 16) ∗ pos (stC c 1) (R 17) ∗ pos (suC c 0) (R 18) ∗ pos (suC c 1) (R 19)) := by
  unfold Cells
  rw [BI.bigSep_eq_bigSepL_of_eq [0, 1, 2, 3, 4, 5, 6, 7, 8, 9, 10, 11, 12, 13, 14, 15, 16, 17, 18, 19] (by decide) (by decide)]
  rfl

/-- All credits taken, a credit semaphore is at its end. -/
theorem end_xc : iprop(pers lg K ∗ XCp (F := F) c 8) ⊢ (|={Set.univ}=> pos (xcC c) 1 : sProp 𝕄) := by
  unfold XCp pos
  iintro ⟨#Hp, ⟨%T, %hT, Hat⟩⟩
  iapply (Rounds.fupd_skip ER (Rd lg) (g := xcC c) (κ := K (xcC c)) (R := 0) (m := 8 - 4) (T := T)
    (by rw [duties_xc]; exact Finset.sdiff_eq_empty_iff_subset.mp (Finset.card_eq_zero.mp (by omega))) (by rfl) (Set.mem_univ _))
  isplitr; · iapply (pers_inv lg (mem_xc c)); iexact Hp
  iexact Hat
theorem end_yc : iprop(pers lg K ∗ YCp (F := F) c 8) ⊢ (|={Set.univ}=> pos (ycC c) 1 : sProp 𝕄) := by
  unfold YCp pos
  iintro ⟨#Hp, ⟨%T, %hT, Hat⟩⟩
  iapply (Rounds.fupd_skip ER (Rd lg) (g := ycC c) (κ := K (ycC c)) (R := 0) (m := 8 - 4) (T := T)
    (by rw [duties_yc]; exact Finset.sdiff_eq_empty_iff_subset.mp (Finset.card_eq_zero.mp (by omega))) (by rfl) (Set.mem_univ _))
  isplitr; · iapply (pers_inv lg (mem_yc c)); iexact Hp
  iexact Hat
theorem end_bar : iprop(pers lg K ∗ pos (bC c) 1) ⊢ (|={Set.univ}=> semVal (bC c) 0 : sProp 𝕄) := by
  unfold pos
  iintro ⟨#Hp, ⟨Hat, -⟩⟩
  iapply (Rounds.cell_close ER (Rd lg) (g := bC c) (Set.mem_univ (K _)) id (duties_later lg c (.reg bS) 1 (fun r h => if_neg (by omega))))
  isplitr; · iapply (pers_inv lg (mem_bar c)); iexact Hp
  iexact Hat

/-! ## The end -/

/-- The scratch buffers whole, at contents not named. -/
def Scr (c : Dev nD) : sProp 𝕄 :=
  iprop((∃ f, locM.view.loc (c : Thread nD τ) ↦{fullShare} f) ∗ (∃ f, othM.view.loc (c : Thread nD τ) ↦{fullShare} f)
    ∗ (∃ f, xrM.view.loc (c : Thread nD τ) ↦{fullShare} f) ∗ (∃ f, yrM.view.loc (c : Thread nD τ) ↦{fullShare} f) ∗ (∃ f, stM.view.loc (c : Thread nD τ) ↦{fullShare} f))

/-- The result written, every semaphore at zero. -/
def Fin' (lg : Dev nD → S2x1024x8192.Idx → Elt F .bf16) (c : Dev nD) : sProp 𝕄 :=
  iprop(Pipeline.ownSems0 osem c ∗ semVal (bC c) 0 ∗ Scr (F := F) c ∗ (outM.view.loc (c : Thread nD τ) ↦{fullShare} Gout lg c))

theorem leave : iprop(pers lg K
      ∗ (XCp (F := F) c 8 ∗ YCp (F := F) c 8 ∗ pos (bC c) 1)
      ∗ (LocFree (F := F) c 8 ∗ LocFree (F := F) c 9)
      ∗ (pos (xrC c 8) 2 ∗ pos (xrC c 9) 2 ∗ pos (xrC c 10) 2 ∗ pos (xrC c 11) 2)
      ∗ (pos (ysC c 8) 2 ∗ pos (ysC c 9) 2 ∗ pos (ysC c 10) 2 ∗ pos (ysC c 11) 2)
      ∗ (pos (yrC c 8) 2 ∗ pos (yrC c 9) 2 ∗ pos (yrC c 10) 2 ∗ pos (yrC c 11) 2)
      ∗ ((stA (F := F) c 8 ∗ pos (stC c 8) 4) ∗ (stA (F := F) c 9 ∗ pos (stC c 9) 4))
      ∗ ((suA (F := F) c 8 ∗ pos (suC c 8) 4) ∗ (suA (F := F) c 9 ∗ pos (suC c 9) 4))
      ∗ (othA (F := F) c 10 ∗ othA (F := F) c 11)
      ∗ (xrA (F := F) c 4 ∗ xrA (F := F) c 5 ∗ xrA (F := F) c 6 ∗ xrA (F := F) c 7)
      ∗ (yrA (F := F) c 4 ∗ yrA (F := F) c 5 ∗ yrA (F := F) c 6 ∗ yrA (F := F) c 7)
      ∗ bigSep (Finset.Ico 0 8) (fun k => outH lg c (ownR c k)) ∗ bigSep (Finset.Ico 0 8) (fun k => outH lg c (othR c k)))
    ⊢ (|={Set.univ}=> Fin' lg c : sProp 𝕄) := by
  unfold LocFree Fin' Scr
  iintro ⟨#Hp, ⟨Hxc, Hyc, Hb⟩, ⟨⟨Hl0, Hs0⟩, Hl1, Hs1⟩, ⟨Hx0, Hx1, Hx2, Hx3⟩, ⟨Hy0, Hy1, Hy2, Hy3⟩, ⟨Hr0, Hr1, Hr2, Hr3⟩, ⟨⟨Ht0, Hu0⟩, Ht1, Hu1⟩,
    ⟨⟨Hv0, Hw0⟩, Hv1, Hw1⟩, ⟨Ho0, Ho1⟩, Hxs, Hys, Ho, Hq⟩
  imod (end_xc (lg := lg) (K := K) (c := c)) $$ [Hxc] with Hxc
  · isplitr; · iexact Hp
    iexact Hxc
  imod (end_yc (lg := lg) (K := K) (c := c)) $$ [Hyc] with Hyc
  · isplitr; · iexact Hp
    iexact Hyc
  imod (end_bar (lg := lg) (K := K) (c := c)) $$ [Hb] with Hb
  · isplitr; · iexact Hp
    iexact Hb
  imod (close_cells (lg := lg) (K := K) (c := c)) $$ [Hxc Hyc Hs0 Hs1 Hx0 Hx1 Hx2 Hx3 Hy0 Hy1 Hy2 Hy3 Hr0 Hr1 Hr2 Hr3 Hu0 Hu1 Hw0 Hw1] with Hsem
  · isplitr; · iexact Hp
    iapply (Entails.of_eq (cells_eq (F := F) (c := c) lastR).symm)
    isplitl [Hxc]; · iexact Hxc
    isplitl [Hyc]; · iexact Hyc
    isplitl [Hs0]; · iexact Hs0
    isplitl [Hs1]; · iexact Hs1
    isplitl [Hx0]; · iexact Hx0
    isplitl [Hx1]; · iexact Hx1
    isplitl [Hx2]; · iexact Hx2
    isplitl [Hx3]; · iexact Hx3
    isplitl [Hy0]; · iexact Hy0
    isplitl [Hy1]; · iexact Hy1
    isplitl [Hy2]; · iexact Hy2
    isplitl [Hy3]; · iexact Hy3
    isplitl [Hr0]; · iexact Hr0
    isplitl [Hr1]; · iexact Hr1
    isplitl [Hr2]; · iexact Hr2
    isplitl [Hr3]; · iexact Hr3
    isplitl [Hu0]; · iexact Hu0
    isplitl [Hu1]; · iexact Hu1
    isplitl [Hw0]; · iexact Hw0
    iexact Hw1
  imodintro
  isplitl [Hsem]; · iexact Hsem
  isplitl [Hb]; · iexact Hb
  isplitr [Ho Hq]
  · isplitl [Hl0 Hl1]; · iapply (join_loc (F := F) (c := c)); isplitl [Hl0]; · iexact Hl0
                         iexact Hl1
    isplitl [Ho0 Ho1]; · iapply (join_oth (F := F) (c := c)); isplitl [Ho0]; · iexact Ho0
                         iexact Ho1
    isplitl [Hxs]; · iapply (join_xr (F := F) (c := c)); iexact Hxs
    isplitl [Hys]; · iapply (join_yr (F := F) (c := c)); iexact Hys
    iapply (join_st (F := F) (c := c))
    isplitl [Ht0 Ht1]
    · isplitl [Ht0]; · iexact Ht0
      iexact Ht1
    isplitl [Hv0]; · iexact Hv0
    iexact Hv1
  iapply (Entails.of_eq (rows_halves (F := F) (c := c) (Gout lg c)).symm)
  isplitl [Ho]; · iexact Ho
  iexact Hq

/-! ## The beginning -/

/-- The tokens and credits of chunk `n`'s two halves, given at the launch. -/
def TokA (c : Dev nD) (n : ℕ) : sProp 𝕄 :=
  iprop(dutyTok ER (xsC c n) (n / 2) 0 ∗ dutyTok ER (xrC (xn c) n) (n / 4) 0 ∗ dutyTok ER (ysC c n) (n / 4) 0 ∗ dutyTok ER (yrC (yn c) n) (n / 4) 0
    ∗ dutyTok ER (stC c n) (n / 2) 0 ∗ cred (tallyAt (xrC c n) n NX)
    ∗ only (2 ≤ n ∧ n ≤ 5) (dutyTok ER (xcC (xn c)) 0 (n - 2)) ∗ only (4 ≤ n) (cred (tallyAt (xcC c) (n - 2) 1)) ∗ only (4 ≤ n) (cred (tallyAt (ycC c) (n - 3) 1)))
def TokB (c : Dev nD) (m : ℕ) : sProp 𝕄 :=
  iprop(dutyTok ER (suC c m) (m / 2) 0 ∗ cred (tallyAt (yrC c m) m NX) ∗ only (m ≤ 3) (dutyTok ER (ycC (yn c)) 0 m))
def TokBar (c : Dev nD) : sProp 𝕄 :=
  iprop((dutyTok ER (bC (xn c)) 0 0 ∗ reached ER (bC (xn c)) 0) ∗ (dutyTok ER (bC (yn c)) 0 1 ∗ reached ER (bC (yn c)) 0) ∗ cred (tallyAt (bC c) 0 2))

theorem kits_a : iprop(bigSep (Finset.Ico 0 8) (TokA (F := F) c) ∗ bigSep (Finset.Ico 0 8) (fun n => outA (F := F) c (ownR c n))) ⊢ bigSep (Finset.Ico 0 8) (KitA (F := F) c) := by
  rw [← BI.bigSep_sep']
  refine BI.bigSep_mono fun n _ => ?_
  show iprop(TokA (F := F) c n ∗ outA (F := F) c (ownR c n)) ⊢ KitA (F := F) c n
  unfold TokA KitA
  iintro ⟨⟨H1, H2, H3, H4, H5, H6, H7, H8, H9⟩, Ho⟩
  isplitl [H1]; · iexact H1
  isplitl [H2]; · iexact H2
  isplitl [H3]; · iexact H3
  isplitl [H4]; · iexact H4
  isplitl [H5]; · iexact H5
  isplitl [H6]; · iexact H6
  isplitl [Ho]; · iexact Ho
  isplitl [H7]; · iexact H7
  isplitl [H8] <;> iassumption
theorem kits_b : iprop(bigSep (Finset.Ico 0 8) (TokB (F := F) c) ∗ bigSep (Finset.Ico 0 8) (fun n => outA (F := F) c (othR c n))) ⊢ bigSep (Finset.Ico 0 8) (KitB (F := F) c) := by
  rw [← BI.bigSep_sep']
  refine BI.bigSep_mono fun n _ => ?_
  show iprop(TokB (F := F) c n ∗ outA (F := F) c (othR c n)) ⊢ KitB (F := F) c n
  unfold TokB KitB
  iintro ⟨⟨H1, H2, H3⟩, Ho⟩
  isplitl [H1]; · iexact H1
  isplitl [H2]; · iexact H2
  isplitl [Ho] <;> iassumption

/-- What a neighbour is told at the barrier, from the own slots and the rounds reached. -/
theorem bar_x : iprop((xrA (F := F) c 0 ∗ xrA (F := F) c 1 ∗ xrA (F := F) c 2 ∗ xrA (F := F) c 3)
      ∗ (reached ER (xrC c 0) 0 ∗ reached ER (xrC c 1) 0 ∗ reached ER (xrC c 2) 0 ∗ reached ER (xrC c 3) 0) ∗ reached ER (xcC c) 0) ⊢ barPay (F := F) (xn c) 0 := by
  unfold barPay
  rw [if_pos rfl, xn_xn, Finset.range_eq_Ico, ← bigSep_upto 4 (fun n => iprop(xrA (F := F) c n ∗ reached ER (xrC c n) 0)), bigSep_four]
  iintro ⟨⟨H0, H1, H2, H3⟩, ⟨R0, R1, R2, R3⟩, Hc⟩
  isplitr [Hc]
  · isplitl [H0 R0]; · isplitl [H0]; · iexact H0
                       iexact R0
    isplitl [H1 R1]; · isplitl [H1]; · iexact H1
                       iexact R1
    isplitl [H2 R2]; · isplitl [H2]; · iexact H2
                       iexact R2
    isplitl [H3]; · iexact H3
    iexact R3
  iexact Hc
theorem bar_y : iprop((yrA (F := F) c 0 ∗ yrA (F := F) c 1 ∗ yrA (F := F) c 2 ∗ yrA (F := F) c 3)
      ∗ (reached ER (yrC c 0) 0 ∗ reached ER (yrC c 1) 0 ∗ reached ER (yrC c 2) 0 ∗ reached ER (yrC c 3) 0) ∗ reached ER (ycC c) 0) ⊢ barPay (F := F) (yn c) 1 := by
  unfold barPay
  rw [if_neg (by decide), yn_yn, Finset.range_eq_Ico, ← bigSep_upto 4 (fun n => iprop(yrA (F := F) c n ∗ reached ER (yrC c n) 0)), bigSep_four]
  iintro ⟨⟨H0, H1, H2, H3⟩, ⟨R0, R1, R2, R3⟩, Hc⟩
  isplitr [Hc]
  · isplitl [H0 R0]; · isplitl [H0]; · iexact H0
                       iexact R0
    isplitl [H1 R1]; · isplitl [H1]; · iexact H1
                       iexact R1
    isplitl [H2 R2]; · isplitl [H2]; · iexact H2
                       iexact R2
    isplitl [H3]; · iexact H3
    iexact R3
  iexact Hc

theorem early_xc : iprop(pos (xcC c) 0) ⊢ XCp (F := F) c 0 := by
  unfold pos XCp
  iintro ⟨Hat, -⟩
  iexists ∅
  isplitr; · ipureintro; decide
  iexact Hat
theorem early_yc : iprop(pos (ycC c) 0) ⊢ YCp (F := F) c 0 := by
  unfold pos YCp
  iintro ⟨Hat, -⟩
  iexists ∅
  isplitr; · ipureintro; decide
  iexact Hat

theorem LocAt_early {n : ℕ} (h : n < 2) : LocAt lg c n = LocFree (F := F) c n := if_pos h
theorem YFl_early {n : ℕ} (h : n < 2) : YFl lg c n = pos (ysC c (n + 2)) 0 := if_pos h
theorem StAt_early {n : ℕ} (h : n < 2) : StAt (F := F) c n = iprop(stA (F := F) c n ∗ pos (stC c n) (n / 2)) := if_pos h
theorem St2At_early {n : ℕ} (h : n < 2) : St2At (F := F) c n = iprop(suA (F := F) c n ∗ pos (suC c n) (n / 2)) := if_pos h

/-- The state before the first step. -/
theorem enter : iprop(Scr (F := F) c ∗ (∃ f, outM.view.loc (c : Thread nD τ) ↦{fullShare} f) ∗ Cells (F := F) c (fun _ => 0) ∗ pos (bC c) 0
      ∗ bigSep (Finset.Ico 0 8) (TokA (F := F) c) ∗ bigSep (Finset.Ico 0 8) (TokB (F := F) c) ∗ TokBar (F := F) c)
    ⊢ iprop(Core lg c 0 ∗ Bar (F := F) c) := by
  unfold Scr TokBar
  rw [cells_eq]
  iintro ⟨⟨Hl, Ho, Hx, Hy, Hs⟩, Hout, ⟨Pxc, Pyc, Pxs0, Pxs1, Pxr0, Pxr1, Pxr2, Pxr3, Pys0, Pys1, Pys2, Pys3, Pyr0, Pyr1, Pyr2, Pyr3, Pst0, Pst1, Psu0, Psu1⟩, Hb,
    HA, HB, ⟨⟨Tb1, #Rb1⟩, ⟨Tb2, #Rb2⟩, Hcb⟩⟩
  ihave Hl := (cut_loc (F := F) (c := c)) $$ Hl
  ihave Ho := (cut_oth (F := F) (c := c)) $$ Ho
  ihave Hx := (cut_xr (F := F) (c := c)) $$ Hx
  ihave Hy := (cut_yr (F := F) (c := c)) $$ Hy
  ihave Hs := (cut_st (F := F) (c := c)) $$ Hs
  ihave Hout := (cut_out (F := F) (c := c)) $$ Hout
  icases Hl with ⟨Hl0, Hl1⟩
  icases Ho with ⟨Ho0, Ho1⟩
  icases Hs with ⟨⟨Hs0, Hs1⟩, Hu0, Hu1⟩
  icases Hout with ⟨Hou, Hot⟩
  ihave HA := (kits_a (F := F) (c := c)) $$ [HA Hou]
  · isplitl [HA] <;> iassumption
  ihave HB := (kits_b (F := F) (c := c)) $$ [HB Hot]
  · isplitl [HB] <;> iassumption
  ihave Pxc := (pos_reached (F := F)) $$ Pxc
  icases Pxc with ⟨Pxc, #Rxc⟩
  ihave Pyc := (pos_reached (F := F)) $$ Pyc
  icases Pyc with ⟨Pyc, #Ryc⟩
  ihave Pxr0 := (pos_reached (F := F)) $$ Pxr0
  icases Pxr0 with ⟨Pxr0, #R0⟩
  ihave Pxr1 := (pos_reached (F := F)) $$ Pxr1
  icases Pxr1 with ⟨Pxr1, #R1⟩
  ihave Pxr2 := (pos_reached (F := F)) $$ Pxr2
  icases Pxr2 with ⟨Pxr2, #R2⟩
  ihave Pxr3 := (pos_reached (F := F)) $$ Pxr3
  icases Pxr3 with ⟨Pxr3, #R3⟩
  ihave Pyr0 := (pos_reached (F := F)) $$ Pyr0
  icases Pyr0 with ⟨Pyr0, #S0⟩
  ihave Pyr1 := (pos_reached (F := F)) $$ Pyr1
  icases Pyr1 with ⟨Pyr1, #S1⟩
  ihave Pyr2 := (pos_reached (F := F)) $$ Pyr2
  icases Pyr2 with ⟨Pyr2, #S2⟩
  ihave Pyr3 := (pos_reached (F := F)) $$ Pyr3
  icases Pyr3 with ⟨Pyr3, #S3⟩
  ihave Pxc := (early_xc (F := F) (c := c)) $$ Pxc
  ihave Pyc := (early_yc (F := F) (c := c)) $$ Pyc
  ihave Hx := (bar_x (F := F) (c := c)) $$ [Hx]
  · isplitl [Hx]; · iexact Hx
    isplitl
    · isplitl; · iexact R0
      isplitl; · iexact R1
      isplitl; · iexact R2
      iexact R3
    iexact Rxc
  ihave Hy := (bar_y (F := F) (c := c)) $$ [Hy]
  · isplitl [Hy]; · iexact Hy
    isplitl
    · isplitl; · iexact S0
      isplitl; · iexact S1
      isplitl; · iexact S2
      iexact S3
    iexact Ryc
  unfold Core Bar
  isplitr [Tb1 Tb2 Hcb Hb Hx Hy]
  · isplitr [Ho0 Ho1 HB Hu0 Hu1 Pyr0 Pyr1 Pyr2 Pyr3 Psu0 Psu1]
    · rw [show min 0 8 = 0 from rfl]
      unfold StA Carry done
      rw [LocAt_early (by omega), LocAt_early (by omega), YFl_early (by omega), YFl_early (by omega), StAt_early (by omega), StAt_early (by omega)]
      unfold LocFree
      isplitl [Hl0 Hl1 Pxs0 Pxs1]
      · isplitl [Hl0 Pxs0]
        · isplitl [Hl0]; · iexact Hl0
          iexact Pxs0
        isplitl [Hl1]; · iexact Hl1
        iexact Pxs1
      isplitl [Pxr0 Pxr1 Pxr2 Pxr3]
      · isplitl [Pxr0]; · iexact Pxr0
        isplitl [Pxr1]; · iexact Pxr1
        isplitl [Pxr2]; · iexact Pxr2
        iexact Pxr3
      isplitl [Pys0 Pys1 Pys2 Pys3]
      · isplitl [Pys2]; · iexact Pys2
        isplitl [Pys3]; · iexact Pys3
        isplitl [Pys0]; · iexact Pys0
        iexact Pys1
      isplitl [Pxc Pyc]; · isplitl [Pxc] <;> iassumption
      isplitl [Hs0 Hs1 Pst0 Pst1]
      · isplitl [Hs0 Pst0]
        · isplitl [Hs0]; · iexact Hs0
          iexact Pst0
        isplitl [Hs1]; · iexact Hs1
        iexact Pst1
      isplitr
      · isplitr; · iempintro
        iempintro
      isplitl [HA]; · iexact HA
      iempintro
    isplitr [Ho0 Ho1]
    · rw [show min (0 - 1) 8 = 0 from rfl]
      unfold StB done
      rw [St2At_early (by omega), St2At_early (by omega)]
      isplitl [Pyr0 Pyr1 Pyr2 Pyr3]
      · isplitl [Pyr0]; · iexact Pyr0
        isplitl [Pyr1]; · iexact Pyr1
        isplitl [Pyr2]; · iexact Pyr2
        iexact Pyr3
      isplitl [Hu0 Hu1 Psu0 Psu1]
      · isplitl [Hu0 Psu0]
        · isplitl [Hu0]; · iexact Hu0
          iexact Psu0
        isplitl [Hu1]; · iexact Hu1
        iexact Psu1
      isplitr; · iempintro
      isplitl [HB]; · iexact HB
      iempintro
    isplitr; · iempintro
    unfold Oth
    rw [if_neg (by omega)]
    isplitl [Ho1] <;> iassumption
  isplitl [Tb1 Hx]
  · isplitl [Tb1]; · iexact Tb1
    isplitr; · iexact Rb1
    iexact Hx
  isplitl [Tb2 Hy]
  · isplitl [Tb2]; · iexact Tb2
    isplitr; · iexact Rb2
    iexact Hy
  isplitl [Hcb] <;> iassumption

end Cert.Exchange
-- ==== Proof.Body.lean ====
/-
  The body of the exchange call at a step, from the state before it to the state after it.
-/
module

public import proofs.«01_k».proof.Proof.Close

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (lg : Dev nD → S2x1024x8192.Idx → Elt F .bf16) {K : GSem nD τ sig → ℕ} (c : Dev nD)

/-- One optional part of a program: what it leaves is what its absence leaves. -/
theorem run_part {p : Prop} [Decidable p] {β : Type} {P R : sProp 𝕄} {A : p → Prog (TpuEff nD τ sig (Elt F) Λ₀ .tc) β} {J : Prog (TpuEff nD τ sig (Elt F) Λ₀ .tc) β}
    {Q : β → sProp 𝕄} (hA : ∀ h, P ⊢ iprop((R -∗ run c J Q) -∗ run c (A h) Q)) (hB : ¬ p → P ⊢ R) (hJ : R ⊢ run c J Q) :
    P ⊢ run c (dite p A (fun _ => J)) Q := by
  iintro H
  iapply (run_cond (c := c) (R := R) hA hB) $$ H
  iintro H
  iapply hJ; iexact H
theorem run_device {β : Type} {k : Dev nD → Prog (TpuEff nD τ sig (Elt F) Λ₀ .tc) β} {P : sProp 𝕄} {Q : β → sProp 𝕄} (h : P ⊢ run c (k c) Q) :
    P ⊢ run c (Prog.lift .deviceId >>= k) Q := by
  unfold run at h ⊢
  rw [show (Prog.lift .deviceId >>= k : Prog (TpuEff nD τ sig (Elt F) Λ₀ .tc) β) = .op .deviceId k from rfl, wp_deviceId]
  exact h

/-- What is owed before step `q`. -/
def O₀ (c : Dev nD) : CellTallies nD τ sig ℕ := Owed c 0 + tallyAt (bC (yn c)) 0 1 + tallyAt (bC (xn c)) 0 1
def owedAt (c : Dev nD) (q : ℕ) : CellTallies nD τ sig ℕ := if q = 0 then O₀ c else Owed c q
/-- What is held before step `q`. -/
def Before (q : ℕ) : sProp 𝕄 := if q = 0 then iprop(Core lg c 0 ∗ Bar (F := F) c) else if q = 10 then Fin' lg c else Mid lg c q
/-- What is held between the two halves of step `q`. -/
def Half (q : ℕ) : sProp 𝕄 :=
  iprop(StA lg c (min (q + 1) 8) ∗ StB lg c (min (q - 1) 8) ∗ rights (XRight (F := F) c) (min (q + 1) 8)
    ∗ (only (3 ≤ q ∧ q ≤ 6) (YRight (F := F) c (q + 1)) -∗ rights (YRight (F := F) c) (min (q + 1) 8))
    ∗ (if 1 ≤ q ∧ q ≤ 8 then othH lg c (q - 1) else othA (F := F) c (q + 1)) ∗ (if q < 8 then othH lg c q else othA (F := F) c q)
    ∗ Far (F := F) c ∗ pos (bC c) 1)

section Parts

variable {q : ℕ}

theorem half_late (h : 8 ≤ q) : iprop(owe c (Owed c q) ∗ Mid lg c q) ⊢ iprop(owe c (Owed c (q + 1) + dueD c q) ∗ Half lg c q) := by
  unfold Mid Core Half Oth dueD
  rw [Owed_last c h, Owed_last c (by omega), if_neg (by omega : ¬ (1 ≤ q ∧ q ≤ 4)), add_zero, if_neg (by omega : ¬ q < 8), show min q 8 = 8 by omega, show min (q + 1) 8 = 8 by omega]
  iintro ⟨HO, ⟨HA, HB, -, Ho, Ho'⟩, HX, HY, Hf, Hb⟩
  isplitl [HO]; · iexact HO
  isplitl [HA]; · iexact HA
  isplitl [HB]; · iexact HB
  isplitl [HX]; · iexact HX
  isplitl [HY]; · iintro -; iexact HY
  isplitl [Ho]; · iexact Ho
  isplitl [Ho']; · iexact Ho'
  isplitl [Hf] <;> iassumption

theorem mid_edge (h : q = 0 ∨ q = 9) : iprop(owe c (Owed c (q + 1) + dueD c q) ∗ Half lg c q) ⊢ iprop(owe c (Owed c (q + 1)) ∗ Mid lg c (q + 1)) := by
  have hD : dueD c q = 0 := if_neg (by omega)
  rw [hD, add_zero]
  unfold Half Mid Core Oth
  rcases h with rfl | rfl
  · rw [only_neg (by omega), only_neg (by omega), if_neg (by omega), if_pos (by omega), if_pos (by omega)]
    iintro ⟨HO, HA, HB, HX, HY, Ho, Ho', Hf, Hb⟩
    isplitl [HO]; · iexact HO
    isplitl [HA HB Ho Ho']
    · isplitl [HA]; · iexact HA
      isplitl [HB]; · iexact HB
      isplitr; · iempintro
      isplitl [Ho'] <;> iassumption
    isplitl [HX]; · iexact HX
    isplitl [HY]; · iapply HY; iempintro
    isplitl [Hf] <;> iassumption
  · rw [only_neg (by omega), only_neg (by omega), if_neg (by omega), if_neg (by omega), if_neg (by omega), othA_add (F := F) c (n := 9)]
    iintro ⟨HO, HA, HB, HX, HY, Ho, Ho', Hf, Hb⟩
    isplitl [HO]; · iexact HO
    isplitl [HA HB Ho Ho']
    · isplitl [HA]; · iexact HA
      isplitl [HB]; · iexact HB
      isplitr; · iempintro
      isplitl [Ho'] <;> iassumption
    isplitl [HX]; · iexact HX
    isplitl [HY]; · iapply HY; iempintro
    isplitl [Hf] <;> iassumption

theorem oth_if {m : ℕ} : (if m + 1 < 8 then othH lg c (m + 1) else othA (F := F) c (m + 1))
    ⊢ (if 1 ≤ m + 1 + 1 ∧ m + 1 + 1 ≤ 8 then othH lg c (m + 1) else othA (F := F) c (m + 1)) := by
  by_cases h : m + 1 < 8
  · rw [if_pos h, if_pos (by omega)]
  · rw [if_neg h, if_neg (by omega)]
/-- The second half done, the state is the one before the next step. -/
theorem mid_next {m : ℕ} (hm : m < 8) :
    iprop(StA lg c (min (m + 1 + 1) 8) ∗ rights (XRight (F := F) c) (min (m + 1 + 1) 8)
      ∗ (only (3 ≤ m + 1 ∧ m + 1 ≤ 6) (YRight (F := F) c (m + 1 + 1)) -∗ rights (YRight (F := F) c) (min (m + 1 + 1) 8))
      ∗ (if m + 1 < 8 then othH lg c (m + 1) else othA (F := F) c (m + 1)) ∗ Far (F := F) c ∗ pos (bC c) 1 ∗ Next2 lg c m) ⊢ Mid lg c (m + 1 + 1) := by
  unfold Next2 Mid Core Oth
  rw [show min (m + 1 + 1 - 1) 8 = m + 1 by omega, show m + 1 + 1 - 2 = m by omega, show m + 1 + 1 - 1 = m + 1 by omega, othA_add (F := F) c (n := m), show m + 1 + 1 + 1 = m + 1 + 2 from rfl,
    othA_add (F := F) c (n := m + 1)]
  iintro ⟨HA, HX, HY, Ho', Hf, Hb, HB, Ho, Hr, Hy⟩
  isplitl [HA HB Ho Ho' Hy]
  · isplitl [HA]; · iexact HA
    isplitl [HB]; · iexact HB
    isplitl [Hy]; · iapply (only_iff (show m ≤ 3 ↔ (2 ≤ m + 1 + 1 ∧ m + 1 + 1 ≤ 5) by omega)); iexact Hy
    isplitl [Ho']
    · iapply (oth_if lg c (m := m)); iexact Ho'
    iexact Ho
  isplitl [HX]; · iexact HX
  isplitl [HY Hr]; · iapply HY; iapply (yRide_right (F := F) c (m := m)); iexact Hr
  isplitl [Hf] <;> iassumption

/-- What rides on the other row's link: a slot freed two steps ago. -/
theorem ride_y (h : q < 8) : iprop(StB lg c (min (q - 1) 8) ∗ only (2 ≤ q ∧ q ≤ 5) (yrA (F := F) c (q - 2))) ⊢ iprop(StB lg c (min (q - 1) 8) ∗ yRide (F := F) c q) := by
  by_cases h1 : 1 ≤ q
  · obtain ⟨m, rfl⟩ : ∃ m, q = m + 1 := ⟨q - 1, by omega⟩
    unfold StB
    rw [show min (m + 1 - 1) 8 = m by omega]
    iintro ⟨⟨⟨H0, H1, H2, H3⟩, HB⟩, Hy⟩
    ihave H3 := (pos_reached (F := F)) $$ H3
    icases H3 with ⟨H3, #Hr⟩
    isplitr [Hy]
    · isplitr [HB]
      · isplitl [H0]; · iexact H0
        isplitl [H1]; · iexact H1
        isplitl [H2]; · iexact H2
        iexact H3
      iexact HB
    iapply (yRide_intro (F := F) c (n := m + 1))
    isplitl [Hy]; · iexact Hy
    iexact Hr
  · unfold yRide
    rw [if_neg (by omega)]
    iintro ⟨HB, -⟩
    isplitl [HB]; · iexact HB
    iempintro

theorem done_end (g : ℕ → sProp 𝕄) : iprop(bigSep (Finset.Ico 0 (8 - 2)) g ∗ g 6 ∗ g 7) ⊢ bigSep (Finset.Ico 0 8) g := by
  rw [show (8 : ℕ) = 7 + 1 from rfl, push_Ico g (Nat.zero_le 7), show (7 : ℕ) = 6 + 1 from rfl, push_Ico g (Nat.zero_le 6)]
  iintro ⟨H, H6, H7⟩
  isplitl [H7]; · iexact H7
  isplitl [H6] <;> iassumption
theorem kept_x : bigSep (Finset.Ico 4 (8 - 2)) (xrA (F := F) c) ⊢ iprop(xrA c 4 ∗ xrA c 5) := by
  rw [take_Ico _ (by omega), take_Ico _ (by omega), none_Ico _ (by omega)]
  iintro ⟨H4, H5, -⟩
  isplitl [H4] <;> iassumption
theorem kept_y : bigSep (Finset.Ico 4 8) (yrA (F := F) c) ⊢ iprop(yrA c 4 ∗ yrA c 5 ∗ yrA c 6 ∗ yrA c 7) := by
  rw [take_Ico _ (by omega), take_Ico _ (by omega), take_Ico _ (by omega), take_Ico _ (by omega), none_Ico _ (by omega)]
  iintro ⟨H4, H5, H6, H7, -⟩
  isplitl [H4]; · iexact H4
  isplitl [H5]; · iexact H5
  isplitl [H6] <;> iassumption

/-- The last waits done, everything is handed back. -/
theorem leave_run {β : Type} {J : Prog (TpuEff nD τ sig (Elt F) Λ₀ .tc) β} {Q : β → sProp 𝕄} {P R : sProp 𝕄} (h : P ⊢ iprop(|={Set.univ}=> R)) :
    P ⊢ iprop((R -∗ run c J Q) -∗ run c J Q) := by
  unfold run
  iintro H Hk
  ihave H := h $$ H
  imod H with H
  iapply Hk; iexact H

end Parts

section Whole

variable {lg c} {q : ℕ} {i : grid1.Coords} {win : Memref sig .tc .vmem S2x128x8192 .bf16} {S : Finset (Idx (win.view.loc (c : Thread nD τ)))}
  {f : Buf (Elt F) (win.view.loc (c : Thread nD τ))} {p : PosShare TreeShare}

/-- The body of the exchange call at step `q`. -/
theorem body (hi : (i 0).val = q) (hq : q < 10) (hR : q < 8 → Reads lg c S f q) {hw ho hloc hoth hxr hyr hst} :
    iprop(pers lg K ∗ (win.view.loc (c : Thread nD τ) ↦[S]{p} f) ∗ owe c (owedAt c q) ∗ Before lg c q)
      ⊢ run c (cc1_body (F := F) i win hw outM ho locM hloc othM hoth xrM hxr yrM hyr stM hst cc1_scratch5 cc1_scratch6 cc1_scratch7 cc1_scratch8 cc1_scratch9
          cc1_scratch10 cc1_scratch11)
        (fun _ => iprop((win.view.loc (c : Thread nD τ) ↦[S]{p} f) ∗ owe c (owedAt c (q + 1)) ∗ Before lg c (q + 1))) := by
  rw [cc1_body_eq_skeleton]
  unfold cc1_body_skel
  refine run_device c ?_
  -- the barrier
  refine run_part c (R := iprop(pers lg K ∗ (win.view.loc (c : Thread nD τ) ↦[S]{p} f) ∗ owe c (Owed c q) ∗ Mid lg c q)) (fun h => ?_) (fun h => ?_) ?_
  · have h0 : q = 0 := hi.symm.trans ((cond1_iff i).mp h)
    subst h0
    unfold owedAt Before O₀ Bar Mid
    rw [if_pos rfl, if_pos rfl]
    iintro ⟨#Hp, Hw, HO, HC, Hb1, Hb2, Hcr, Hb⟩ Hk
    iapply (barrier (lg := lg) (K := K) (above_Owed c (q := 0) (b := 1) (by omega)) (dev1_eq c) (dev2_eq c) semB) $$ [HO Hb1 Hb2 Hcr Hb]
    · isplitr; · iexact Hp
      isplitl [HO]; · iexact HO
      isplitl [Hb1]; · iexact Hb1
      isplitl [Hb2]; · iexact Hb2
      isplitl [Hcr] <;> iassumption
    iintro ⟨HO, Hb, H0, H1⟩
    ihave HR := (bar_rights (F := F) c) $$ [H0 H1]
    · isplitl [H0] <;> iassumption
    icases HR with ⟨HX, HY, Hf⟩
    iapply Hk
    isplitr; · iexact Hp
    isplitl [Hw]; · iexact Hw
    isplitl [HO]; · iexact HO
    isplitl [HC]; · iexact HC
    isplitl [HX]; · iexact HX
    isplitl [HY]; · iexact HY
    isplitl [Hf] <;> iassumption
  · have h0 : q ≠ 0 := fun e => h ((cond1_iff i).mpr (hi.trans e))
    unfold owedAt Before
    rw [if_neg h0, if_neg h0, if_neg (by omega)]
  -- the first half
  refine run_part c (R := iprop(pers lg K ∗ (win.view.loc (c : Thread nD τ) ↦[S]{p} f) ∗ owe c (Owed c (q + 1) + dueD c q) ∗ Half lg c q)) (fun h => ?_) (fun h => ?_) ?_
  · have hn : q < 8 := hi ▸ (cond2_iff i).mp h
    unfold Mid Core Half Oth
    rw [if_pos hn, show min q 8 = q by omega, show min (q + 1) 8 = q + 1 by omega]
    iintro ⟨#Hp, Hw, HO, ⟨HA, HB, Hy, Ho, Ho'⟩, HX, HY, #Hf, Hb⟩ Hk
    ihave HB := (ride_y lg c hn) $$ [HB Hy]
    · isplitl [HB] <;> iassumption
    icases HB with ⟨HB, Hy⟩
    iapply (first (lg := lg) (K := K) hi hn (hR hn)) $$ [Hw HO HA HX HY Hy Ho']
    · isplitr; · iexact Hp
      isplitl [Hw]; · iexact Hw
      isplitl [HO]; · iexact HO
      isplitl [HA]; · iexact HA
      isplitl [HX]; · iexact HX
      isplitl [HY]; · iexact HY
      isplitr; · iexact Hf
      isplitl [Hy] <;> iassumption
    iintro %w ⟨Hw, HO, Hst, Hout, Ht, #Hr, Hn⟩
    unfold stA
    iapply (finish (lg := lg) (K := K) (s := stS q) (show 22 ≤ 22 + q % 2 by omega) (duties_st lg c hn) (r := ownR c q) (k := q % 2)
      (Entails.of_eq (payload_st lg c q).symm) (a := resL (ch lg c (ownR c q)) (ch lg (xn c) (ownR c q))) (b := resR (ch lg c (ownR c q)) (ch lg (xn c) (ownR c q)))
      (by unfold stV; rw [peer_own c hn]) ((off16_eq i c).trans (by rw [hi])) ((off17_eq i c).trans (by rw [hi])) ((off19_eq i).trans (by rw [hi]))
      ((off18_eq i c (hi ▸ hn)).trans (by rw [hi])) (sem9 (n := q) ((off7_eq2 i).trans (by rw [hi])))) $$ [Hst Hout Ht]
    · isplitr; · iexact Hp
      isplitl [Hst]; · iexact Hst
      isplitl [Hout]; · iexact Hout
      isplitl [Ht]; · iexact Ht
      iexact Hr
    iintro Hcr
    ihave Hn := Hn $$ Hcr
    unfold Next1
    icases Hn with ⟨HA, HX, HY, Ho'⟩
    iapply Hk
    isplitr; · iexact Hp
    isplitl [Hw]; · iexact Hw
    isplitl [HO]; · iexact HO
    isplitl [HA]; · iexact HA
    isplitl [HB]; · iexact HB
    isplitl [HX]; · iexact HX
    isplitl [HY]; · iexact HY
    isplitl [Ho]; · iexact Ho
    isplitl [Ho']; · iexact Ho'
    isplitr; · iexact Hf
    iexact Hb
  · have hn : 8 ≤ q := not_lt.mp fun e => h ((cond2_iff i).mpr (hi.symm ▸ e))
    iintro ⟨Hp, Hw, H⟩
    isplitl [Hp]; · iexact Hp
    isplitl [Hw]; · iexact Hw
    iapply (half_late lg c hn); iexact H
  -- the second half
  refine run_part c (R := iprop(pers lg K ∗ (win.view.loc (c : Thread nD τ) ↦[S]{p} f) ∗ owe c (Owed c (q + 1)) ∗ Mid lg c (q + 1))) (fun h => ?_) (fun h => ?_) ?_
  · have h18 : 1 ≤ (i 0).val ∧ (i 0).val ≤ 8 := (cond11_iff i).mp h
    obtain ⟨m, rfl⟩ : ∃ m, q = m + 1 := ⟨q - 1, by omega⟩
    have hm : m < 8 := by omega
    unfold Half
    rw [if_pos (by omega : 1 ≤ m + 1 ∧ m + 1 ≤ 8), show min (m + 1 - 1) 8 = m by omega, show m + 1 - 1 = m from rfl]
    iintro ⟨#Hp, Hw, HO, HA, HB, HX, HY, Ho, Ho', #Hf, Hb⟩ Hk
    iapply (second (lg := lg) (K := K) hi hm) $$ [HO HB Ho]
    · isplitr; · iexact Hp
      isplitl [HO]; · iexact HO
      isplitl [HB] <;> iassumption
    iintro %w %w' ⟨HO, Hst, Hout, Ht, #Hr, Hty, Hn⟩
    unfold suA
    have hi' : (i 0).val - 1 = m := by omega
    iapply (finish (lg := lg) (K := K) (s := suS m) (show 22 ≤ 24 + m % 2 by omega) (duties_su lg c hm) (r := othR c m) (k := 2 + m % 2)
      (Entails.of_eq (payload_su lg c m).symm) (a := resL (ch lg c (othR c m)) (ch lg (xn (yn c)) (othR c m))) (b := resR (ch lg c (othR c m)) (ch lg (xn (yn c)) (othR c m)))
      (by unfold stV; rw [peer_oth c hm]) ((off26_eq i c h18.1).trans (by rw [hi'])) ((off27_eq i c h18.1).trans (by rw [hi'])) ((off30_eq i h18.1).trans (by rw [hi']))
      ((off29_eq i c h18).trans (by rw [hi'])) (sem9' (n := m) ((off28_eq i h18.1).trans (by rw [hi'])))) $$ [Hst Hout Ht]
    · isplitr; · iexact Hp
      isplitl [Hst]; · iexact Hst
      isplitl [Hout]; · iexact Hout
      isplitl [Ht]; · iexact Ht
      iexact Hr
    iintro Hcr
    ihave Hn := Hn $$ Hcr
    iapply (run_cond (c := c) (P := iprop(pers lg K ∗ Far (F := F) c ∗ owe c (Owed c (m + 2) + dueD c (m + 1)) ∗ only (m ≤ 3) (dutyTok ER (ycC (yn c)) 0 m)))
      (R := owe c (Owed c (m + 2))) (fun h13 => ?_) (fun h13 => ?_)) $$ [HO Hty]
    · have h4 : m + 1 ≤ 4 := hi ▸ (cond13_iff i h18).mp h13
      rw [only_pos (by omega)]
      unfold Far
      iintro ⟨#Hp, ⟨-, #Hfy⟩, HO, Ht⟩
      iapply (run_then (give_yc (lg := lg) (K := K) (n := m + 1) (by omega) h4 sem11 (dev6_eq c))) $$ [HO Ht]
      isplitr; · iexact Hp
      isplitl [HO]; · iexact HO
      isplitl [Ht]; · iexact Ht
      iexact Hfy
    · have h4 : ¬ m + 1 ≤ 4 := fun e => h13 ((cond13_iff i h18).mpr (hi.symm ▸ e))
      unfold dueD
      rw [if_neg (by omega), add_zero]
      iintro ⟨-, -, HO, -⟩
      iexact HO
    · isplitr; · iexact Hp
      isplitr; · iexact Hf
      isplitl [HO] <;> iassumption
    iintro HO
    iapply Hk
    isplitr; · iexact Hp
    isplitl [Hw]; · iexact Hw
    isplitl [HO]; · iexact HO
    iapply (mid_next lg c hm)
    isplitl [HA]; · iexact HA
    isplitl [HX]; · iexact HX
    isplitl [HY]; · iexact HY
    isplitl [Ho']; · iexact Ho'
    isplitr; · iexact Hf
    isplitl [Hb] <;> iassumption
  · have h09 : q = 0 ∨ q = 9 := by
      by_contra e
      exact h ((cond11_iff i).mpr (by omega))
    iintro ⟨Hp, Hw, H⟩
    isplitl [Hp]; · iexact Hp
    isplitl [Hw]; · iexact Hw
    iapply (mid_edge lg c h09); iexact H
  -- the last waits
  refine run_part c (R := iprop((win.view.loc (c : Thread nD τ) ↦[S]{p} f) ∗ owe c (owedAt c (q + 1)) ∗ Before lg c (q + 1))) (fun h => ?_) (fun h => ?_) (run_ret .rfl)
  · have h9 : q = 9 := hi.symm.trans ((cond14_iff i).mp h)
    subst h9
    have hO := above_Owed c (q := 9 + 1) (b := 0) (by omega)
    have eL6 : LocAt lg c 8 = LocSent lg c 6 := LocAt_sent lg c
    have eL7 : LocAt lg c (8 + 1) = LocSent lg c 7 := LocAt_sent lg c
    have eY6 : YFl lg c 8 = YSent lg c 6 := YFl_sent lg c
    have eY7 : YFl lg c (8 + 1) = YSent lg c 7 := YFl_sent lg c
    have eS6 : StAt (F := F) c 8 = iprop(cred (tallyAt (stC c 6) 0 NO) ∗ pos (stC c 6) (6 / 2)) := StAt_sent (F := F) c
    have eS7 : StAt (F := F) c (8 + 1) = iprop(cred (tallyAt (stC c 7) 0 NO) ∗ pos (stC c 7) (7 / 2)) := StAt_sent (F := F) c
    have eU6 : St2At (F := F) c 8 = iprop(cred (tallyAt (suC c 6) 0 NO) ∗ pos (suC c 6) (6 / 2)) := St2At_sent (F := F) c
    have eU7 : St2At (F := F) c (8 + 1) = iprop(cred (tallyAt (suC c 7) 0 NO) ∗ pos (suC c 7) (7 / 2)) := St2At_sent (F := F) c
    unfold owedAt Before Mid Core Oth StA StB Carry done
    rw [if_neg (by omega : ¬ 9 + 1 = 0), if_neg (by omega : ¬ 9 + 1 = 0), if_pos (rfl : 9 + 1 = 10), show min (9 + 1) 8 = 8 from rfl, show min (9 + 1 - 1) 8 = 8 from rfl,
      eL6, eL7, eY6, eY7, eS6, eS7, eU6, eU7, if_neg (by omega : ¬ (1 ≤ 9 + 1 ∧ 9 + 1 ≤ 8))]
    iintro ⟨#Hp, Hw, HO, ⟨⟨⟨Hl6, Hl7⟩, Hxr, ⟨Hy6, Hy7, Hp8, Hp9⟩, ⟨Hxc, Hyc⟩, ⟨Hs6, Hs7⟩, ⟨-, Hxk⟩, -, Hd⟩, ⟨Hyr, ⟨Hu6, Hu7⟩, Hyk, -, Hd'⟩, -, Ho, Ho'⟩, -, -, -, Hb⟩ Hk
    iapply (run_then (part4 (lg := lg) (K := K) hO)) $$ [HO Hl6 Hl7 Hy6]
    · isplitr; · iexact Hp
      isplitl [HO]; · iexact HO
      isplitl [Hl6]; · iexact Hl6
      isplitl [Hl7] <;> iassumption
    iintro ⟨HO, Hl6, Hl7, Hp10, Hx6⟩
    iapply (run_then (wait_ys (lg := lg) (K := K) (m := 7) (by omega) hO (sem7 rfl) rfl)) $$ [Hy7 HO]
    · isplitr; · iexact Hp
      isplitl [Hy7] <;> iassumption
    iintro ⟨Hp11, Hx7, HO⟩
    iapply (run_then (wait_st (lg := lg) (K := K) (m := 6) (by omega) hO (sem9 rfl) rfl)) $$ [Hs6 HO]
    · isplitr; · iexact Hp
      isplitl [Hs6] <;> iassumption
    iintro ⟨Hs6, Hd6, HO⟩
    iapply (run_then (wait_st (lg := lg) (K := K) (m := 7) (by omega) hO (sem9 rfl) rfl)) $$ [Hs7 HO]
    · isplitr; · iexact Hp
      isplitl [Hs7] <;> iassumption
    iintro ⟨Hs7, Hd7, HO⟩
    iapply (run_then (wait_su (lg := lg) (K := K) (m := 6) (by omega) hO (sem9' rfl) rfl)) $$ [Hu6 HO]
    · isplitr; · iexact Hp
      isplitl [Hu6] <;> iassumption
    iintro ⟨Hu6, He6, HO⟩
    iapply (run_then (wait_su (lg := lg) (K := K) (m := 7) (by omega) hO (sem9' rfl) rfl)) $$ [Hu7 HO]
    · isplitr; · iexact Hp
      isplitl [Hu7] <;> iassumption
    iintro ⟨Hu7, He7, HO⟩
    ihave Hd := (done_end (fun k => outH lg c (ownR c k))) $$ [Hd Hd6 Hd7]
    · isplitl [Hd]; · iexact Hd
      isplitl [Hd6] <;> iassumption
    ihave Hd' := (done_end (fun k => outH lg c (othR c k))) $$ [Hd' He6 He7]
    · isplitl [Hd']; · iexact Hd'
      isplitl [He6] <;> iassumption
    ihave Hxk := (kept_x (F := F) c) $$ Hxk
    icases Hxk with ⟨Hx4, Hx5⟩
    ihave Hyk := (kept_y (F := F) c) $$ Hyk
    icases Hxr with ⟨Hxr0, Hxr1, Hxr2, Hxr3⟩
    icases Hyr with ⟨Hyr0, Hyr1, Hyr2, Hyr3⟩
    iapply (leave_run c (leave (lg := lg) (c := c) (K := K))) $$ [Hxc Hyc Hb Hl6 Hl7 Hxr0 Hxr1 Hxr2 Hxr3 Hp8 Hp9 Hp10 Hp11 Hyr0 Hyr1 Hyr2 Hyr3 Hs6 Hs7 Hu6 Hu7 Ho Ho' Hx4 Hx5 Hx6 Hx7 Hyk Hd Hd']
    · isplitr; · iexact Hp
      isplitl [Hxc Hyc Hb]
      · isplitl [Hxc]; · iexact Hxc
        isplitl [Hyc] <;> iassumption
      isplitl [Hl6 Hl7]; · isplitl [Hl6] <;> iassumption
      isplitl [Hxr0 Hxr1 Hxr2 Hxr3]
      · isplitl [Hxr0]; · iexact Hxr0
        isplitl [Hxr1]; · iexact Hxr1
        isplitl [Hxr2]; · iexact Hxr2
        iexact Hxr3
      isplitl [Hp8 Hp9 Hp10 Hp11]
      · isplitl [Hp8]; · iexact Hp8
        isplitl [Hp9]; · iexact Hp9
        isplitl [Hp10]; · iexact Hp10
        iexact Hp11
      isplitl [Hyr0 Hyr1 Hyr2 Hyr3]
      · isplitl [Hyr0]; · iexact Hyr0
        isplitl [Hyr1]; · iexact Hyr1
        isplitl [Hyr2]; · iexact Hyr2
        iexact Hyr3
      isplitl [Hs6 Hs7]
      · isplitl [Hs6]; · iexact Hs6
        iexact Hs7
      isplitl [Hu6 Hu7]
      · isplitl [Hu6]; · iexact Hu6
        iexact Hu7
      isplitl [Ho Ho']
      · isplitl [Ho']; · iexact Ho'
        iexact Ho
      isplitl [Hx4 Hx5 Hx6 Hx7]
      · isplitl [Hx4]; · iexact Hx4
        isplitl [Hx5]; · iexact Hx5
        isplitl [Hx6] <;> iassumption
      isplitl [Hyk]; · iexact Hyk
      isplitl [Hd] <;> iassumption
    iintro HF
    iapply Hk
    isplitl [Hw]; · iexact Hw
    isplitl [HO] <;> iassumption
  · have h9 : q ≠ 9 := fun e => h ((cond14_iff i).mpr (hi.trans e))
    unfold owedAt Before
    rw [if_neg (by omega), if_neg (by omega), if_neg (by omega)]
    iintro ⟨-, H⟩
    iexact H

end Whole

end Cert.Exchange
-- ==== Proof.Matmul.lean ====
/-
  The matrix product: what the call leaves, block by block, and its body at a grid point.
-/
module

public import proofs.«01_k».proof.Proof.Body
public import proofs.«01_k».proof.Proof.Gen.KernelIdeal.Regions

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Whole buffers, loaded and stored -/

section WholeMem

variable {cs : CoreSpace} {S : Shape} {e : EltTy} {M : Memref sig .tc cs S e} {o : Fin S.rank → ℕ} (c : Dev nD)

theorem access_emb (ho : ∀ a, o a = 0) (inb : ∀ a, o a + S.size a ≤ S.size a) (y : S.Idx) : (Rect.unit (s := S) o S.size inb).emb y = y := by
  funext a
  apply Fin.ext
  show o a + 1 * (y a).val = (y a).val
  rw [ho a]; omega

theorem access_read (ho : ∀ a, o a = 0) (inb : ∀ a, o a + S.size a ≤ S.size a) (f : M.view.ty.Contents (Elt F)) :
    (M.access (Rect.unit (s := S) o S.size inb)).read (Elt F) f = M.view.read (Elt F) f := by
  funext y
  rw [View.read_apply, View.read_apply]
  show cast _ (f (M.view.emb ((Rect.unit (s := S) o S.size inb).emb y))) = _
  rw [access_emb ho inb]

theorem load_whole (ho : ∀ a, o a = 0) (inb : ∀ a, o a + S.size a ≤ S.size a) {hl} {q : PosShare TreeShare} {X : S.Idx → Elt F e} :
    (owns (c : Thread nD τ) M q X : sProp 𝕄)
      ⊢ run c (Prog.lift (.load M (Rect.unit (s := S) o S.size inb).toLoadRect hl)) (fun x => iprop(⌜x = X⌝ ∗ owns (c : Thread nD τ) M q X)) := by
  unfold owns
  iintro ⟨%f, %hf, H⟩
  iapply (wp_load_rect 𝒱₀ (c : Thread nD τ) none Set.univ (m := M) (r := Rect.unit (s := S) o S.size inb) (S := M.view.set) (f := f) (View.set_slice_subset M.view _)) $$ H
  iintro H
  iapply (run_ret (c := c) .rfl)
  isplitr; · ipureintro; exact (access_read ho inb f).trans hf
  iexists f
  isplitr; · ipureintro; exact hf
  iexact H

theorem store_whole (ho : ∀ a, o a = 0) (inb : ∀ a, o a + S.size a ≤ S.size a) {w : S.Idx → Elt F e} {hx hm} {X : S.Idx → Elt F e} :
    (owns (c : Thread nD τ) M fullShare X : sProp 𝕄)
      ⊢ run c (Prog.lift (.store M (Rect.unit (s := S) o S.size inb) w Finset.univ hx hm)) (fun _ => owns (c : Thread nD τ) M fullShare w) := by
  unfold owns
  iintro ⟨%f, -, H⟩
  iapply (wp_store 𝒱₀ (c : Thread nD τ) none Set.univ (m := M) (r := Rect.unit (s := S) o S.size inb) (S := M.view.set) (f := f) (View.set_slice_subset M.view _)) $$ H
  iintro H
  iapply (run_ret (c := c) (a := PUnit.unit) .rfl)
  iexists ((M.access (Rect.unit (s := S) o S.size inb)).write (Elt F) f w Finset.univ)
  isplitr
  · ipureintro
    rw [← access_read ho inb]
    exact View.read_write_univ _ _
  iexact H

end WholeMem

/-! ## The body at a point -/

theorem first_iff (i : grid0.Coords) :
    (Scalar.cmpi .ne (Scalar.extui (Scalar.cmpi .eq (BitVec.ofNat 32 (i 2).val) 0#32) : BitVec 32) 0#32 = 1#1) ↔ (i 2).val = 0 := by
  revert i; decide
theorem last_iff (i : grid0.Coords) : k0_cond2 i = 1#1 ↔ (i 2).val = 7 := by revert i; decide
theorem coord_eq : ∀ t : Fin cfg0.N, ((cfg0.grid.coords t) 2).val = t.val % 8 := by decide

/-- The accumulator after a point, from the one before it. -/
noncomputable def accNext (k : ℕ) (a : FVec F S2048x1024 .f32) (x : FVec F S2048x512 .bf16) (w : FVec F S512x1024 .bf16) : FVec F S2048x1024 .f32 :=
  k0_pay2 (if k = 0 then k0_pay1 else a) x w

theorem mm_run (c : Dev nD) (i : grid0.Coords) {m3 : Memref sig .tc .vmem S2048x512 .bf16} {m4 : Memref sig .tc .vmem S512x1024 .bf16}
    {m5 : Memref sig .tc .vmem S2048x1024 .bf16} {m6 : Memref sig .tc .vmem S2048x1024 .f32} {h3 h4 h5 h6} {x : FVec F S2048x512 .bf16} {w : FVec F S512x1024 .bf16}
    {o : FVec F S2048x1024 .bf16} {a : FVec F S2048x1024 .f32} :
    (iprop(owns (c : Thread nD τ) m3 fullShare x ∗ owns (c : Thread nD τ) m4 fullShare w ∗ owns (c : Thread nD τ) m5 fullShare o ∗ owns (c : Thread nD τ) m6 fullShare a) : sProp 𝕄)
      ⊢ run c (cc0_mm_body (F := F) i m3 h3 m4 h4 m5 h5 m6 h6)
        (fun _ => iprop(owns (c : Thread nD τ) m3 fullShare x ∗ owns (c : Thread nD τ) m4 fullShare w
          ∗ owns (c : Thread nD τ) m5 fullShare (if (i 2).val = 7 then k0_pay3 (accNext (i 2).val a x w) else o)
          ∗ owns (c : Thread nD τ) m6 fullShare (accNext (i 2).val a x w))) := by
  have h0 : ∀ a : Fin 2, (![0, 0] : Fin 2 → ℕ) a = 0 := by decide
  rw [cc0_mm_body_eq_skeleton]
  unfold cc0_mm_body_skel
  refine run_part c (R := iprop(owns (c : Thread nD τ) m3 fullShare x ∗ owns (c : Thread nD τ) m4 fullShare w ∗ owns (c : Thread nD τ) m5 fullShare o
    ∗ owns (c : Thread nD τ) m6 fullShare (if (i 2).val = 0 then k0_pay1 else a))) (fun h => ?_) (fun h => ?_) ?_
  · rw [if_pos ((first_iff i).mp h)]
    iintro ⟨Hx, Hw, Ho, Ha⟩ Hk
    iapply (run_seq (load_whole c h0 _)) $$ Ha
    iintro %v ⟨-, Ha⟩
    iapply (run_then (store_whole c h0 _)) $$ Ha
    iintro Ha
    iapply Hk
    isplitl [Hx]; · iexact Hx
    isplitl [Hw]; · iexact Hw
    isplitl [Ho] <;> iassumption
  · rw [if_neg (fun e => h ((first_iff i).mpr e))]
  iintro ⟨Hx, Hw, Ho, Ha⟩
  iapply (run_seq (load_whole c h0 _)) $$ Ha
  iintro %v ⟨%hv, Ha⟩; subst hv
  iapply (run_seq (load_whole c h0 _)) $$ Hx
  iintro %v ⟨%hv, Hx⟩; obtain rfl := hv.symm
  iapply (run_seq (load_whole c h0 _)) $$ Hw
  iintro %v ⟨%hv, Hw⟩; obtain rfl := hv.symm
  iapply (run_seq (load_whole c h0 _)) $$ Ha
  iintro %v ⟨%hv, Ha⟩
  iapply (run_then (store_whole c h0 _)) $$ Ha
  iintro Ha
  iapply (show iprop(owns (c : Thread nD τ) m3 fullShare x ∗ owns (c : Thread nD τ) m4 fullShare w ∗ owns (c : Thread nD τ) m5 fullShare o
    ∗ owns (c : Thread nD τ) m6 fullShare (accNext (i 2).val a x w)) ⊢ _ from ?_) $$ [Hx Hw Ho Ha]
  rotate_left
  · isplitl [Hx]; · iexact Hx
    isplitl [Hw]; · iexact Hw
    isplitl [Ho]; · iexact Ho
    iexact Ha
  refine run_part c (R := iprop(owns (c : Thread nD τ) m3 fullShare x ∗ owns (c : Thread nD τ) m4 fullShare w
    ∗ owns (c : Thread nD τ) m5 fullShare (if (i 2).val = 7 then k0_pay3 (accNext (i 2).val a x w) else o)
    ∗ owns (c : Thread nD τ) m6 fullShare (accNext (i 2).val a x w))) (fun h => ?_) (fun h => ?_) (run_ret (c := c) .rfl)
  · rw [if_pos ((last_iff i).mp h)]
    iintro ⟨Hx, Hw, Ho, Ha⟩ Hk
    iapply (run_seq (load_whole c h0 _)) $$ Ha
    iintro %v ⟨%hv, Ha⟩; subst hv
    iapply (run_seq (load_whole c h0 _)) $$ Ho
    iintro %v ⟨-, Ho⟩
    iapply (run_then (store_whole c h0 _)) $$ Ho
    iintro Ho
    iapply Hk
    isplitl [Hx]; · iexact Hx
    isplitl [Hw]; · iexact Hw
    isplitl [Ho] <;> iassumption
  · rw [if_neg (fun e => h ((last_iff i).mpr e))]

/-! ## The proof data of the call -/

section Data

variable (m : (ℓ : Loc nD τ sig) → Buf (Elt F) ℓ)

/-- The two blocks read at a point. -/
def xBlk (c : Dev nD) (t : Fin cfg0.N) : FVec F S2048x512 .bf16 := ((cfg0.win 0).blk t).view.read (Elt F) (V0 m c main_arg0)
def wBlk (c : Dev nD) (t : Fin cfg0.N) : FVec F S512x1024 .bf16 := ((cfg0.win 1).blk t).view.read (Elt F) (V0 m c main_arg1)

/-- The accumulator before point `n` (not named at the first). -/
noncomputable def accAt (c : Dev nD) : ℕ → FVec F S2048x1024 .f32
  | 0 => k0_pay1
  | n + 1 => if h : n < cfg0.N then accNext (n % 8) (accAt c n) (xBlk m c ⟨n, h⟩) (wBlk m c ⟨n, h⟩) else k0_pay1

theorem accAt_succ (c : Dev nD) (t : Fin cfg0.N) : accAt m c (t.val + 1) = accNext (t.val % 8) (accAt m c t.val) (xBlk m c t) (wBlk m c t) := by
  conv_lhs => unfold accAt
  rw [dif_pos t.isLt]

/-- A buffer of the core, whole, at contents not chosen. -/
def any (c : Dev nD) (r : Ref sig .tc) : sProp 𝕄 := iprop(∃ f : Buf (Elt F) ((c : Thread nD τ).loc r), ((c : Thread nD τ).loc r) ↦{fullShare} f)

/-- The other call's scoped buffers. -/
def rest0 (c : Dev nD) : sProp 𝕄 :=
  iprop(any c cc1_stg0_0 ∗ any c cc1_stg0_1 ∗ any c cc1_scratch0 ∗ any c cc1_scratch1 ∗ any c cc1_scratch2 ∗ any c cc1_scratch3 ∗ any c cc1_scratch4)

/-- The accumulator's buffer before point `n`. -/
def accH (c : Dev nD) (n : ℕ) : sProp 𝕄 :=
  iprop(∃ a : FVec F S2048x1024 .f32, ⌜n % 8 ≠ 0 → a = accAt m c n⌝ ∗ owns (c : Thread nD τ) (Memref.whole cc0_scratch0) fullShare a)

def dat0 (c : Dev nD) : Pipeline.Dat τ (Elt F) ℕ ℕ UU ℕ cfg0 c where
  A w := V0 m c (Pipeline.arrRef spec0 w)
  after := fun
    | 0 => xBlk m c
    | 1 => wBlk m c
    | 2 => fun t => k0_pay3 (accAt m c (t.val + 1))
  Φ t := iprop(accH m c t.val ∗ rest0 c)
  q _ := fullShare
  owed _ := O₀ c

theorem owesAt_intro {cfg : Pipeline.Cfg sig Λ₀} {c : Dev nD} (dat : Pipeline.Dat τ (Elt F) ℕ ℕ UU ℕ cfg c) (t : Fin (cfg.N + 1))
    (O : CellTallies nD τ sig ℕ) (h0 : dat.owed t = O) (hr : dat.recorded t = Set.univ) : owe c O ⊢ (dat.owesAt 0 t : sProp 𝕄) := by
  unfold Pipeline.Dat.owesAt Pipeline.owesWithin Pipeline.Dat.bound owe; rw [h0, hr]
  iintro ⟨%W, HO⟩; iexists W; isplitr; · ipureintro; exact fun _ _ => Or.inl trivial
  iexact HO
theorem owesAt_elim {cfg : Pipeline.Cfg sig Λ₀} {c : Dev nD} (dat : Pipeline.Dat τ (Elt F) ℕ ℕ UU ℕ cfg c) (t : Fin (cfg.N + 1))
    (O : CellTallies nD τ sig ℕ) (h0 : dat.owed t = O) : (dat.owesAt 0 t : sProp 𝕄) ⊢ owe c O := by
  unfold Pipeline.Dat.owesAt Pipeline.owesWithin owe; rw [h0]
  iintro ⟨%W, -, HO⟩; iexists W; iexact HO

theorem before_x (c : Dev nD) (t : Fin cfg0.N) (d) : (dat0 m c).before 0 t d = xBlk m c t := (dat0 m c).before_fetched 0 t (fetch0_0 t) d
theorem before_w (c : Dev nD) (t : Fin cfg0.N) (d) : (dat0 m c).before 1 t d = wBlk m c t := (dat0 m c).before_fetched 1 t (fetch0_1 t) d

theorem idle_out (t : Fin cfg0.N) : cfg0.idle 2 (cfg0.grid.coords t) = !decide (t.val % 8 = 7) := by
  show (!(k0_cond2 (cfg0.grid.coords t) == 1#1)) = _
  congr 1
  rw [Bool.eq_iff_iff, beq_iff_eq, last_iff, coord_eq, decide_eq_true_iff]

/-- The body at a point, on the buffers the pipeline hands it. -/
theorem mm_point (c : Dev nD) (t : Fin cfg0.N) {o : FVec F S2048x1024 .bf16} :
    (iprop(accH m c t.val ∗ owns (c : Thread nD τ) (st0_0 t) fullShare (xBlk m c t) ∗ owns (c : Thread nD τ) (st0_1 t) fullShare (wBlk m c t)
        ∗ owns (c : Thread nD τ) (st0_2 t) fullShare o) : sProp 𝕄)
      ⊢ run c (bodyAt0 (F := F) t) (fun _ => iprop(accH m c (t.val + 1) ∗ owns (c : Thread nD τ) (st0_0 t) fullShare (xBlk m c t)
        ∗ owns (c : Thread nD τ) (st0_1 t) fullShare (wBlk m c t)
        ∗ owns (c : Thread nD τ) (st0_2 t) fullShare (if t.val % 8 = 7 then k0_pay3 (accAt m c (t.val + 1)) else o))) := by
  unfold accH
  iintro ⟨⟨%a, %ha, Ha⟩, Hx, Hw, Ho⟩
  iapply (wp_wand _ _ _) $$ [Ha Hx Hw Ho]
  · iapply (mm_run c (cfg0.grid.coords t) (m3 := st0_0 t) (m4 := st0_1 t) (m5 := st0_2 t) (m6 := Memref.whole cc0_scratch0))
    isplitl [Hx]; · iexact Hx
    isplitl [Hw]; · iexact Hw
    isplitl [Ho] <;> iassumption
  have hacc : accNext ((cfg0.grid.coords t) 2).val a (xBlk m c t) (wBlk m c t) = accAt m c (t.val + 1) := by
    rw [coord_eq, accAt_succ]
    by_cases h : t.val % 8 = 0
    · unfold accNext; rw [if_pos h, if_pos h]
    · rw [ha h]
  rw [hacc, coord_eq]
  iintro %_ ⟨Hx, Hw, Ho, Ha⟩
  isplitl [Ha]
  · iexists _; isplitr; swap; · iexact Ha
    ipureintro; exact fun _ => rfl
  isplitl [Hx]; · iexact Hx
  isplitl [Hw] <;> iassumption

/-- The output window's buffer as the body hands it back. -/
def outBack (c : Dev nD) (t : Fin cfg0.N) : sProp 𝕄 :=
  match cfg0.idle 2 (cfg0.grid.coords t) with
  | true =>
    match (cfg0.win 2).flush t with
    | false => iprop(∃ d, owns (c : Thread nD τ) (st0_2 t) fullShare ((dat0 m c).before 2 t d))
    | true => owns (c : Thread nD τ) (st0_2 t) fullShare ((dat0 m c).after 2 t)
  | false => owns (c : Thread nD τ) (st0_2 t) fullShare ((dat0 m c).after 2 t)

theorem outBack_intro (c : Dev nD) (t : Fin cfg0.N) (d) :
    owns (c : Thread nD τ) (st0_2 t) fullShare (if t.val % 8 = 7 then k0_pay3 (accAt m c (t.val + 1)) else (dat0 m c).before 2 t d) ⊢ outBack m c t := by
  unfold outBack
  rw [idle_out t]
  by_cases h : t.val % 8 = 7
  · rw [if_pos h, decide_eq_true h]; exact .rfl
  · rw [if_neg h, decide_eq_false h, Bool.eq_false_iff.mpr (fun e => h ((flush0_2 t).mp e))]
    show _ ⊢ iprop(∃ d, owns (c : Thread nD τ) (st0_2 t) fullShare ((dat0 m c).before 2 t d))
    iintro H
    iexists d; iexact H

theorem body0 (c : Dev nD) : Pipeline.BodyObligation (dat0 (F := F) m c) defs₀ 𝒱₀ 0 Set.univ := fun t => by
  rw [bigSep_W0, bigSep_W0]
  show iprop((accH m c t.val ∗ rest0 c) ∗ (dat0 m c).owesAt 0 t.castSucc
      ∗ (∃ d, owns (c : Thread nD τ) (st0_0 t) fullShare ((dat0 m c).before 0 t d))
      ∗ (∃ d, owns (c : Thread nD τ) (st0_1 t) fullShare ((dat0 m c).before 1 t d))
      ∗ (∃ d, owns (c : Thread nD τ) (st0_2 t) fullShare ((dat0 m c).before 2 t d)))
    ⊢ run c (bodyAt0 (F := F) t) (fun _ => iprop((accH m c (t.val + 1) ∗ rest0 c) ∗ (dat0 m c).owesAt 0 t.castSucc
      ∗ owns (c : Thread nD τ) (st0_0 t) fullShare (xBlk m c t) ∗ owns (c : Thread nD τ) (st0_1 t) fullShare (wBlk m c t) ∗ outBack m c t))
  simp only [before_x, before_w]
  iintro ⟨⟨Ha, Hr⟩, HO, ⟨%dx, Hx⟩, ⟨%dw, Hw⟩, ⟨%d, Ho⟩⟩
  iapply (wp_wand _ _ _) $$ [Ha Hx Hw Ho]
  · iapply (mm_point m c t)
    isplitl [Ha]; · iexact Ha
    isplitl [Hx]; · iexact Hx
    isplitl [Hw] <;> iassumption
  iintro %_ ⟨Ha, Hx, Hw, Ho⟩
  isplitl [Ha Hr]; · isplitl [Ha] <;> iassumption
  isplitl [HO]; · iexact HO
  isplitl [Hx]; · iexact Hx
  isplitl [Hw]; · iexact Hw
  iapply (outBack_intro m c t d); iexact Ho

end Data

end Cert.Exchange
-- ==== Proof.Calls.lean ====
/-
  The two calls as regions of the program: what each leaves, and the exchange entered and left.
-/
module

public import proofs.«01_k».proof.Proof.Matmul

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Calls

variable (m : (ℓ : Loc nD τ sig) → Buf (Elt F) ℓ)

/-- What the matrix product leaves. -/
def mmOuts : Outs (F := F) := fun _ =>
  Function.update (β := fun r => (c : Dev nD) → Buf (Elt F) ((c : Thread nD τ).loc r)) (fun r c => m ((c : Thread nD τ).loc r)) main_v1
    (fun c => (dat0 m c).arrAt 2 cfg0.N)

/-- A device's logits, as the exchange reads them. -/
def logits (c : Dev nD) : S2x1024x8192.Idx → Elt F .bf16 := V2 m (mmOuts m) c main_v2

/-- What both calls leave. -/
def outs : Outs (F := F) := fun k =>
  Function.update (β := fun r => (c : Dev nD) → Buf (Elt F) ((c : Thread nD τ).loc r)) (mmOuts m k) main_v3 (fun c => Gout (logits m) c)

theorem outs_v1 (c : Dev nD) : outs m 1 main_v1 c = (dat0 m c).arrAt 2 cfg0.N := by
  unfold outs mmOuts
  rw [Function.update_of_ne (by decide), Function.update_self]
theorem outs_v3 (c : Dev nD) : outs m 3 main_v3 c = Gout (logits m) c := by
  unfold outs
  rw [Function.update_self]
theorem V1_mmOuts (c : Dev nD) : V1 m (mmOuts m) c = V1 m (outs m) c := by
  show Function.update _ _ _ = Function.update _ _ _
  rw [outs_v1]; unfold mmOuts; rw [Function.update_self]
theorem logits_eq (c : Dev nD) : logits m c = V2 m (outs m) c main_v2 := by
  unfold logits
  show StableHlo.after hostOps1 (V1 m (mmOuts m) c) main_v2 = StableHlo.after hostOps1 (V1 m (outs m) c) main_v2
  rw [V1_mmOuts]

/-! ## The exchange's proof data -/

/-- The block of the logits read at a point. -/
def lBlk (c : Dev nD) (t : Fin cfg1.N) : FVec F S2x128x8192 .bf16 := ((cfg1.win 0).blk t).view.read (Elt F) (logits m c)

/-- The matrix product's scoped buffers. -/
def rest1 (c : Dev nD) : sProp 𝕄 :=
  iprop(any c cc0_stg0_0 ∗ any c cc0_stg0_1 ∗ any c cc0_stg1_0 ∗ any c cc0_stg1_1 ∗ any c cc0_stg2_0 ∗ any c cc0_stg2_1 ∗ any c cc0_scratch0)

def dat1 (c : Dev nD) : Pipeline.Dat τ (Elt F) ℕ ℕ UU ℕ cfg1 c where
  A w := V2 m (outs m) c (Pipeline.arrRef spec1 w)
  after := fun | 0 => lBlk m c
  Φ t := iprop(((∃ K, pers (logits m) K) ∗ Before (logits m) c t.val) ∗ rest1 c ∗ ∃ r, prngReg c r)
  q _ := fullShare
  owed t := owedAt c t.val

theorem blk_logits (c : Dev nD) (t : Fin cfg1.N) : (dat1 m c).blockOf 0 t = lBlk m c t := by
  unfold lBlk
  rw [logits_eq]; rfl

theorem before_l (c : Dev nD) (t : Fin cfg1.N) (d) : (dat1 m c).before 0 t d = lBlk m c t :=
  ((dat1 m c).before_in_eq_fetched 0 rfl (fun _ => rfl) (fun _ _ _ => rfl) (fun t => (blk_logits m c t).symm) t d).trans (blk_logits m c t)

theorem index1 : ∀ t : Fin cfg1.N, (cfg1.grid.coords t 0).val = t.val ∧ win1_0.index t 0 = 0 ∧ win1_0.index t 1 = min t.val 7 ∧ win1_0.index t 2 = 0 := by decide

theorem emb_blk (t : Fin cfg1.N) (ht : t.val < 8) (k : Fin 2) (y : S1x128x8192.Idx) :
    (win1_0.rect t).emb (ix3 k (y 1) (y 2))
      = ix3 (⟨k.val % 2, Nat.mod_lt _ (by decide)⟩ : Fin 2) (⟨(128 * t.val + (y 1).val) % 1024, Nat.mod_lt _ (by decide)⟩ : Fin 1024) (y 2) := by
  obtain ⟨-, h0, h1, h2⟩ := index1 t
  have hk := k.isLt
  have hy : (y 1).val < 128 := (y 1).isLt
  refine funext fun a => Fin.ext ((win1_0.rect_emb_val t (ix3 k (y 1) (y 2)) a).trans ?_)
  fin_cases a
  · show win1_0.index t 0 * 2 + k.val = k.val % 2
    rw [h0]; omega
  · show win1_0.index t 1 * 128 + (y 1).val = (128 * t.val + (y 1).val) % 1024
    rw [h1]; omega
  · show win1_0.index t 2 * 8192 + (y 2).val = (y 2).val
    rw [h2]; omega

theorem blk_apply (G : S2x1024x8192.Idx → Elt F .bf16) (t : Fin cfg1.N) (ht : t.val < 8) (k : Fin 2) (y : S1x128x8192.Idx) :
    ((cfg1.win 0).blk t).view.read (Elt F) G (ix3 k (y 1) (y 2)) = chunk G k.val t.val y :=
  congrArg G (emb_blk t ht k y)

theorem lBlk_apply (c : Dev nD) (t : Fin cfg1.N) (ht : t.val < 8) (k : Fin 2) (y : S1x128x8192.Idx) :
    lBlk m c t (ix3 k (y 1) (y 2)) = chunk (logits m c) k.val t.val y := blk_apply (logits m c) t ht k y

theorem reads (c : Dev nD) (t : Fin cfg1.N) (ht : t.val < 8) {win : Memref sig .tc .vmem S2x128x8192 .bf16} {f : Buf (Elt F) (win.view.loc (c : Thread nD τ))}
    (hf : win.view.read (Elt F) f = lBlk m c t) : Reads (logits m) c win.view.set f t.val where
  sub k hk inb := View.set_slice_subset win.view _
  val k hk inb := by
    funext y
    rw [← lBlk_apply m c t ht ⟨k, hk⟩ y, ← hf, View.read_apply, View.read_apply]
    show cast _ (f (win.view.emb ((Rect.unit (s := S2x128x8192) ![k, 0, 0] S1x128x8192.size inb).emb y))) = _
    have e : (Rect.unit (s := S2x128x8192) ![k, 0, 0] S1x128x8192.size inb).emb y = ix3 (⟨k, hk⟩ : Fin 2) (y 1) (y 2) := by
      funext a
      apply Fin.ext
      have h0 : (y 0).val < 1 := (y 0).isLt
      fin_cases a
      · show k + 1 * (y 0).val = k; omega
      · show 0 + 1 * (y 1).val = (y 1).val; omega
      · show 0 + 1 * (y 2).val = (y 2).val; omega
    rw [e]; rfl

theorem body1 (c : Dev nD) : Pipeline.BodyObligation (dat1 (F := F) m c) defs₀ 𝒱₀ 0 Set.univ := fun t => by
  rw [bigSep_W1, bigSep_W1]
  show iprop((((∃ K, pers (logits m) K) ∗ Before (logits m) c t.val) ∗ rest1 c ∗ ∃ r, prngReg c r) ∗ (dat1 m c).owesAt 0 t.castSucc
      ∗ (∃ d, owns (c : Thread nD τ) (st1_0 t) fullShare ((dat1 m c).before 0 t d)))
    ⊢ run c (bodyAt1 (F := F) t) (fun _ => iprop((((∃ K, pers (logits m) K) ∗ Before (logits m) c (t.val + 1)) ∗ rest1 c ∗ ∃ r, prngReg c r)
      ∗ (dat1 m c).owesAt 0 t.succ ∗ owns (c : Thread nD τ) (st1_0 t) fullShare (lBlk m c t)))
  simp only [before_l]
  unfold owns
  iintro ⟨⟨⟨⟨%K, #HK⟩, HB⟩, Hr⟩, HO, ⟨%d, %f, %hf, Hw⟩⟩
  iapply (wp_wand _ _ _) $$ [HB HO Hw]
  · iapply (body (lg := logits m) (K := K) (c := c) (q := t.val) (f := f) (p := fullShare) (index1 t).1 (t.isLt.trans_eq N_1)
      (fun h => reads m c t h hf))
    isplitr; · iexact HK
    isplitl [Hw]; · iexact Hw
    isplitl [HO]; · iapply (owesAt_elim (dat1 m c) t.castSucc _ rfl); iexact HO
    iexact HB
  iintro %_ ⟨Hw, HO, HB⟩
  isplitl [HB Hr]
  · isplitl [HB]
    · isplitr; · iexists K; iexact HK
      iexact HB
    iexact Hr
  isplitl [HO]; · iapply (owesAt_intro (dat1 m c) t.succ _ rfl rfl); iexact HO
  iexists f
  isplitr; · ipureintro; exact hf
  iexact Hw

end Calls

end Cert.Exchange
-- ==== Proof.Records.lean ====
/-
  The two calls as regions: the matrix product and the exchange, each entered from what a device holds before it and left at what it holds after.
-/
module

public import proofs.«01_k».proof.Proof.Calls
public import Idealize.ShloMosaic.Lib.Rounds.Family

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Records

variable (m : (ℓ : Loc nD τ sig) → Buf (Elt F) ℓ)

def pdats : (p : Fin 2) → (c : Dev nD) → Pipeline.Dat τ (Elt F) ℕ ℕ UU ℕ (Pipeline.pin (pcfgs (F := F)) adm p) c
  | 0 => dat0 m
  | 1 => dat1 m

/-! ## What is owed sits above the pipelines' own waits -/

theorem above_O₀ (c : Dev nD) : Above 0 (O₀ c) :=
  ((above_Owed c (by omega)).add (Above.tally (yn c) _ 0 1 (by decide) (show (0 : ℕ) < 1 from Nat.one_pos))).add (Above.tally (xn c) _ 0 1 (by decide) (show (0 : ℕ) < 1 from Nat.one_pos))
theorem above_owedAt (c : Dev nD) (q : ℕ) : Above 0 (owedAt c q) := by
  unfold owedAt
  split
  · exact above_O₀ c
  · exact above_Owed c (by omega)

theorem stage_mem (p : Fin 2) (c : Dev nD) (w : Fin (Pipeline.pin (pcfgs (F := F)) adm p).W) (s : Fin ((Pipeline.pin (pcfgs (F := F)) adm p).win w).nbuf) :
    0 ∈ L ((c : Thread nD τ), .dma (((Pipeline.pin (pcfgs (F := F)) adm p).win w).sem s)) := by
  rw [L_tc]; decide

theorem sem0 : ∀ (w : Fin 3) (s : Fin (win0 w).nbuf), ((win0 w).sem s).val < 10 := by decide
theorem sem1 : ∀ (w : Fin 1) (s : Fin (win1 w).nbuf), ((win1 w).sem s).val < 10 := by decide

theorem stage_low (p : Fin 2) (c : Dev nD) (w : Fin (Pipeline.pin (pcfgs (F := F)) adm p).W) (s : Fin ((Pipeline.pin (pcfgs (F := F)) adm p).win w).nbuf) :
    lv ((c : Thread nD τ), .dma (((Pipeline.pin (pcfgs (F := F)) adm p).win w).sem s)) 0 ≤ 0 := by
  have h : (((Pipeline.pin (pcfgs (F := F)) adm p).win w).sem s).val < 10 := by
    match p, w, s with
    | 0, w, s => exact sem0 w s
    | 1, w, s => exact sem1 w s
  show (if (((Pipeline.pin (pcfgs (F := F)) adm p).win w).sem s).val < 10 then 0 else _) ≤ 0
  rw [if_pos h]

/-! ## The matrix product -/

theorem any_whole (c : Dev nD) : any (F := F) c cc0_scratch0 ⊣⊢ iprop(∃ a : FVec F S2048x1024 .f32, owns (c : Thread nD τ) (Memref.whole cc0_scratch0) fullShare a) := by
  unfold any
  simp only [owns_whole_eq]
  constructor
  · iintro ⟨%f, H⟩
    iexists f
    iexists f
    isplitr; · ipureintro; rfl
    iexact H
  · iintro ⟨%a, %f, -, H⟩
    iexists f; iexact H

theorem scoped0 (c : Dev nD) : (Pipeline.scopedRest (Ix := ℕ) (Name := ℕ) (U := UU) (Lvl := ℕ) (Val := Elt F) (Pipeline.pin (pcfgs (F := F)) adm 0).spec c : sProp 𝕄)
    = iprop(any c cc0_scratch0 ∗ rest0 c) := scopedRest0_eq c

theorem hin0 (c : Dev nD) : iprop(Pipeline.scopedRest (Pipeline.pin (pcfgs (F := F)) adm 0).spec c ∗ emp) ⊢ (pdats m 0 c).Φ 0 := by
  rw [show (pdats m 0 c).Φ 0 = iprop(accH m c 0 ∗ rest0 c) from rfl, scoped0]
  iintro ⟨⟨Ha, Hr⟩, -⟩
  isplitl [Ha]
  · ihave H := (any_whole c).1 $$ Ha
    icases H with ⟨%a, H⟩
    unfold accH
    iexists a
    isplitr; · ipureintro; exact fun h => absurd rfl h
    iexact H
  iexact Hr

theorem hout0 (c : Dev nD) : (pdats m 0 c).Φ (Fin.last _) ⊢ iprop(Pipeline.scopedRest (Pipeline.pin (pcfgs (F := F)) adm 0).spec c ∗ emp) := by
  rw [show (pdats m 0 c).Φ (Fin.last _) = iprop(accH m c cfg0.N ∗ rest0 c) from rfl, scoped0]
  unfold accH
  iintro ⟨⟨%a, -, H⟩, Hr⟩
  isplitl
  · isplitl [H]
    · iapply (any_whole c).2; iexists a; iexact H
    iexact Hr
  iempintro

/-- The buffers of a core that live through the program, but those a call's windows address. -/
def others (p : Fin 2) : Finset (DevRef τ sig) := Pipeline.ucRefs τ sig \ Pipeline.arrRefs (pcfgs (F := F) p).spec

theorem arr0 (c : Dev nD) (w : Fin (Pipeline.pin (pcfgs (F := F)) adm 0).W) :
    (pdats m 0 c).arrAt w (Pipeline.pin (pcfgs (F := F)) adm 0).N = V1 m (outs m) c (Proc.devRef .tc (Pipeline.arrRef (Pipeline.pin (pcfgs (F := F)) adm 0).spec w)) := by
  match w with
  | 0 => exact ((dat0 m c).arrAt_in 0 rfl _).trans (V1_of m (outs m) c main_arg0 (by decide)).symm
  | 1 => exact ((dat0 m c).arrAt_in 1 rfl _).trans (V1_of m (outs m) c main_arg1 (by decide)).symm
  | 2 =>
    exact ((show V1 m (outs m) c (Proc.devRef .tc main_v1) = outs m 1 main_v1 c from Function.update_self _ _ _).trans (outs_v1 m c)).symm

set_option backward.isDefEq.respectTransparency.types false in
/-- The matrix product as a region, beside anything else a core holds. -/
def reg0 (R : Dev nD → sProp (MT nD τ sig ℕ (Elt F) ℕ UU ℕ)) : Pipeline.RegionSeg (pcfgs (F := F)) adm (pdats m) 0 defs₀ 𝒱₀ L lv 0 :=
  Pipeline.RegionSeg.ofHeld (pcfgs (F := F)) adm (pdats m) 0 defs₀ 𝒱₀ L lv 0 O₀ (fun _ => iprop(emp)) (fun _ => iprop(emp)) launch0.toP rfl
    (fun c => (body0 m c).loose) (fun _ _ => rfl) (fun _ => rfl)
    (fun c w => by match w with | 0 => rfl | 1 => rfl | 2 => rfl)
    (hin0 m) (hout0 m) (fun _ => 0) ⟨stage_mem 0, stage_low 0, fun c g i h => above_O₀ c g i h⟩ R
    (V0 m) (V1 m (outs m)) (fun c w => rfl) (arr0 m)

/-! ## The exchange -/

theorem scoped1 (c : Dev nD) : (Pipeline.scopedRest (Ix := ℕ) (Name := ℕ) (U := UU) (Lvl := ℕ) (Val := Elt F) (Pipeline.pin (pcfgs (F := F)) adm 1).spec c : sProp 𝕄)
    ⊣⊢ iprop(rest1 c ∗ Scr (F := F) c) := by
  rw [show (Pipeline.scopedRest (Ix := ℕ) (Name := ℕ) (U := UU) (Lvl := ℕ) (Val := Elt F) (Pipeline.pin (pcfgs (F := F)) adm 1).spec c : sProp 𝕄)
    = iprop(any c cc0_stg0_0 ∗ any c cc0_stg0_1 ∗ any c cc0_stg1_0 ∗ any c cc0_stg1_1 ∗ any c cc0_stg2_0 ∗ any c cc0_stg2_1 ∗ any c cc0_scratch0 ∗ Scr (F := F) c)
    from scopedRest1_eq c]
  unfold rest1
  constructor
  · iintro ⟨H1, H2, H3, H4, H5, H6, H7, HS⟩
    isplitr [HS]
    · isplitl [H1]; · iexact H1
      isplitl [H2]; · iexact H2
      isplitl [H3]; · iexact H3
      isplitl [H4]; · iexact H4
      isplitl [H5]; · iexact H5
      isplitl [H6] <;> iassumption
    iexact HS
  · iintro ⟨⟨H1, H2, H3, H4, H5, H6, H7⟩, HS⟩
    isplitl [H1]; · iexact H1
    isplitl [H2]; · iexact H2
    isplitl [H3]; · iexact H3
    isplitl [H4]; · iexact H4
    isplitl [H5]; · iexact H5
    isplitl [H6]; · iexact H6
    isplitl [H7] <;> iassumption

/-- What the launch keeps for a device's exchange. -/
def Tk (c : Dev nD) : sProp 𝕄 :=
  iprop((∃ K, pers (logits m) K) ∗ pos (bC c) 0 ∗ (bigSep Finset.univ fun k : Fin 20 => openTok ER ((c : Thread nD τ), osem k))
    ∗ bigSep (Finset.Ico 0 8) (TokA (F := F) c) ∗ bigSep (Finset.Ico 0 8) (TokB (F := F) c) ∗ TokBar (F := F) c)
/-- The same, its counters opened. -/
def Xk (c : Dev nD) : sProp 𝕄 :=
  iprop((∃ K, pers (logits m) K) ∗ pos (bC c) 0 ∗ Cells (F := F) c (fun _ => 0)
    ∗ bigSep (Finset.Ico 0 8) (TokA (F := F) c) ∗ bigSep (Finset.Ico 0 8) (TokB (F := F) c) ∗ TokBar (F := F) c)
def Yk (c : Dev nD) : sProp 𝕄 := semVal (bC c) 0

theorem open_all (lg : Dev nD → S2x1024x8192.Idx → Elt F .bf16) (K : GSem nD τ sig → ℕ) (c : Dev nD) :
    iprop(pers lg K ∗ (bigSep Finset.univ fun k : Fin 20 => openTok ER ((c : Thread nD τ), osem k)) ∗ Pipeline.ownSems0 osem c)
      ⊢ (|={Set.univ}=> Cells (F := F) c (fun _ => 0) : sProp 𝕄) := by
  have h : iprop(pers lg K ∗ bigSep Finset.univ fun k : Fin 20 => openTok ER ((c : Thread nD τ), osem k))
      ⊢ bigSep Finset.univ fun k : Fin 20 => (iprop(cellInv ER (Rd lg) (K ((c : Thread nD τ), osem k)) ((c : Thread nD τ), osem k) ∗ openTok ER ((c : Thread nD τ), osem k)) : sProp 𝕄) :=
    bigSep_with_persistent (R := pers lg K) fun k _ => sep_mono_left (pers_inv lg (mem_sc c k))
  unfold Pipeline.ownSems0
  iintro ⟨#HK, Ho, Hs⟩
  ihave H := h $$ [Ho]
  · isplitr; · iexact HK
    iexact Ho
  iapply (Rounds.cells_open ER (Rd lg) Finset.univ (fun k : Fin 20 => ((c : Thread nD τ), osem k)) (fun k => K ((c : Thread nD τ), osem k)) (fun k _ => Set.mem_univ _)) $$ [H Hs]
  isplitl [H]; · iexact H
  iexact Hs

theorem hopen1 (c : Dev nD) : iprop(Tk m c ∗ Pipeline.ownSems0 osem c ∗ levAts L lv) ⊢ (|={Set.univ}=> Xk m c : sProp 𝕄) := by
  unfold Tk Xk
  iintro ⟨⟨⟨%K, #HK⟩, Hb, Ho, HA, HB, HT⟩, Hs, -⟩
  imod (open_all (logits m) K c) $$ [Ho Hs] with HC
  · isplitr; · iexact HK
    isplitl [Ho] <;> iassumption
  imodintro
  isplitr; · iexists K; iexact HK
  isplitl [Hb]; · iexact Hb
  isplitl [HC]; · iexact HC
  isplitl [HA]; · iexact HA
  isplitl [HB] <;> iassumption

def outRef : Finset (DevRef τ sig) := {Proc.devRef .tc main_v3}

theorem out_mem : outRef ⊆ others (F := F) 1 := fun b hb => by
  rw [Finset.mem_singleton.mp hb]
  refine Finset.mem_sdiff.mpr ⟨Finset.mem_filter.mpr ⟨StableHlo.devRef_mem_tcRefs main_v3, by decide⟩, fun h => ?_⟩
  obtain ⟨r, hr, e⟩ := Finset.mem_map.mp h
  obtain ⟨w, -, rfl⟩ := Finset.mem_image.mp hr
  have hw : Pipeline.arrRef (pcfgs (F := F) 1).spec w = main_v2 := by match w with | 0 => rfl
  exact absurd ((Proc.devRef_injective .tc e).symm.trans hw) (by decide)

theorem held_out (c : Dev nD) (W : Valuation τ sig (Elt F)) :
    (StableHlo.held (c.tc : Thread nD τ) outRef W : sProp 𝕄) = (outM.view.loc (c : Thread nD τ) ↦{fullShare} W (Proc.devRef .tc main_v3)) := by
  unfold StableHlo.held outRef
  rw [BI.bigSep_singleton]

theorem hin1 (c : Dev nD) : iprop(Pipeline.scopedRest (Pipeline.pin (pcfgs (F := F)) adm 1).spec c ∗ (∃ r, prngReg c r)
      ∗ StableHlo.held (c.tc : Thread nD τ) outRef (V2 m (outs m) c) ∗ Xk m c) ⊢ (pdats m 1 c).Φ 0 := by
  rw [show (pdats m 1 c).Φ 0 = iprop(((∃ K, pers (logits m) K) ∗ Core (logits m) c 0 ∗ Bar (F := F) c) ∗ rest1 c ∗ ∃ r, prngReg c r) from rfl, held_out]
  unfold Xk
  iintro ⟨Hs, Hp, Hout, ⟨HK, Hb, HC, HA, HB, HT⟩⟩
  ihave Hs := (scoped1 c).1 $$ Hs
  icases Hs with ⟨Hr, Hs⟩
  isplitr [Hr Hp]
  · isplitl [HK]; · iexact HK
    iapply (enter (lg := logits m) (c := c))
    isplitl [Hs]; · iexact Hs
    isplitl [Hout]; · iexists _; iexact Hout
    isplitl [HC]; · iexact HC
    isplitl [Hb]; · iexact Hb
    isplitl [HA]; · iexact HA
    isplitl [HB] <;> iassumption
  isplitl [Hr] <;> iassumption

theorem before_last (c : Dev nD) : Before (logits m) c cfg1.N = Fin' (logits m) c := by
  rw [show cfg1.N = 10 from N_1]; unfold Before
  rw [if_neg (by decide), if_pos rfl]

theorem hout1 (c : Dev nD) : (pdats m 1 c).Φ (Fin.last _) ⊢ iprop(Pipeline.scopedRest (Pipeline.pin (pcfgs (F := F)) adm 1).spec c ∗ (∃ r, prngReg c r)
      ∗ StableHlo.held (c.tc : Thread nD τ) outRef (V3 m (outs m) c) ∗ Pipeline.ownSems0 osem c ∗ Yk c) := by
  rw [show (pdats m 1 c).Φ (Fin.last _) = iprop(((∃ K, pers (logits m) K) ∗ Before (logits m) c cfg1.N) ∗ rest1 c ∗ ∃ r, prngReg c r) from rfl,
    before_last, held_out, show V3 m (outs m) c (Proc.devRef .tc main_v3) = Gout (logits m) c from (Function.update_self _ _ _).trans (outs_v3 m c)]
  unfold Fin' Yk
  iintro ⟨⟨-, Hs, Hb, HS, Hout⟩, Hr, Hp⟩
  isplitl [Hr HS]
  · iapply (scoped1 c).2
    isplitl [Hr] <;> iassumption
  isplitl [Hp]; · iexact Hp
  isplitl [Hout]; · iexact Hout
  isplitl [Hs] <;> iassumption

theorem V3_off (c : Dev nD) (b : DevRef τ sig) (h : b ≠ Proc.devRef .tc main_v3) : V3 m (outs m) c b = V2 m (outs m) c b := Function.update_of_ne h _ _

theorem owed1_last (c : Dev nD) : (pdats m 1 c).owed (Fin.last _) = 0 := by
  show owedAt c cfg1.N = 0
  rw [show cfg1.N = 10 from N_1]; unfold owedAt
  rw [if_neg (by decide)]; exact Owed_last c (by decide)

set_option backward.isDefEq.respectTransparency.types false in
/-- The exchange as a region. -/
def reg1 : Pipeline.RegionSeg (pcfgs (F := F)) adm (pdats m) 0 defs₀ 𝒱₀ L lv 1 :=
  Pipeline.RegionSeg.ofTalk (pcfgs (F := F)) adm (pdats m) 0 defs₀ 𝒱₀ L lv 1 osem (by decide : Pipeline.OwnSemFacts spec1 osem)
    outRef (others (F := F) 1) out_mem launch1.toP rfl (fun c => (body1 m c).loose)
    (fun _ => 0) O₀ (fun c => (zero_add (O₀ c)).symm) (owed1_last m) (fun _ => rfl) (fun c w => by match w with | 0 => rfl)
    (V2 m (outs m)) (V3 m (outs m)) (fun c b hb => V3_off m c b fun e => (Finset.mem_sdiff.mp hb).2 (e ▸ Finset.mem_singleton_self _))
    (Tk m) Yk (Xk m) Yk (hopen1 m) (hin1 m) (hout1 m)
    (fun c => by iintro H; imodintro; iexact H)
    (fun _ => 0) ⟨stage_mem 1, stage_low 1, fun c t g i h => above_owedAt c t.val g i h⟩
    (fun _ => iprop(emp))
    (fun c w => rfl)
    (fun c w => by
      match w with
      | 0 => exact ((dat1 m c).arrAt_in 0 rfl _).trans (V3_of m (outs m) c main_v2 (by decide)).symm)

end Records

end Cert.Exchange
-- ==== Proof.Deal.lean ====
/-
  The launch of the exchange: the tokens of all its duties and the credit of all its waits, dealt to the devices that use them.
-/
module

public import proofs.«01_k».proof.Proof.Records

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Families over a range of chunks -/

theorem fin8 (Φ : ℕ → sProp 𝕄) : (bigSep Finset.univ fun n : Fin 8 => Φ n) = bigSep (Finset.Ico 0 8) Φ := by
  rw [show Finset.Ico 0 8 = (Finset.univ : Finset (Fin 8)).map Fin.valEmbedding from by decide, BI.bigSep_map]; rfl

theorem bigSep_only (s : Finset ℕ) (p : ℕ → Prop) [DecidablePred p] (Φ : ℕ → sProp 𝕄) :
    (bigSep s fun n => only (p n) (Φ n)) = bigSep (s.filter p) Φ := by
  induction s using Finset.induction_on with
  | empty => rw [Finset.filter_empty, BI.bigSep_empty, BI.bigSep_empty]
  | insert a s ha ih =>
    rw [bigSep_insert ha, ih, Finset.filter_insert]
    by_cases h : p a
    · rw [if_pos h, only_pos h, bigSep_insert fun hm => ha (Finset.mem_filter.mp hm).1]
    · rw [if_neg h, only_neg h]
      exact BI.equiv_iff.mp BI.emp_sep

/-- Four consecutive members of a family, renumbered `k` higher. -/
theorem shift (Φ : ℕ → sProp 𝕄) {a b k : ℕ} (p : ℕ → Prop) [DecidablePred p]
    (h : (Finset.Ico 0 8).filter p = (Finset.Ico a b).map (addRightEmbedding k)) :
    bigSep (Finset.Ico a b) Φ = bigSep (Finset.Ico 0 8) fun n => only (p n) (Φ (n - k)) := by
  rw [bigSep_only, h, BI.bigSep_map]
  exact bigSep_congr fun n _ => congrArg Φ (show n = n + k - k by omega)

/-! ## The credit -/

theorem cred_one (sm : SemLoc sig) (f : Dev nD → Dev nD) (hf : ∀ c, f (f c) = c) (ι n : ℕ) (c : Dev nD) :
    (Pipeline.launchCred (fun d => tallyAt ((f d : Thread nD τ), sm) ι n) c : sProp 𝕄) ⊢ cred (tallyAt ((c : Thread nD τ), sm) ι n) :=
  Pipeline.launchCred_tallyAt sm f f hf hf ι n c

theorem cred_if (p : Prop) [Decidable p] (sm : SemLoc sig) (f : Dev nD → Dev nD) (hf : ∀ c, f (f c) = c) (ι n : ℕ) (c : Dev nD) :
    (Pipeline.launchCred (fun d => if p then tallyAt ((f d : Thread nD τ), sm) ι n else 0) c : sProp 𝕄)
      ⊢ only p (cred (tallyAt ((c : Thread nD τ), sm) ι n)) := by
  by_cases h : p
  · simp only [h, if_true, only_pos]; exact cred_one sm f hf ι n c
  · simp only [h, if_false]
    rw [Pipeline.launchCred_zero, only_neg not_false]

/-- A device's credit, chunk by chunk. -/
def creds (c : Dev nD) (n : ℕ) : sProp 𝕄 :=
  iprop(only (1 ≤ n ∧ n ≤ 4) (cred (tallyAt (ycC c) n 1)) ∗ cred (tallyAt (yrC c n) n NX)
    ∗ only (2 ≤ n ∧ n ≤ 5) (cred (tallyAt (xcC c) n 1)) ∗ cred (tallyAt (xrC c n) n NX))

theorem cred_due (c : Dev nD) (n : ℕ) : (Pipeline.launchCred (fun d => due d n) c : sProp 𝕄) ⊢ creds (F := F) c n := by
  unfold due creds dueA dueB dueC dueD
  rw [Pipeline.launchCred_add, Pipeline.launchCred_add, Pipeline.launchCred_add]
  iintro ⟨⟨⟨H1, H2⟩, H3⟩, H4⟩
  isplitl [H1]; · iapply (cred_if (1 ≤ n ∧ n ≤ 4) (.reg ycS) yn yn_yn n 1 c); iexact H1
  isplitl [H2]; · iapply (cred_one (.dma (yrS n)) yn yn_yn n NX c); iexact H2
  isplitl [H3]; · iapply (cred_if (2 ≤ n ∧ n ≤ 5) (.reg xcS) xn xn_xn n 1 c); iexact H3
  iapply (cred_one (.dma (xrS n)) xn xn_xn n NX c); iexact H4

theorem cred_all (c : Dev nD) :
    (Pipeline.launchCred O₀ c : sProp 𝕄) ⊢ iprop(bigSep (Finset.Ico 0 8) (creds (F := F) c) ∗ cred (tallyAt (bC c) 0 2)) := by
  unfold O₀ Owed
  rw [Pipeline.launchCred_add, Pipeline.launchCred_add, Pipeline.launchCred_sum (Finset.Ico 0 8) (fun j d => due d j) c,
    show (2 : ℕ) = 1 + 1 from rfl, ← tallyAt_add]
  iintro ⟨⟨H, H1⟩, H2⟩
  isplitl [H]
  · iapply (show (bigSep (Finset.Ico 0 8) fun n => (Pipeline.launchCred (fun d => due d n) c : sProp 𝕄)) ⊢ bigSep (Finset.Ico 0 8) (creds (F := F) c) from
      BI.bigSep_mono fun n _ => cred_due (F := F) c n)
    iexact H
  iapply (cred_add _ _).2
  isplitl [H1]
  · iapply (cred_one (.reg bS) yn yn_yn 0 1 c); iexact H1
  · iapply (cred_one (.reg bS) xn xn_xn 0 1 c); iexact H2

/-! ## The tokens -/

/-- The duties a device's cells have, by kind and chunk. -/
def tk (k : Fin 10) (n : ℕ) : SemLoc sig × ℕ × ℕ :=
  match k with
  | 0 => (.dma (xsS n), n / 2, 0)
  | 1 => (.dma (xrS n), n / 4, 0)
  | 2 => (.dma (ysS n), n / 4, 0)
  | 3 => (.dma (yrS n), n / 4, 0)
  | 4 => (.dma (stS n), n / 2, 0)
  | 5 => (.dma (suS n), n / 2, 0)
  | 6 => (.reg xcS, 0, n)
  | 7 => (.reg ycS, 0, n)
  | 8 => (.reg bS, 0, 2 * n)
  | 9 => (.reg bS, 0, 2 * n + 1)

theorem tk_inj : ∀ p q : Fin 10 × Fin 8, tk p.1 p.2 = tk q.1 q.2 → p = q := by decide +kernel

def toks : Finset (GSem nD τ sig × ℕ × ℕ) :=
  Finset.univ.map ⟨fun p : Dev nD × Fin 10 × Fin 8 => (((p.1 : Thread nD τ), (tk p.2.1 p.2.2).1), (tk p.2.1 p.2.2).2), fun p q h =>
    Prod.ext (Fin.ext (congrArg (fun x : GSem nD τ sig × ℕ × ℕ => x.1.1.1.val) h))
      (tk_inj p.2 q.2 (Prod.ext (congrArg (fun x : GSem nD τ sig × ℕ × ℕ => x.1.2) h) (congrArg (fun x : GSem nD τ sig × ℕ × ℕ => x.2) h)))⟩

def tok (k : Fin 10) (n : ℕ) (c : Dev nD) : sProp 𝕄 := dutyTok ER ((c : Thread nD τ), (tk k n).1) (tk k n).2.1 (tk k n).2.2

/-- One kind of duty, of all chunks, at one device. -/
def tokK (k : Fin 10) (c : Dev nD) : sProp 𝕄 := bigSep (Finset.Ico 0 8) fun n => tok (F := F) k n c

theorem toks_eq : (bigSep toks fun x => (dutyTok ER x.1 x.2.1 x.2.2 : sProp 𝕄)) = bigSep Finset.univ fun c : Dev nD => bigSep Finset.univ fun k : Fin 10 => tokK (F := F) k c := by
  unfold toks
  rw [BI.bigSep_map, bigSep_univ_prod]
  refine bigSep_congr fun c _ => ?_
  rw [bigSep_univ_prod]
  refine bigSep_congr fun k _ => ?_
  unfold tokK
  rw [← fin8]; rfl

theorem fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide]
  iterate 9 rw [bigSep_insert (by decide)]
  rw [BI.bigSep_singleton]; rfl

def xnE : Dev nD ≃ Dev nD := ⟨xn, xn, xn_xn, xn_xn⟩
def ynE : Dev nD ≃ Dev nD := ⟨yn, yn, yn_yn, yn_yn⟩

/-- What a device is dealt: the tokens of its own cells that it pays itself, and those it pays at its two neighbours. -/
def dealt (c : Dev nD) : sProp 𝕄 :=
  iprop(tokK (F := F) 0 c ∗ tokK (F := F) 1 (xn c) ∗ tokK (F := F) 2 c ∗ tokK (F := F) 3 (yn c) ∗ tokK (F := F) 4 c ∗ tokK (F := F) 5 c
    ∗ tokK (F := F) 6 (xn c) ∗ tokK (F := F) 7 (yn c) ∗ tokK (F := F) 8 (xn c) ∗ tokK (F := F) 9 (yn c))

theorem toks_dealt : (bigSep toks fun x => (dutyTok ER x.1 x.2.1 x.2.2 : sProp 𝕄)) = bigSep Finset.univ fun c : Dev nD => dealt (F := F) c := by
  have hx (k : Fin 10) : (bigSep Finset.univ fun c : Dev nD => tokK (F := F) k (xn c)) = bigSep Finset.univ fun c : Dev nD => tokK (F := F) k c :=
    (bigSep_univ_equiv xnE (fun c : Dev nD => tokK (F := F) k c)).symm
  have hy (k : Fin 10) : (bigSep Finset.univ fun c : Dev nD => tokK (F := F) k (yn c)) = bigSep Finset.univ fun c : Dev nD => tokK (F := F) k c :=
    (bigSep_univ_equiv ynE (fun c : Dev nD => tokK (F := F) k c)).symm
  rw [toks_eq, show (fun c : Dev nD => bigSep Finset.univ fun k : Fin 10 => tokK (F := F) k c) = fun c => _ from funext fun c => fin10 (F := F) fun k => tokK (F := F) k c]
  unfold dealt
  simp only [BI.bigSep_sep', hx, hy]

theorem tokK_at (k : Fin 10) (c : Dev nD) {n : ℕ} (h : n ∈ Finset.Ico 0 8) : tokK (F := F) k c ⊢ tok k n c := by
  unfold tokK; exact bigSep_elim h

/-- Everything a device uses in the exchange, of what it was dealt. -/
theorem dealt_toks (c : Dev nD) :
    iprop(dealt (F := F) c ∗ bigSep (Finset.Ico 0 8) (creds (F := F) c) ∗ cred (tallyAt (bC c) 0 2) ∗ reached ER (bC (xn c)) 0 ∗ reached ER (bC (yn c)) 0)
      ⊢ iprop(bigSep (Finset.Ico 0 8) (TokA (F := F) c) ∗ bigSep (Finset.Ico 0 8) (TokB (F := F) c) ∗ TokBar (F := F) c) := by
  have h6 : tokK (F := F) 6 (xn c) ⊢ bigSep (Finset.Ico 0 8) fun n => only (2 ≤ n ∧ n ≤ 5) (tok (F := F) 6 (n - 2) (xn c)) := by
    unfold tokK
    rw [← shift (F := F) (fun n => tok (F := F) 6 n (xn c)) (a := 0) (b := 4) (k := 2) (fun n => 2 ≤ n ∧ n ≤ 5) (by decide)]
    exact BI.bigSep_subset (by decide)
  have h7 : tokK (F := F) 7 (yn c) ⊢ bigSep (Finset.Ico 0 8) fun n => only (n ≤ 3) (tok (F := F) 7 (n - 0) (yn c)) := by
    unfold tokK
    rw [← shift (F := F) (fun n => tok (F := F) 7 n (yn c)) (a := 0) (b := 4) (k := 0) (fun n => n ≤ 3) (by decide)]
    exact BI.bigSep_subset (by decide)
  have h8 : tokK (F := F) 8 (xn c) ⊢ dutyTok ER (bC (xn c)) 0 0 := tokK_at 8 (xn c) (n := 0) (by decide)
  have h9 : tokK (F := F) 9 (yn c) ⊢ dutyTok ER (bC (yn c)) 0 1 := tokK_at 9 (yn c) (n := 0) (by decide)
  have hx : (bigSep (Finset.Ico 0 8) fun n => only (2 ≤ n ∧ n ≤ 5) (cred (tallyAt (xcC c) n 1) : sProp 𝕄))
      = bigSep (Finset.Ico 0 8) fun n => only (4 ≤ n) (cred (tallyAt (xcC c) (n - 2) 1)) := by
    rw [bigSep_only, show (Finset.Ico 0 8).filter (fun n => 2 ≤ n ∧ n ≤ 5) = Finset.Ico 2 6 from by decide]
    exact shift (F := F) (fun n => cred (tallyAt (xcC c) n 1)) (k := 2) (fun n => 4 ≤ n) (by decide)
  have hy : (bigSep (Finset.Ico 0 8) fun n => only (1 ≤ n ∧ n ≤ 4) (cred (tallyAt (ycC c) n 1) : sProp 𝕄))
      = bigSep (Finset.Ico 0 8) fun n => only (4 ≤ n) (cred (tallyAt (ycC c) (n - 3) 1)) := by
    rw [bigSep_only, show (Finset.Ico 0 8).filter (fun n => 1 ≤ n ∧ n ≤ 4) = Finset.Ico 1 5 from by decide]
    exact shift (F := F) (fun n => cred (tallyAt (ycC c) n 1)) (k := 3) (fun n => 4 ≤ n) (by decide)
  have hA : bigSep (Finset.Ico 0 8) (TokA (F := F) c) = iprop(tokK (F := F) 0 c ∗ tokK (F := F) 1 (xn c) ∗ tokK (F := F) 2 c ∗ tokK (F := F) 3 (yn c) ∗ tokK (F := F) 4 c
      ∗ (bigSep (Finset.Ico 0 8) fun n => cred (tallyAt (xrC c n) n NX))
      ∗ (bigSep (Finset.Ico 0 8) fun n => only (2 ≤ n ∧ n ≤ 5) (tok (F := F) 6 (n - 2) (xn c)))
      ∗ (bigSep (Finset.Ico 0 8) fun n => only (4 ≤ n) (cred (tallyAt (xcC c) (n - 2) 1)))
      ∗ bigSep (Finset.Ico 0 8) fun n => only (4 ≤ n) (cred (tallyAt (ycC c) (n - 3) 1))) := by
    unfold tokK; simp only [← BI.bigSep_sep']; rfl
  have hB : bigSep (Finset.Ico 0 8) (TokB (F := F) c) = iprop(tokK (F := F) 5 c ∗ (bigSep (Finset.Ico 0 8) fun n => cred (tallyAt (yrC c n) n NX))
      ∗ bigSep (Finset.Ico 0 8) fun n => only (n ≤ 3) (tok (F := F) 7 (n - 0) (yn c))) := by
    unfold tokK; simp only [← BI.bigSep_sep']; rfl
  have hC : bigSep (Finset.Ico 0 8) (creds (F := F) c) = iprop((bigSep (Finset.Ico 0 8) fun n => only (1 ≤ n ∧ n ≤ 4) (cred (tallyAt (ycC c) n 1) : sProp 𝕄))
      ∗ (bigSep (Finset.Ico 0 8) fun n => cred (tallyAt (yrC c n) n NX))
      ∗ (bigSep (Finset.Ico 0 8) fun n => only (2 ≤ n ∧ n ≤ 5) (cred (tallyAt (xcC c) n 1) : sProp 𝕄))
      ∗ bigSep (Finset.Ico 0 8) fun n => cred (tallyAt (xrC c n) n NX)) := by
    simp only [← BI.bigSep_sep']; rfl
  rw [hA, hB, hC, hx, hy]
  unfold dealt TokBar
  iintro ⟨⟨H0, H1, H2, H3, H4, H5, H6, H7, H8, H9⟩, ⟨Cy, Cyr, Cx, Cxr⟩, Cb, Rx, Ry⟩
  isplitl [H0 H1 H2 H3 H4 H6 Cxr Cx Cy]
  · isplitl [H0]; · iexact H0
    isplitl [H1]; · iexact H1
    isplitl [H2]; · iexact H2
    isplitl [H3]; · iexact H3
    isplitl [H4]; · iexact H4
    isplitl [Cxr]; · iexact Cxr
    isplitl [H6]; · iapply h6; iexact H6
    isplitl [Cx] <;> iassumption
  isplitl [H5 Cyr H7]
  · isplitl [H5]; · iexact H5
    isplitl [Cyr]; · iexact Cyr
    iapply h7; iexact H7
  isplitl [H8 Rx]
  · isplitl [H8]
    · iapply h8; iexact H8
    · iexact Rx
  isplitl [H9 Ry]
  · isplitl [H9]
    · iapply h9; iexact H9
    · iexact Ry
  iexact Cb

end Cert.Exchange
-- ==== Proof.Run.lean ====
/-
  The whole program: launched, run through both calls, and read at its end.
-/
module

public import proofs.«01_k».proof.Proof.Deal

@[expose] public section

noncomputable section

namespace Cert.Exchange

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Run

variable (m : (ℓ : Loc nD τ sig) → Buf (Elt F) ℓ) (ρ : Dev nD → PrngReg)

/-! ## The launch -/

theorem unscoped_eq : ∀ sm : SemLoc sig, sm.isScoped .tc = false → sm = .reg bS := by decide

theorem unscopedSems0_eq (c : Dev nD) : (unscopedSems0 c : sProp 𝕄) = semVal (bC c) 0 := by
  unfold unscopedSems0
  rw [show (Finset.univ.filter fun sm : SemLoc sig => ¬ sm.isScoped .tc) = {SemLoc.reg bS} from by decide, BI.bigSep_singleton]

theorem osem_bar : ∀ k : Fin 20, osem k ≠ .reg bS := by decide

theorem disjoint_cells : Disjoint barCells scCells := by
  unfold barCells scCells
  rw [Finset.disjoint_left]
  intro g h₁ h₂
  obtain ⟨c, -, rfl⟩ := Finset.mem_map.mp h₁
  obtain ⟨ck, -, h⟩ := Finset.mem_map.mp h₂
  exact osem_bar ck.2 (congrArg Prod.snd h)

/-- The launch's ghost element: the pipelines' rounds, and the exchange's. -/
def u₀ : UU :=
  (initOf (Pipeline.cells (Pipeline.pin (pcfgs (F := F)) adm) cellOf_inj) (Pipeline.launchToks (Pipeline.pin (pcfgs (F := F)) adm) cellOf_inj),
    launchOf barCells scCells toks)

/-- The exchange's share of it, kept by device `0` until the cells are made. -/
def G (c : Dev nD) : sProp 𝕄 := if c = 0 then BI.own (ER (launchOf barCells scCells toks)) else iprop(emp)

theorem bigSep_G : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- All a device brings to the first call beside its arrays. -/
def E0 (c : Dev nD) : sProp 𝕄 := iprop((∃ r, prngReg c r) ∗ Tk m c ∗ owe c (O₀ c))
def E2 (c : Dev nD) : sProp 𝕄 := iprop((∃ r, prngReg c r) ∗ Yk (F := F) c ∗ owe c 0)
def E : Fin 3 → Dev nD → sProp (MT nD τ sig ℕ (Elt F) ℕ UU ℕ) := ![E0 m, E0 m, E2]

/-- A device's holdings at launch, the exchange's ghost state aside. -/
def bundle (c : Dev nD) : sProp 𝕄 :=
  iprop(StableHlo.held (c : Thread nD τ) (Pipeline.ucRefs τ sig) (V0 m c) ∗ (bigSep (Finset.Ico 0 8) (creds (F := F) c) ∗ cred (tallyAt (bC c) 0 2))
    ∗ owes (c : Thread nD τ) (O₀ c) ∅ ∗ ∃ r, prngReg c r)

def records (K : GSem nD τ sig → ℕ) : sProp 𝕄 := iprop(pers (logits m) K ∗ bigSep barCells fun g => reached ER g 0)
instance records_persistent (K : GSem nD τ sig → ℕ) : BI.Persistent (records m K) := by unfold records; infer_instance

/-- The linear part of the exchange's ghost state at one device. -/
def linear (c : Dev nD) : sProp 𝕄 :=
  iprop(atPos ER (bC c) 0 ∅ 0 ∗ (bigSep Finset.univ fun k : Fin 20 => openTok ER ((c : Thread nD τ), osem k)) ∗ dealt (F := F) c)

theorem reached_at (c : Dev nD) : (bigSep barCells fun g => (reached ER g 0 : sProp 𝕄)) ⊢ reached ER (bC c) 0 :=
  bigSep_elim (Finset.mem_map_of_mem barEmb (Finset.mem_univ c))

theorem start_intro (K : GSem nD τ sig → ℕ) (c : Dev nD) :
    iprop(records m K ∗ (linear (F := F) c ∗ bundle m c)) ⊢ iprop(StableHlo.held (c : Thread nD τ) (Pipeline.ucRefs τ sig) (V0 m c) ∗ E0 m c) := by
  unfold records linear bundle E0 Tk owe pos
  iintro ⟨⟨#HK, #HR⟩, ⟨Hat, Hop, Hd⟩, Hh, ⟨Hc, Hb⟩, HO, Hp⟩
  ihave HT := (dealt_toks (F := F) c) $$ [Hd Hc Hb]
  · isplitl [Hd]; · iexact Hd
    isplitl [Hc]; · iexact Hc
    isplitl [Hb]; · iexact Hb
    isplitr; · iapply (reached_at (F := F) (xn c)); iexact HR
    iapply (reached_at (F := F) (yn c)); iexact HR
  isplitl [Hh]; · iexact Hh
  isplitl [Hp]; · iexact Hp
  isplitr [HO]
  · isplitr; · iexists K; iexact HK
    isplitl [Hat]
    · isplitl [Hat]; · iexact Hat
      iapply (reached_at (F := F) c); iexact HR
    isplitl [Hop]; · iexact Hop
    iexact HT
  iexists ∅; iexact HO

theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (bC c) 0 ∗ G c)) : sProp 𝕄) := by
  rw [show unscopedBufs c (fun b => m ((c : Thread nD τ).loc b)) = StableHlo.held (c : Thread nD τ) (Pipeline.ucRefs τ sig) (V0 m c)
    from Pipeline.unscopedBufs_held (Ix := ℕ) (Name := ℕ) (U := UU) (Lvl := ℕ) c (V0 m c), unscopedSems0_eq]
  unfold bundle
  iintro ⟨Hh, Hus, HO, Hcr, Hp, HG⟩
  ihave Hc := (cred_all (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem zip {Φ Ψ : Dev nD → sProp (MT nD τ sig ℕ (Elt F) ℕ UU ℕ)} :
    iprop(bigSep Finset.univ Φ ∗ bigSep Finset.univ Ψ) ⊢ bigSep Finset.univ (fun c => iprop(Φ c ∗ Ψ c)) := Entails.of_eq (BI.bigSep_sep' ..).symm
theorem unzip {Φ Ψ : Dev nD → sProp (MT nD τ sig ℕ (Elt F) ℕ UU ℕ)} :
    bigSep Finset.univ (fun c => iprop(Φ c ∗ Ψ c)) ⊢ iprop(bigSep Finset.univ Φ ∗ bigSep Finset.univ Ψ) := Entails.of_eq (BI.bigSep_sep' ..)

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E0 m c) : sProp 𝕄) := by
  have hv : bigSep Finset.univ (fun c : Dev nD => (semVal (bC c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bC c) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 20 => (openTok ER ((c : Thread nD τ), osem k) : sProp 𝕄)) :=
    Entails.of_eq ((BI.bigSep_map (s := Finset.univ) scEmb (Φ := fun g : GSem nD τ sig => (openTok ER g : sProp 𝕄))).trans
      (bigSep_univ_prod fun p : Dev nD × Fin 20 => (openTok ER ((p.1 : Thread nD τ), osem p.2) : sProp 𝕄)))
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (bC c) 0 ∗ G c)) : sProp 𝕄) from BI.bigSep_mono fun c _ => core_init m ρ c) $$ H
  ihave H2 := unzip $$ H'; icases H2 with ⟨HB, H3⟩
  ihave H4 := unzip $$ H3; icases H4 with ⟨Hv, HG⟩
  ihave Hu := (show bigSep Finset.univ (G (F := F)) ⊢ BI.own (ER (launchOf barCells scCells toks)) from Entails.of_eq (bigSep_G (F := F))) $$ HG
  imod (Rounds.fund_launch ER (Rd (logits m)) disjoint_cells (fun g _ h => h) toks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear (F := F) c ∗ bundle m c)) fun c _ => start_intro m K c)
  isplitr
  · unfold records pers
    isplitr
    · isplitr; · iexact Hinv
      iexact HL
    iexact Hr
  iapply zip
  isplitr [HB]
  · unfold linear
    iapply zip; isplitl [Hat]; · iapply hat $$ Hat
    iapply zip; isplitl [Hopen]; · iapply hopen $$ Hopen
    iapply (Entails.of_eq (toks_dealt (F := F))) $$ Htok
  · iexact HB

/-! ## Into and out of the calls -/

theorem arr_sub (p : Fin 2) : Pipeline.arrRefs (τ := τ) (pcfgs (F := F) p).spec ⊆ Pipeline.ucRefs τ sig := by
  match p with
  | 0 => exact Pipeline.arrRefs_sub_ucRefs _ launch0.toP.win.arr_unscoped
  | 1 => exact Pipeline.arrRefs_sub_ucRefs _ launch1.toP.win.arr_unscoped

/-- What stays beside the matrix product while it runs. -/
def R0 (c : Dev nD) : sProp 𝕄 :=
  iprop(StableHlo.held (c : Thread nD τ) (others (F := F) 0) (V0 m c) ∗ (∃ r, prngReg c r) ∗ Tk m c)

theorem pre0 (c : Dev nD) : iprop(StableHlo.held (c : Thread nD τ) (Pipeline.ucRefs τ sig) (V0 m c) ∗ E0 m c) ⊢ (reg0 m (R0 m)).pre c := by
  show _ ⊢ iprop(StableHlo.held (c : Thread nD τ) (Pipeline.arrRefs (τ := τ) (pcfgs (F := F) 0).spec) (V0 m c) ∗ emp ∗ R0 m c ∗ ∃ Wd, owes (c : Thread nD τ) (O₀ c) Wd)
  rw [StableHlo.held_sub_split (c : Thread nD τ) (arr_sub (F := F) 0) (V0 m c)]
  unfold E0 R0 owe
  iintro ⟨⟨Ha, Ho⟩, Hp, HT, HO⟩
  isplitl [Ha]; · iexact Ha
  isplitr; · iempintro
  isplitr [HO]
  · isplitl [Ho]; · iexact Ho
    isplitl [Hp] <;> iassumption
  iexact HO

theorem post0 (c : Dev nD) : (reg0 m (R0 m)).post c ⊢ iprop(StableHlo.held (c : Thread nD τ) (Pipeline.ucRefs τ sig) (V1 m (outs m) c) ∗ E0 m c) := by
  show iprop(StableHlo.held (c : Thread nD τ) (Pipeline.arrRefs (τ := τ) (pcfgs (F := F) 0).spec) (V1 m (outs m) c) ∗ emp ∗ R0 m c ∗ ∃ Wd, owes (c : Thread nD τ) (O₀ c) Wd) ⊢ _
  have hoff : (StableHlo.held (c : Thread nD τ) (others (F := F) 0) (V1 m (outs m) c) : sProp 𝕄) = StableHlo.held (c : Thread nD τ) (others (F := F) 0) (V0 m c) :=
    StableHlo.held_congr (c : Thread nD τ) fun b hb => Function.update_of_ne
      (fun e => (Finset.mem_sdiff.mp hb).2 (Finset.mem_map.mpr ⟨main_v1, Finset.mem_image.mpr ⟨2, Finset.mem_univ _, rfl⟩, e.symm⟩)) _ _
  rw [StableHlo.held_sub_split (c : Thread nD τ) (arr_sub (F := F) 0) (V1 m (outs m) c), show Pipeline.ucRefs τ sig \ Pipeline.arrRefs (τ := τ) (pcfgs (F := F) 0).spec = others (F := F) 0 from rfl, hoff]
  unfold E0 R0 owe
  iintro ⟨Ha, -, ⟨Ho, Hp, HT⟩, HO⟩
  isplitr [Hp HT HO]
  · isplitl [Ha] <;> iassumption
  isplitl [Hp]; · iexact Hp
  isplitl [HT] <;> iassumption

theorem pre1 (c : Dev nD) : iprop(StableHlo.held (c : Thread nD τ) (Pipeline.ucRefs τ sig) (V2 m (outs m) c) ∗ E0 m c) ⊢ (reg1 m).pre c := by
  show _ ⊢ iprop(StableHlo.held (c : Thread nD τ) (Pipeline.arrRefs (τ := τ) (pcfgs (F := F) 1).spec) (V2 m (outs m) c) ∗ (∃ r, prngReg c r)
    ∗ (StableHlo.held (c : Thread nD τ) (others (F := F) 1) (V2 m (outs m) c) ∗ emp) ∗ Tk m c ∗ ∃ Wd, owes (c : Thread nD τ) (0 + O₀ c) Wd)
  rw [StableHlo.held_sub_split (c : Thread nD τ) (arr_sub (F := F) 1) (V2 m (outs m) c), show (0 : CellTallies nD τ sig ℕ) + O₀ c = O₀ c from zero_add _]
  unfold E0 owe
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

theorem post1 (c : Dev nD) : (reg1 m).post c ⊢ iprop(StableHlo.held (c : Thread nD τ) (Pipeline.ucRefs τ sig) (V3 m (outs m) c) ∗ E2 c) := by
  show iprop(StableHlo.held (c : Thread nD τ) (Pipeline.arrRefs (τ := τ) (pcfgs (F := F) 1).spec) (V3 m (outs m) c) ∗ (∃ r, prngReg c r)
    ∗ (StableHlo.held (c : Thread nD τ) (others (F := F) 1) (V3 m (outs m) c) ∗ emp) ∗ Yk c ∗ ∃ Wd, owes (c : Thread nD τ) 0 Wd) ⊢ _
  rw [StableHlo.held_sub_split (c : Thread nD τ) (arr_sub (F := F) 1) (V3 m (outs m) c)]
  unfold E2 owe
  iintro ⟨Ha, Hp, ⟨Ho, -⟩, HY, HO⟩
  isplitl [Ha Ho]
  · isplitl [Ha]; · iexact Ha
    iexact Ho
  isplitl [Hp]; · iexact Hp
  isplitl [HY]; · iexact HY
  iexact HO

/-! ## The run -/

/-- What is read off the last state of one device: its buffers, and its barrier counter. -/
theorem read_end (c : Dev nD) (s' : Phys nD τ sig (Elt F)) :
    iprop((StableHlo.held (c : Thread nD τ) (Pipeline.ucRefs τ sig) (V3 m (outs m) c) ∗ Yk (F := F) c) ∗ SI s')
      ⊢ (|={Set.univ}=> iprop(⌜(∀ r : Ref sig .tc, Proc.devRef .tc r ∈ Pipeline.ucRefs τ sig → s'.mem.mem ((c : Thread nD τ).loc r) = V3 m (outs m) c r) ∧ s'.mem.sem (bC c) = 0⌝ ∗ SI s') : sProp 𝕄) := by
  unfold StableHlo.held Yk
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨fun r hr => h (Proc.devRef .tc r) hr, by simpa using hb⟩
  · iexact HSI

theorem uc_mem (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

set_option backward.isDefEq.respectTransparency.types false in
/-- Every fair execution of the program ends, with its arguments as they were, the results that the two calls compute, and
    every counter at zero. -/
theorem run_main : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v3) = Gout (logits m) c) ∧ r.2.sem = fun _ => 0) :=
  Pipeline.θ_run_regions_kit_sems (pcfgs (F := F)) adm (pdats m) 0 cellOf_inj EP defs₀ 𝒱₀ L lv m ρ main
    [.region (reg0 m (R0 m)), .host (seg1 m (outs m) 𝒱₀ L lv (E m)), .region (reg1 m)]
    (fun c Q => by
      rewrite [main_chain c, Pipeline.Seg.run_eq_chain,
        show ([.region (reg0 m (R0 m)), .host (seg1 m (outs m) 𝒱₀ L lv (E m)), .region (reg1 m)] : List (Pipeline.Seg (pcfgs (F := F)) adm (pdats m) 0 defs₀ 𝒱₀ L lv)).map Pipeline.Seg.prog = [
          Prog.lift (.customCall (Pipeline.entry 0) ()),
          StableHlo.seq hostOps1,
          Prog.lift (.customCall (Pipeline.entry 1) ()) ] from rfl]
      dsimp (config := { failIfUnchanged := false }) only
      exact .rfl)
    (by simp only [Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := fun c => iprop(StableHlo.held (c : Thread nD τ) (Pipeline.ucRefs τ sig) (V0 m c) ∗ E0 m c))
    (Tₙ := fun c => iprop(StableHlo.held (c : Thread nD τ) (Pipeline.ucRefs τ sig) (V3 m (outs m) c) ∗ Yk (F := F) c))
    (hch := by
      refine ⟨fun c => pre0 m c, fun c => post0 m c, fun c => pre1 m c, fun c => (post1 m c).trans ?_⟩
      unfold E2 owe
      iintro ⟨Hh, -, HY, HO⟩
      isplitr [HO]
      · isplitl [Hh] <;> iassumption
      · iexact HO)
    (hinit := launch m ρ)
    (QY := fun c s => (∀ r : Ref sig .tc, Proc.devRef .tc r ∈ Pipeline.ucRefs τ sig → s.mem ((c : Thread nD τ).loc r) = V3 m (outs m) c r) ∧ s.sem (bC c) = 0)
    (hfin := fun c s' => read_end m c s')
    (hQ := fun s h hs => ⟨fun c => ⟨((h c).1 main_arg0 (uc_mem _ rfl)).trans (V3_main_arg0 m (outs m) c),
        ((h c).1 main_arg1 (uc_mem _ rfl)).trans (V3_main_arg1 m (outs m) c),
        ((h c).1 main_v3 (uc_mem _ rfl)).trans ((Function.update_self _ _ _).trans (outs_v3 m c))⟩,
      sem_eq_zero hs fun c sm hsm => by
        obtain rfl := unscoped_eq sm hsm
        exact (h c).2⟩)

end Run

end Cert.Exchange
-- ==== Proof.Quiet.lean ====
/-
  The kernel as printed runs and ends quiet: its text is the idealized kernel's, read at the bit-exact instance.
-/
module

public import proofs.«01_k».proof.Proof.Run
public import proofs.«01_k».proof.Defs
public import proofs.«01_k».proof.Proof.Gen.Kernel

@[expose] public section

noncomputable section

namespace Cert.Exchange

open Idealize.ShloMosaic Idealize.SL.Sem

variable {F : FTy → Type} [FloatOps F]

/-- The two programs' kernels are one table. -/
theorem defs₀_eq : Cert.Kernel.defs₀ (F := F) = Cert.KernelIdeal.defs₀ (F := F) := by
  unfold Cert.Kernel.defs₀ Cert.KernelIdeal.defs₀
  refine congrArg Defs.onTc (funext fun l => ?_)
  match l with
  | 0 => rfl
  | 1 => rfl

theorem defs_eq : Cert.Kernel.defs (F := F) = Cert.KernelIdeal.defs (F := F) := by
  unfold Cert.Kernel.defs Cert.KernelIdeal.defs
  exact congrArg (Pipeline.defs (Cert.KernelIdeal.pcfgs (F := F))) defs₀_eq

theorem main_eq : Cert.Kernel.main (F := F) = Cert.KernelIdeal.main (F := F) := rfl

theorem quiescent_kernel : Cert.quiescent_Kernel := fun m g _ => by
  have h := run_main (F := Bits) m g
  rw [← defs_eq, ← main_eq] at h
  exact (θ_run _ _ _).mono (fun r hr => ⟨fun c => ⟨(hr.1 c).1, (hr.1 c).2.1⟩, hr.2⟩) h

theorem quiescent_ideal : Cert.quiescent_KernelIdeal := fun m g _ =>
  (θ_run _ _ _).mono (fun r hr => ⟨fun c => ⟨(hr.1 c).1, (hr.1 c).2.1⟩, hr.2⟩) (run_main (F := Ideal) m g)

end Cert.Exchange
-- ==== Proof.Product.lean ====
/-
  The first call over the extended reals: the accumulated blocks are the product, and its rows cut in two are the logits.
-/
module

public import proofs.«01_k».proof.Proof.Calls
public import Idealize.ShloMosaic.Lib.Pipeline.Value
public import Idealize.ShloMosaic.Lib.ValueIdx
public import Idealize.ShloMosaic.PureOps.Ideal.Laws

@[expose] public section

noncomputable section

namespace Cert.Exchange

open Cert.KernelIdeal Cert.KernelIdeal.Gen
open Idealize.ShloMosaic Idealize.ShloMosaic.TcCoe Idealize.ShloMosaic.ValueIdx
open Idealize.SL.Sem

abbrev mmDims : DotDims S2048x512 S512x1024 S2048x1024 := dot_S2048x512_S512x1024_S2048x1024_1_0_0_1_n_n

theorem mm_lhs (p : Fin 2048) (b : Fin 1024) (q : mmDims.contr.Idx) : mmDims.lhsIdx (ix2 p b) q = ix2 p ((contrEquiv1 mmDims 512 rfl rfl) q) := by
  refine Shape.idx_ext₂ ?_ ?_
  · unfold DotDims.lhsIdx
    rw [dif_neg (show ¬(0 : Fin S2048x512.rank) ∈ mmDims.lhsBatch by decide), dif_pos (show (0 : Fin S2048x512.rank) ∈ mmDims.lhsNonContracting by decide)]
    rfl
  · exact mmDims.lhsIdx_val_of_single rfl _ q

theorem mm_rhs (p : Fin 2048) (b : Fin 1024) (q : mmDims.contr.Idx) : mmDims.rhsIdx (ix2 p b) q = ix2 ((contrEquiv1 mmDims 512 rfl rfl) q) b := by
  refine Shape.idx_ext₂ ?_ ?_
  · exact mmDims.rhsIdx_val_of_single rfl _ q
  · unfold DotDims.rhsIdx
    rw [dif_neg (show ¬(1 : Fin S512x1024.rank) ∈ mmDims.rhsBatch by decide), dif_pos (show (1 : Fin S512x1024.rank) ∈ mmDims.rhsNonContracting by decide)]
    rfl

/-- One step of the accumulator, at an entry. -/
theorem step_apply (a : FVec Ideal S2048x1024 .f32) (x : FVec Ideal S2048x512 .bf16) (w : FVec Ideal S512x1024 .bf16) (p : Fin 2048) (b : Fin 1024) :
    k0_pay2 a x w (ix2 p b) = a (ix2 p b) + ∑ q : Fin 512, x (ix2 p q) * w (ix2 q b) := by
  unfold k0_pay2
  rw [shapeCast_self, shapeCast_self, shapeCast_self]
  refine congrArg (a (ix2 p b) + ·) ((Ideal.matmul_constant_zero_apply mmDims none x w (ix2 p b)).trans ?_)
  rw [← Equiv.sum_comp (contrEquiv1 mmDims 512 rfl rfl) (fun q => x (ix2 p q) * w (ix2 q b))]
  exact Finset.sum_congr rfl fun q _ => by rw [mm_lhs, mm_rhs]

theorem zero_apply (i : S2048x1024.Idx) : (k0_pay1 : FVec Ideal S2048x1024 .f32) i = 0 := by
  unfold k0_pay1
  rw [shapeCast_self]
  exact Ideal.ofBits_zero_f32

/-- Blocks of 512 terms, summed one after another. -/
theorem sum_blocks (f : ℕ → EReal) (n : ℕ) : ∑ s ∈ Finset.range n, ∑ q ∈ Finset.range 512, f (512 * s + q) = ∑ k ∈ Finset.range (512 * n), f k := by
  induction n with
  | zero => rfl
  | succ n ih => rw [Finset.sum_range_succ, ih, Nat.mul_succ, Finset.sum_range_add]

/-- The product of a device's two arrays. -/
def prodAt (X : S2048x4096.Idx → EReal) (W : S4096x8192.Idx → EReal) (i : S2048x8192.Idx) : EReal := ∑ k : Fin 4096, X (ix2 (i 0) k) * W (ix2 k (i 1))

section

variable (m : (ℓ : Loc nD τ sig) → Buf (Elt Ideal) ℓ) (c : Dev nD)

/-- The device's two arguments. -/
abbrev argX : S2048x4096.Idx → EReal := V0 m c main_arg0
abbrev argW : S4096x8192.Idx → EReal := V0 m c main_arg1

/-- Term `k` of entry `(p, j)` of the product. -/
def term (p : Fin 2048) (j : Fin 8192) (k : ℕ) : EReal :=
  argX m c (ix2 p ⟨k % 4096, Nat.mod_lt _ (by decide)⟩) * argW m c (ix2 ⟨k % 4096, Nat.mod_lt _ (by decide)⟩ j)

theorem prod_terms (i : S2048x8192.Idx) : prodAt (argX m c) (argW m c) i = ∑ k ∈ Finset.range 4096, term m c (i 0) (i 1) k := by
  rw [Finset.sum_range]
  refine Finset.sum_congr rfl fun k _ => ?_
  unfold term
  have e : (⟨k.val % 4096, Nat.mod_lt _ (by decide)⟩ : Fin 4096) = k := Fin.ext (Nat.mod_eq_of_lt k.isLt)
  rw [e]

theorem index0 : ∀ t : Fin cfg0.N, (win0_0.index t 0 = 0 ∧ win0_0.index t 1 = t.val % 8) ∧ (win0_1.index t 0 = t.val % 8 ∧ win0_1.index t 1 = t.val / 8)
    ∧ (win0_2.index t 0 = 0 ∧ win0_2.index t 1 = t.val / 8) := by decide +kernel

theorem lt64 (t : Fin cfg0.N) : t.val < 64 := t.isLt.trans_eq N_0

/-- The column of the product that a point's block of columns holds at `b`. -/
def colAt (u : ℕ) (b : Fin 1024) : Fin 8192 := ⟨(1024 * u + b.val) % 8192, Nat.mod_lt _ (by decide)⟩

theorem x_emb (t : Fin cfg0.N) (p : Fin 2048) (q : Fin 512) :
    (win0_0.rect t).emb (ix2 p q) = ix2 p (⟨(512 * (t.val % 8) + q.val) % 4096, Nat.mod_lt _ (by decide)⟩ : Fin 4096) := by
  obtain ⟨⟨h0, h1⟩, -⟩ := index0 t
  have hq := q.isLt
  refine funext fun a => Fin.ext ((win0_0.rect_emb_val t (ix2 p q) a).trans ?_)
  fin_cases a
  · show win0_0.index t 0 * 2048 + p.val = p.val
    rw [h0]; omega
  · show win0_0.index t 1 * 512 + q.val = (512 * (t.val % 8) + q.val) % 4096
    rw [h1]; omega

theorem w_emb (t : Fin cfg0.N) (q : Fin 512) (b : Fin 1024) :
    (win0_1.rect t).emb (ix2 q b) = ix2 (⟨(512 * (t.val % 8) + q.val) % 4096, Nat.mod_lt _ (by decide)⟩ : Fin 4096) (colAt (t.val / 8) b) := by
  obtain ⟨-, ⟨h0, h1⟩, -⟩ := index0 t
  have hq := q.isLt
  have hb := b.isLt
  have ht := lt64 t
  refine funext fun a => Fin.ext ((win0_1.rect_emb_val t (ix2 q b) a).trans ?_)
  fin_cases a
  · show win0_1.index t 0 * 512 + q.val = (512 * (t.val % 8) + q.val) % 4096
    rw [h0]; omega
  · show win0_1.index t 1 * 1024 + b.val = (1024 * (t.val / 8) + b.val) % 8192
    rw [h1]; omega

theorem o_emb (t : Fin cfg0.N) (p : Fin 2048) (b : Fin 1024) : (win0_2.rect t).emb (ix2 p b) = ix2 p (colAt (t.val / 8) b) := by
  obtain ⟨-, -, h0, h1⟩ := index0 t
  have hb := b.isLt
  have ht := lt64 t
  refine funext fun a => Fin.ext ((win0_2.rect_emb_val t (ix2 p b) a).trans ?_)
  fin_cases a
  · show win0_2.index t 0 * 2048 + p.val = p.val
    rw [h0]; omega
  · show win0_2.index t 1 * 1024 + b.val = (1024 * (t.val / 8) + b.val) % 8192
    rw [h1]; omega

theorem x_read (G : S2048x4096.Idx → Elt Ideal .bf16) (t : Fin cfg0.N) (p : Fin 2048) (q : Fin 512) :
    ((cfg0.win 0).blk t).view.read (Elt Ideal) G (ix2 p q) = G (ix2 p ⟨(512 * (t.val % 8) + q.val) % 4096, Nat.mod_lt _ (by decide)⟩) :=
  congrArg G (x_emb t p q)
theorem w_read (G : S4096x8192.Idx → Elt Ideal .bf16) (t : Fin cfg0.N) (q : Fin 512) (b : Fin 1024) :
    ((cfg0.win 1).blk t).view.read (Elt Ideal) G (ix2 q b) = G (ix2 ⟨(512 * (t.val % 8) + q.val) % 4096, Nat.mod_lt _ (by decide)⟩ (colAt (t.val / 8) b)) :=
  congrArg G (w_emb t q b)
theorem o_read (G : S2048x8192.Idx → Elt Ideal .bf16) (t : Fin cfg0.N) (p : Fin 2048) (b : Fin 1024) :
    ((cfg0.win 2).blk t).view.read (Elt Ideal) G (ix2 p b) = G (ix2 p (colAt (t.val / 8) b)) :=
  congrArg G (o_emb t p b)

/-- A point's block product, in the product's terms. -/
theorem blk_terms (t : Fin cfg0.N) (p : Fin 2048) (b : Fin 1024) :
    ∑ q : Fin 512, xBlk m c t (ix2 p q) * wBlk m c t (ix2 q b)
      = ∑ q ∈ Finset.range 512, term m c p (colAt (t.val / 8) b) (512 * (t.val % 8) + q) := by
  rw [Finset.sum_range]
  exact Finset.sum_congr rfl fun q _ => congrArg₂ (· * ·) (x_read _ t p q) (w_read _ t q b)

/-- The accumulator within a block of columns. -/
theorem acc_apply (u : ℕ) (hu : u < 8) (p : Fin 2048) (b : Fin 1024) : ∀ j, j < 8 →
    accAt m c (8 * u + j + 1) (ix2 p b) = ∑ s ∈ Finset.range (j + 1), ∑ q ∈ Finset.range 512, term m c p (colAt u b) (512 * s + q) := by
  intro j
  induction j with
  | zero =>
    intro hj
    have ht : 8 * u + 0 < cfg0.N := by rw [show cfg0.N = 64 from N_0]; omega
    have e := accAt_succ m c ⟨8 * u + 0, ht⟩
    have em : (8 * u + 0) % 8 = 0 := by omega
    have ed : (8 * u + 0) / 8 = u := by omega
    refine (congrFun e (ix2 p b)).trans ?_
    show accNext ((8 * u + 0) % 8) _ _ _ _ = _
    unfold accNext
    rw [if_pos em, step_apply, blk_terms, zero_apply, zero_add, Finset.sum_range_one]
    show ∑ q ∈ Finset.range 512, term m c p (colAt ((8 * u + 0) / 8) b) (512 * ((8 * u + 0) % 8) + q) = _
    rw [em, ed]
  | succ j ih =>
    intro hj
    have ht : 8 * u + (j + 1) < cfg0.N := by rw [show cfg0.N = 64 from N_0]; omega
    have e := accAt_succ m c ⟨8 * u + (j + 1), ht⟩
    have em : (8 * u + (j + 1)) % 8 = j + 1 := by omega
    have ed : (8 * u + (j + 1)) / 8 = u := by omega
    refine (congrFun e (ix2 p b)).trans ?_
    show accNext ((8 * u + (j + 1)) % 8) _ _ _ _ = _
    unfold accNext
    rw [if_neg (by omega), step_apply, blk_terms, Finset.sum_range_succ (fun s => ∑ q ∈ Finset.range 512, term m c p (colAt u b) (512 * s + q)) (j + 1)]
    refine congrArg₂ (· + ·) (ih (by omega)) ?_
    show ∑ q ∈ Finset.range 512, term m c p (colAt ((8 * u + (j + 1)) / 8) b) (512 * ((8 * u + (j + 1)) % 8) + q) = _
    rw [em, ed]

/-- What the first call leaves is the product. -/
theorem product : (dat0 m c).arrAt 2 cfg0.N = prodAt (argX m c) (argW m c) := by
  refine (dat0 m c).arrAt_eq_of_cover 2 (prodAt (argX m c) (argW m c)) (fun t ht => ?_) (fun i => ?_)
  · have h7 := (flush0_2 t).mp ht
    have h64 := lt64 t
    funext y
    obtain ⟨p, b, rfl⟩ : ∃ (p : Fin 2048) (b : Fin 1024), y = ix2 p b := ⟨y 0, y 1, eq_ix2 y⟩
    refine Eq.trans ?_ (o_read _ t p b).symm
    rw [prod_terms]
    show accAt m c (t.val + 1) (ix2 p b) = _
    have e : t.val + 1 = 8 * (t.val / 8) + 7 + 1 := by omega
    rw [e, acc_apply m c (t.val / 8) (by omega) p b 7 (by omega), sum_blocks]
  · obtain ⟨r, j, rfl⟩ : ∃ (r : Fin 2048) (j : Fin 8192), i = ix2 r j := ⟨i 0, i 1, eq_ix2 i⟩
    have hj := j.isLt
    refine ⟨⟨8 * (j.val / 1024) + 7, by rw [show cfg0.N = 64 from N_0]; omega⟩, (flush0_2 _).mpr (by show (8 * (j.val / 1024) + 7) % 8 = 7; omega), ?_⟩
    have e := o_emb ⟨8 * (j.val / 1024) + 7, by rw [show cfg0.N = 64 from N_0]; omega⟩ r ⟨j.val % 1024, Nat.mod_lt _ (by decide)⟩
    have ej : colAt ((8 * (j.val / 1024) + 7) / 8) ⟨j.val % 1024, Nat.mod_lt _ (by decide)⟩ = j := Fin.ext (by
      show (1024 * ((8 * (j.val / 1024) + 7) / 8) + j.val % 1024) % 8192 = j.val
      omega)
    rw [ej] at e
    rw [← e]
    exact View.emb_mem_set _ _

end

end Cert.Exchange
-- ==== Proof.Logits.lean ====
/-
  The logits: the product's rows cut in two.
-/
module

public import proofs.«01_k».proof.Proof.Product

@[expose] public section

noncomputable section

namespace Cert.Exchange

open Cert.KernelIdeal Cert.KernelIdeal.Gen
open Idealize.ShloMosaic Idealize.ShloMosaic.TcCoe Idealize.ShloMosaic.ValueIdx
open Idealize.SL.Sem

/-- Rows cut in two. -/
theorem cut_apply {α : Type} (G : S2048x8192.Idx → α) (a : Fin 2) (b : Fin 1024) (v : Fin 8192) (h : 1024 * a.val + b.val < 2048) :
    shapeCast S2x1024x8192 G shapeCasts_S2048x8192_S2x1024x8192 (ix3 a b v) = G (ix2 (⟨1024 * a.val + b.val, h⟩ : Fin 2048) v) := by
  refine shapeCast_apply _ shapeCasts_S2048x8192_S2x1024x8192 _ _ ?_
  rw [Shape.rowMajor_val_two, Shape.rowMajor_val_three]
  show (1024 * a.val + b.val) * 8192 + v.val = (a.val * 1024 + b.val) * 8192 + v.val
  rw [Nat.mul_comm 1024]

/-- What the reshape leaves, from any contents. -/
theorem after_v2 (V : Valuation τ sig (Elt Ideal)) :
    StableHlo.after hostOps1 V main_v2 = shapeCast S2x1024x8192 (V main_v1 : S2048x8192.Idx → EReal) shapeCasts_S2048x8192_S2x1024x8192 := by
  rw [hostOps1, StableHlo.after_cons, StableHlo.after_nil, StableHlo.reshape_result]
  rfl

section

variable (m : (ℓ : Loc nD τ sig) → Buf (Elt Ideal) ℓ) (c : Dev nD)

theorem V1_v1 : V1 m (mmOuts m) c main_v1 = prodAt (argX m c) (argW m c) := by
  rw [← product]
  show Function.update (V0 m c) main_v1 (mmOuts m 1 main_v1 c) main_v1 = _
  unfold mmOuts
  rw [Function.update_self, Function.update_self]

/-- The logits are the product's rows, cut in two. -/
theorem logits_apply (a : Fin 2) (b : Fin 1024) (v : Fin 8192) (h : 1024 * a.val + b.val < 2048) :
    logits m c (ix3 a b v) = prodAt (argX m c) (argW m c) (ix2 (⟨1024 * a.val + b.val, h⟩ : Fin 2048) v) := by
  have e : logits m c = shapeCast S2x1024x8192 (prodAt (argX m c) (argW m c)) shapeCasts_S2048x8192_S2x1024x8192 := by
    rw [← V1_v1]
    exact after_v2 _
  rw [e]
  exact cut_apply _ a b v h

end

end Cert.Exchange
-- ==== Proof.Chunk.lean ====
/-
  A chunk of the result over the extended reals: each entry its exponential times the reciprocal of its row's sum.
-/
module

public import proofs.«01_k».proof.Proof.Protocol
public import Idealize.ShloMosaic.Lib.Pipeline.Value
public import Idealize.ShloMosaic.Lib.ValueIdx
public import Idealize.ShloMosaic.PureOps.Ideal.Laws

@[expose] public section

noncomputable section

namespace Cert.Exchange

open Cert.KernelIdeal Cert.KernelIdeal.Gen
open Idealize.ShloMosaic Idealize.ShloMosaic.TcCoe Idealize.ShloMosaic.ValueIdx
open Idealize.SL.Sem

/-- The sum of the exponentials of a row of a chunk. -/
def rowSum (l : VX Ideal) (y : Fin 128) : EReal := ∑ v : Fin 8192, Ideal.exp (l (ix3 0 y v))

theorem pay10_apply (l : VX Ideal) (y : Fin 128) (v : Fin 8192) : k1_pay10 l (ix2 y v) = Ideal.exp (l (ix3 0 y v)) := by
  unfold k1_pay10
  show Ideal.exp (shapeCast S128x8192 l shapeCasts_S1x128x8192_S128x8192 (ix2 y v)) = _
  rw [shapeCast_dropUnit_apply ![128, 8192] l shapeCasts_S1x128x8192_S128x8192 (ix2 y v)]
  refine congrArg (fun i => Ideal.exp (l i)) (funext fun a => Fin.ext ?_)
  fin_cases a <;> rfl

theorem pay11_apply (l : VX Ideal) (y : Fin 128) (v : Fin 8192) : k1_pay11 l (ix2 y v) = Ideal.exp (l (ix3 0 y v)) := pay10_apply l y v

theorem lift_row (y : Fin 128) (v : Fin 8192) : reduces_S128x8192_S128.lift (ix1 y) v = (ix2 y v : S128x8192.Idx) := by
  refine funext fun a => Fin.ext ?_
  fin_cases a <;> rfl

/-- The column of row sums, of a block already exponentiated. -/
theorem column_apply (x : FVec Ideal S128x8192 .f32) (y : Fin 128) :
    shapeCast S128x1 (multiReduction .add [1] S128 x 0x00000000#32 reduces_S128x8192_S128 (.inl rfl) rfl) shapeCasts_S128_S128x1 (ix2 y 0)
      = ∑ v : Fin 8192, x (ix2 y v) := by
  rw [shapeCast_apply _ shapeCasts_S128_S128x1 (ix2 y 0) (ix1 y) (by simp [Shape.rowMajor_val_one, Shape.rowMajor_val_two])]
  refine (Ideal.multiReduction_add_single x _ reduces_S128x8192_S128 (.inl rfl) rfl (ix1 y)).trans ?_
  exact Finset.sum_congr rfl fun v _ => congrArg x (lift_row y v)

theorem pay12_apply (l : VX Ideal) (y : Fin 128) : k1_pay12 l (ix2 y 0) = rowSum l y := by
  unfold k1_pay12 rowSum
  refine (column_apply _ y).trans (Finset.sum_congr rfl fun v _ => ?_)
  exact pay10_apply l y v

theorem one_f32 : Ideal.ofBits .f32 0x3F800000#32 = 1 := by simp [Ideal.ofBits, Ideal.ieee, -EReal.coe_mul]; norm_num

/-- The reciprocal of a row's sum, from a column of sums and a block to be summed. -/
theorem pay1_sum (a : FVec Ideal S128x1 .f32) (x : FVec Ideal S128x8192 .f32) (y : Fin 128) :
    k1_pay1 a x (ix2 y 0) = Ideal.div 1 (a (ix2 y 0) + ∑ v : Fin 8192, x (ix2 y v)) := by
  unfold k1_pay1
  exact congrArg₂ Ideal.div one_f32 (congrArg (a (ix2 y 0) + ·) (column_apply x y))

/-- The reciprocal of a row's sum over both chunks. -/
theorem pay1_apply (l r : VX Ideal) (y : Fin 128) : k1_pay1 (k1_pay12 l) (k1_pay13 r) (ix2 y 0) = Ideal.div 1 (rowSum l y + rowSum r y) := by
  rw [pay1_sum, pay12_apply]
  refine congrArg (fun z => Ideal.div 1 (rowSum l y + z)) (Finset.sum_congr rfl fun v _ => ?_)
  exact pay11_apply r y v

theorem scale_apply (e : FVec Ideal S128x8192 .bf16) (s : FVec Ideal S128x1 .bf16) (y : (Stk 1 8192).Idx) :
    shapeCast S1x128x8192 (mulf e (broadcastTo S128x8192 s broadcasts_S128x1_S128x8192)) shapeCasts_S128x8192_S1x128x8192 y
      = e (ix2 (y 1) (y 2)) * s (ix2 (y 1) 0) := by
  rw [shapeCast_addUnit_apply ![128, 8192] _ shapeCasts_S128x8192_S1x128x8192 y]
  have e2 : (fun a : Fin 2 => y a.succ) = (ix2 (y 1) (y 2) : S128x8192.Idx) := by
    refine funext fun a => Fin.ext ?_
    fin_cases a <;> rfl
  rw [e2]
  show e _ * broadcastTo S128x8192 s broadcasts_S128x1_S128x8192 _ = _
  rw [broadcastTo_apply s broadcasts_S128x1_S128x8192 (ix2 (y 1) (y 2)) (ix2 (y 1) 0) (fun a => by fin_cases a <;> rfl)]

theorem resL_apply (l r : VX Ideal) (y : (Stk 1 8192).Idx) :
    resL l r y = Ideal.exp (l (ix3 0 (y 1) (y 2))) * Ideal.div 1 (rowSum l (y 1) + rowSum r (y 1)) := by
  unfold resL k1_pay2
  refine (scale_apply _ _ y).trans ?_
  exact congrArg₂ (· * ·) (pay10_apply l (y 1) (y 2)) (pay1_apply l r (y 1))

theorem resR_apply (l r : VX Ideal) (y : (Stk 1 8192).Idx) :
    resR l r y = Ideal.exp (r (ix3 0 (y 1) (y 2))) * Ideal.div 1 (rowSum l (y 1) + rowSum r (y 1)) := by
  unfold resR k1_pay3
  refine (scale_apply _ _ y).trans ?_
  exact congrArg₂ (· * ·) (pay11_apply r (y 1) (y 2)) (pay1_apply l r (y 1))

end Cert.Exchange
-- ==== Proof.Whole.lean ====
/-
  The result on every device, over the extended reals: the softmax of the whole product's rows, without the shift by the row's maximum.
-/
module

public import proofs.«01_k».proof.Proof.Chunk

@[expose] public section

noncomputable section

namespace Cert.Exchange

open Cert.KernelIdeal Cert.KernelIdeal.Gen
open Idealize.ShloMosaic Idealize.ShloMosaic.TcCoe Idealize.ShloMosaic.ValueIdx
open Idealize.SL.Sem

/-- The place of column `v` of a device's half in the whole row. -/
def col (h : ℕ) (v : Fin 8192) : Fin 16384 := ⟨(8192 * h + v.val) % 16384, Nat.mod_lt _ (by decide)⟩

/-- The two halves of a row, in either order, make the row. -/
theorem sum_halves (f : Fin 16384 → EReal) (h : ℕ) (hh : h < 2) :
    (∑ v, f (col h v)) + (∑ v, f (col (1 - h) v)) = ∑ k, f k := by
  have e : ∑ k, f k = (∑ v, f (col 0 v)) + ∑ v, f (col 1 v) := by
    refine (Fin.sum_univ_add (a := 8192) (b := 8192) f).trans ?_
    refine congrArg₂ (· + ·) (Finset.sum_congr rfl fun v _ => congrArg f (Fin.ext ?_)) (Finset.sum_congr rfl fun v _ => congrArg f (Fin.ext ?_))
    · show v.val = (8192 * 0 + v.val) % 16384
      have := v.isLt; omega
    · show 8192 + v.val = (8192 * 1 + v.val) % 16384
      have := v.isLt; omega
  rw [e]
  obtain rfl | rfl : h = 0 ∨ h = 1 := by omega
  · rfl
  · exact add_comm _ _

theorem xn_half : ∀ c : Dev nD, (xn c).val / 2 = 1 - c.val / 2 := by decide
theorem xyn_half : ∀ c : Dev nD, (xn (yn c)).val / 2 = 1 - c.val / 2 := by decide

theorem peer_half (c : Dev nD) (r : ℕ) : (peer c r).val / 2 = 1 - c.val / 2 := by
  unfold peer
  split
  · exact xn_half c
  · exact xyn_half c

/-- A device's logits are its half of the columns of the whole product `P`, its rows cut in two. -/
def HalfOf (P : S2048x16384.Idx → EReal) (lg : Dev nD → S2x1024x8192.Idx → EReal) : Prop :=
  ∀ d (a : Fin 2) (b : Fin 1024) v, lg d (ix3 a b v) = P (ix2 (⟨1024 * a.val + b.val, by have := a.isLt; have := b.isLt; omega⟩ : Fin 2048) (col (d.val / 2) v))

section

variable {P : S2048x16384.Idx → EReal} {lg : Dev nD → S2x1024x8192.Idx → EReal} (hP : HalfOf P lg)
include hP

theorem ch_row (d : Dev nD) (r : Fin 2048) (v : Fin 8192) :
    ch (F := Ideal) lg d (r.val / 128) (ix3 0 ⟨r.val % 128, Nat.mod_lt _ (by decide)⟩ v) = P (ix2 r (col (d.val / 2) v)) := by
  have hr := r.isLt
  refine (hP d ⟨r.val / 128 / 8 % 2, Nat.mod_lt _ (by decide)⟩ ⟨(128 * (r.val / 128 % 8) + r.val % 128) % 1024, Nat.mod_lt _ (by decide)⟩ v).trans ?_
  refine congrArg (fun i => P (ix2 i _)) (Fin.ext ?_)
  show 1024 * (r.val / 128 / 8 % 2) + (128 * (r.val / 128 % 8) + r.val % 128) % 1024 = r.val
  omega

theorem rowSum_row (d : Dev nD) (r : Fin 2048) :
    rowSum (ch (F := Ideal) lg d (r.val / 128)) ⟨r.val % 128, Nat.mod_lt _ (by decide)⟩ = ∑ v, Ideal.exp (P (ix2 r (col (d.val / 2) v))) :=
  Finset.sum_congr rfl fun v _ => congrArg Ideal.exp (ch_row hP d r v)

theorem Gout_apply (c : Dev nD) (r : Fin 2048) (k : Fin 16384) :
    Gout (F := Ideal) lg c (ix2 r k) = Ideal.exp (P (ix2 r k)) * Ideal.div 1 (∑ j, Ideal.exp (P (ix2 r j))) := by
  have hc : c.val < 4 := c.isLt
  have hk := k.isLt
  have hs : rowSum (ch (F := Ideal) lg c (r.val / 128)) ⟨r.val % 128, Nat.mod_lt _ (by decide)⟩
      + rowSum (ch (F := Ideal) lg (peer c (r.val / 128)) (r.val / 128)) ⟨r.val % 128, Nat.mod_lt _ (by decide)⟩ = ∑ j, Ideal.exp (P (ix2 r j)) := by
    rw [rowSum_row hP, rowSum_row hP, peer_half]
    exact sum_halves (fun j => Ideal.exp (P (ix2 r j))) (c.val / 2) (by omega)
  show (if k.val / 8192 = c.val / 2 then _ else _) = _
  by_cases h : k.val / 8192 = c.val / 2
  · rw [if_pos h]
    refine (resL_apply _ _ _).trans (congrArg₂ (fun a b => Ideal.exp a * Ideal.div 1 b) ((ch_row hP c r _).trans ?_) hs)
    refine congrArg (fun i => P (ix2 r i)) (Fin.ext ?_)
    show (8192 * (c.val / 2) + k.val % 8192) % 16384 = k.val
    omega
  · rw [if_neg h]
    refine (resR_apply _ _ _).trans (congrArg₂ (fun a b => Ideal.exp a * Ideal.div 1 b) ((ch_row hP (peer c (r.val / 128)) r _).trans ?_) hs)
    refine congrArg (fun i => P (ix2 r i)) (Fin.ext ?_)
    show (8192 * ((peer c (r.val / 128)).val / 2) + k.val % 8192) % 16384 = k.val
    rw [peer_half]
    omega

end

end Cert.Exchange
-- ==== Proof.Finite.lean ====
/-
  The precondition read: every entry of the two arguments is a real number.
-/
module

public import proofs.«01_k».proof.Pre_finite_KernelIdeal
public import proofs.«01_k».proof.Pre_finite_ReferenceIdeal
public import Idealize.ShloMosaic.Lib.ReduceAll
public import Idealize.ShloMosaic.PureOps.Ideal.Laws

@[expose] public section

noncomputable section

namespace Cert.Exchange

open Idealize.ShloMosaic

theorem facts_kernel : Cert.Pre_finite_KernelIdeal.Facts := by constructor <;> decide
theorem facts_reference : Cert.Pre_finite_ReferenceIdeal.Facts := by constructor <;> decide

theorem least_bf16 : Ideal.ofBits .bf16 0xFF80#16 = ⊥ := by simp [Ideal.ofBits, Ideal.ieee]
theorem most_bf16 : Ideal.ofBits .bf16 0x7F80#16 = ⊤ := by simp [Ideal.ofBits, Ideal.ieee]
theorem least_f32 : Ideal.ofBits .f32 0xFF800000#32 = ⊥ := by simp [Ideal.ofBits, Ideal.ieee]

/-- The two comparisons at one entry. -/
theorem between {x : EReal} (h : IntOp.andi (Ideal.cmp .ogt x (Ideal.ofBits .bf16 0xFF80#16)) (Ideal.cmp .olt x (Ideal.ofBits .bf16 0x7F80#16)) = 1#1) :
    x ≠ ⊤ ∧ x ≠ ⊥ := by
  obtain ⟨h1, h2⟩ := IntOp.andi_eq_one.1 h
  rw [least_bf16] at h1
  rw [most_bf16] at h2
  refine ⟨fun e => ?_, fun e => ?_⟩
  · rw [e] at h2; simp [Ideal.cmp] at h2
  · rw [e] at h1; simp [Ideal.cmp] at h1

instance : Subsingleton Cert.Pre_finite_KernelIdeal.S_.Idx := ⟨fun _ _ => funext fun a => a.elim0⟩

attribute [local instance] facts_kernel in
/-- The precondition makes every entry finite. -/
theorem finite_of_pre (x : FVec Ideal Cert.Pre_finite_KernelIdeal.S2048x4096 .bf16) (w : FVec Ideal Cert.Pre_finite_KernelIdeal.S4096x8192 .bf16)
    (h : Cert.Pre_finite_KernelIdeal.fn (F := Ideal) x w = fun _ => 1#1) : (∀ i, x i ≠ ⊤ ∧ x i ≠ ⊥) ∧ ∀ i, w i ≠ ⊤ ∧ w i ≠ ⊥ := by
  obtain ⟨h1, h2⟩ := IntOp.andi_eq_one.1 (congrFun h (fun a => a.elim0))
  exact ⟨fun i => between (Host.reduce_andi_all _ _ _ _ _ h1 i), fun i => between (Host.reduce_andi_all _ _ _ _ _ h2 i)⟩

end Cert.Exchange
-- ==== Proof.Shift.lean ====
/-
  A softmax of finite entries does not depend on the shift by the row's maximum.
-/
module

public import Idealize.ShloMosaic.PureOps.Ideal.Laws

@[expose] public section

noncomputable section

namespace Cert.Exchange

open Idealize.ShloMosaic

/-- The sum of coerced reals is the coerced sum. -/
theorem coe_sum {ι : Type} (s : Finset ι) (g : ι → ℝ) : (∑ k ∈ s, ((g k : ℝ) : EReal)) = ((∑ k ∈ s, g k : ℝ) : EReal) := by
  classical
  induction s using Finset.induction_on with
  | empty => rfl
  | insert a s ha ih => rw [Finset.sum_insert ha, Finset.sum_insert ha, ih, EReal.coe_add]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul]
  rfl

/-- The maximum of a nonempty family of reals, folded from the least value, is a real. -/
theorem fold_max_coe {n : ℕ} (g : Fin (n + 1) → ℝ) : ∃ M : ℝ, (Finset.univ : Finset (Fin (n + 1))).fold max (⊥ : EReal) (fun k => (g k : EReal)) = (M : EReal) := by
  classical
  suffices h : ∀ s : Finset (Fin (n + 1)), s.Nonempty → ∃ M : ℝ, s.fold max (⊥ : EReal) (fun k => (g k : EReal)) = (M : EReal) from h _ Finset.univ_nonempty
  intro s hs
  induction hs using Finset.Nonempty.cons_induction with
  | singleton a => exact ⟨g a, by rw [Finset.fold_singleton]; exact max_eq_left bot_le⟩
  | cons a s ha hs ih =>
    obtain ⟨M, hM⟩ := ih
    exact ⟨max (g a) M, by rw [Finset.fold_cons, hM]; exact (EReal.coe_strictMono.monotone.map_max).symm⟩

theorem shift_softmax {n : ℕ} (g : Fin (n + 1) → ℝ) (M : ℝ) (j : Fin (n + 1)) :
    Ideal.div (Ideal.exp ((g j : EReal) - (M : EReal))) (0 + ∑ k, Ideal.exp ((g k : EReal) - (M : EReal)))
      = Ideal.exp (g j : EReal) * Ideal.div 1 (∑ k, Ideal.exp (g k : EReal)) := by
  have hp : ∀ h : Fin (n + 1) → ℝ, 0 < ∑ k, Real.exp (h k) := fun h => Finset.sum_pos (fun k _ => Real.exp_pos _) Finset.univ_nonempty
  simp only [← EReal.coe_sub, Ideal.exp_coe]
  rw [coe_sum, coe_sum, zero_add, div_coe _ _ (hp _).ne', ← EReal.coe_one, div_coe _ _ (hp _).ne', ← EReal.coe_mul]
  refine congrArg _ ?_
  simp only [Real.exp_sub]
  rw [← Finset.sum_div]
  have h1 := (hp g).ne'
  have h2 := (Real.exp_pos M).ne'
  field_simp

end Cert.Exchange
-- ==== Proof.Value.lean ====
/-
  The reference's result, read: the softmax of the product's rows, which the kernel's devices all hold.
-/
module

public import proofs.«01_k».proof.Proof.Gen.ReferenceIdeal.Read
public import proofs.«01_k».proof.Proof.Finite
public import proofs.«01_k».proof.Proof.Shift

@[expose] public section

noncomputable section

namespace Cert.Exchange

open Cert.ReferenceIdeal Cert.ReferenceIdeal.Gen Cert.ReferenceIdeal.Read
open Idealize.ShloMosaic Idealize.ShloMosaic.TcCoe Idealize.ShloMosaic.ValueIdx

variable (x : S2048x4096.Idx → EReal) (w : S4096x16384.Idx → EReal)

/-- The whole product. -/
def whole : S2048x16384.Idx → EReal := val_main_v2 (F := Ideal) x w

theorem whole_apply (r : Fin 2048) (j : Fin 16384) : whole x w (ix2 r j) = ∑ k : Fin 4096, x (ix2 r k) * w (ix2 k j) := by
  refine (val_main_v2_apply x w (ix2 r j)).trans (Finset.sum_congr rfl fun k _ => congrArg₂ (· * ·) ?_ ?_)
  · exact congrArg x (Shape.idx_ext₂ rfl rfl)
  · exact congrArg w (Shape.idx_ext₂ rfl rfl)

/-- The row's maximum, as the reference folds it. -/
def rowMax (r : Fin 2048) : EReal := (Finset.univ : Finset (Fin 16384)).fold max ⊥ fun k => whole x w (ix2 r k)

theorem v3_apply (r : Fin 2048) : val_main_v3 (F := Ideal) x w (ix1 r) = rowMax x w r := by
  unfold val_main_v3
  refine (Host.reduce_eq_fold_single (FloatOps.maximumf (F := Ideal) (φ := .f32)) _ _ reducesTo_S2048x16384_S2048_d1 (by decide) h_S_ (ix1 r)).trans ?_
  unfold rowMax
  have e : val_main_cst (F := Ideal) (Shape.Idx.first h_S_) = ⊥ := least_f32
  rw [e]
  refine Finset.fold_congr fun k _ => ?_
  exact congrArg (val_main_v2 (F := Ideal) x w) (Shape.idx_ext₂ rfl rfl)

theorem v7_apply (r : Fin 2048) (k : Fin 16384) : val_main_v7 (F := Ideal) x w (ix2 r k) = Ideal.exp (whole x w (ix2 r k) - rowMax x w r) := by
  rw [val_main_v7_apply, val_main_v6_apply, val_main_v5_apply, val_main_v4_apply, ← v3_apply]
  exact congrArg (fun i => Ideal.exp (whole x w (ix2 r k) - val_main_v3 (F := Ideal) x w i)) (funext fun a => Fin.ext (by match a with | ⟨0, _⟩ => rfl))

theorem v12_apply (r : Fin 2048) (k : Fin 16384) : val_main_v12 (F := Ideal) x w (ix2 r k)
    = Ideal.div (Ideal.exp (whole x w (ix2 r k) - rowMax x w r)) (0 + ∑ j, Ideal.exp (whole x w (ix2 r j) - rowMax x w r)) := by
  rw [val_main_v12_apply, val_main_v11_apply, val_main_v10_apply, val_main_v9_apply, val_main_v8_apply, v7_apply]
  refine congrArg (Ideal.div _) (congrArg₂ (· + ·) Ideal.ofBits_zero_f32 (Finset.sum_congr rfl fun j _ => ?_))
  rw [← v7_apply]
  exact congrArg (val_main_v7 (F := Ideal) x w) (Shape.idx_ext₂ rfl rfl)

/-- Of finite arguments every entry of the product is a real number. -/
theorem whole_real (hx : ∀ i, x i ≠ ⊤ ∧ x i ≠ ⊥) (hw : ∀ i, w i ≠ ⊤ ∧ w i ≠ ⊥) (i : S2048x16384.Idx) : ∃ g : ℝ, whole x w i = (g : EReal) := by
  refine ⟨∑ k : Fin 4096, (x (ix2 (i 0) k)).toReal * (w (ix2 k (i 1))).toReal, ?_⟩
  rw [← coe_sum, eq_ix2 i]
  refine (whole_apply x w (i 0) (i 1)).trans (Finset.sum_congr rfl fun k _ => ?_)
  rw [EReal.coe_mul, EReal.coe_toReal (hx _).1 (hx _).2, EReal.coe_toReal (hw _).1 (hw _).2]

/-- Of finite arguments the reference is the softmax without the shift. -/
theorem reference_apply (hx : ∀ i, x i ≠ ⊤ ∧ x i ≠ ⊥) (hw : ∀ i, w i ≠ ⊤ ∧ w i ≠ ⊥) (r : Fin 2048) (k : Fin 16384) :
    val_main_v12 (F := Ideal) x w (ix2 r k) = Ideal.exp (whole x w (ix2 r k)) * Ideal.div 1 (∑ j, Ideal.exp (whole x w (ix2 r j))) := by
  choose g hg using whole_real x w hx hw
  obtain ⟨M, hM⟩ := fold_max_coe (n := 16383) fun k => g (ix2 r k)
  have em : rowMax x w r = (M : EReal) := by
    rw [← hM]
    exact Finset.fold_congr fun k _ => hg _
  rw [v12_apply, em]
  simp only [hg]
  exact shift_softmax (n := 16383) (fun k => g (ix2 r k)) M k

end Cert.Exchange
-- ==== Proof.Agree.lean ====
/-
  Every device's result is the reference's: its logits are its half of the whole product, and its result the softmax of that product.
-/
module

public import proofs.«01_k».proof.Proof.Logits
public import proofs.«01_k».proof.Proof.Whole
public import proofs.«01_k».proof.Proof.Value
public import Idealize.ShloMosaic.Lib.Layout

@[expose] public section

noncomputable section

namespace Cert.Exchange

open Cert.KernelIdeal Cert.KernelIdeal.Gen
open Idealize.ShloMosaic Idealize.ShloMosaic.TcCoe Idealize.ShloMosaic.ValueIdx

/-- The half of the columns a device holds. -/
def halfOf (w : (⟨2, ![4096, 16384]⟩ : Shape).Idx → EReal) (c : Dev nD) : (⟨2, ![4096, 8192]⟩ : Shape).Idx → EReal :=
  Layout.blockN ⟨2, ![4096, 8192]⟩ ⟨2, ![4096, 16384]⟩ (Layout.meshBlock [2, 2] ![[], [0]] c) w

theorem half_coords : ∀ c : Dev nD, ((Layout.meshBlock [2, 2] ![[], [0]] c (r := 2)) 0).val = 0 ∧ ((Layout.meshBlock [2, 2] ![[], [0]] c (r := 2)) 1).val = c.val / 2 := by decide

theorem halfOf_apply (w : (⟨2, ![4096, 16384]⟩ : Shape).Idx → EReal) (c : Dev nD) (k : Fin 4096) (v : Fin 8192) :
    halfOf w c (ix2 k v) = w (ix2 k (col (c.val / 2) v)) := by
  obtain ⟨h0, h1⟩ := half_coords c
  have hv := v.isLt
  have hc : c.val < 4 := c.isLt
  refine congrArg w (Shape.idx_ext₂ (Nat.add_comm _ _ |>.trans ?_) (Nat.add_comm _ _ |>.trans ?_))
  · show k.val + ((Layout.meshBlock [2, 2] ![[], [0]] c (r := 2)) 0).val * 4096 = k.val
    rw [h0]; omega
  · show v.val + ((Layout.meshBlock [2, 2] ![[], [0]] c (r := 2)) 1).val * 8192 = (8192 * (c.val / 2) + v.val) % 16384
    rw [h1]; omega

/-- Every column of the whole weights is in some device's half. -/
theorem halfOf_cover (w : (⟨2, ![4096, 16384]⟩ : Shape).Idx → EReal) (k : Fin 4096) (j : Fin 16384) : ∃ (c : Dev nD) (v : Fin 8192), halfOf w c (ix2 k v) = w (ix2 k j) := by
  have hj := j.isLt
  refine ⟨⟨2 * (j.val / 8192), by show _ < 4; omega⟩, ⟨j.val % 8192, Nat.mod_lt _ (by decide)⟩, (halfOf_apply _ _ _ _).trans (congrArg (fun j => w (ix2 k j)) (Fin.ext ?_))⟩
  show (8192 * (2 * (j.val / 8192) / 2) + j.val % 8192) % 16384 = j.val
  omega

section

variable (m : (ℓ : Loc nD τ sig) → Buf (Elt Ideal) ℓ) (x : S2048x4096.Idx → EReal) (w : (⟨2, ![4096, 16384]⟩ : Shape).Idx → EReal)
variable (hx : ∀ c, argX m c = x) (hw : ∀ c, argW m c = halfOf w c)
include hx hw

/-- The devices' logits are their halves of the whole product. -/
theorem half_logits : HalfOf (whole x w) (logits m) := by
  intro d a b v
  have ha := a.isLt
  have hb := b.isLt
  refine (logits_apply m d a b v (by omega)).trans ?_
  rw [hx, hw, whole_apply]
  exact Finset.sum_congr rfl fun k _ => congrArg (x (ix2 _ k) * ·) (halfOf_apply w d k v)

/-- Of finite arguments every device's result is the reference's. -/
theorem Gout_reference (fx : ∀ i, x i ≠ ⊤ ∧ x i ≠ ⊥) (fw : ∀ c i, argW m c i ≠ ⊤ ∧ argW m c i ≠ ⊥) (c : Dev nD) :
    Gout (F := Ideal) (logits m) c = Cert.ReferenceIdeal.Read.val_main_v12 (F := Ideal) x w := by
  have fw' : ∀ i, w i ≠ ⊤ ∧ w i ≠ ⊥ := fun i => by
    obtain ⟨d, v, h⟩ := halfOf_cover w (i 0) (i 1)
    have hf := fw d (ix2 (i 0) v)
    rw [hw, h] at hf
    rw [eq_ix2 i]
    exact hf
  funext i
  obtain ⟨r, k, rfl⟩ : ∃ (r : Fin 2048) (k : Fin 16384), i = ix2 r k := ⟨i 0, i 1, eq_ix2 i⟩
  exact (Gout_apply (half_logits m x w hx hw) c r k).trans (reference_apply x w fx fw' r k).symm

end

end Cert.Exchange
-- ==== Proof.lean ====
/-
  The claims, put together: the two kernels and the reference run and end quiet, the idealized kernel is the kernel,
  and of finite arguments every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Quiet
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's operations leave both arguments as they were, and it has no semaphore. -/
theorem quiescent_reference : Cert.quiescent_ReferenceIdeal := fun m g _ =>
  (θ_run _ _ _).mono (fun r hr => ⟨fun c => (hr c).2, sem_eq_zero_of_no_sems rfl r.2⟩)
    (Cert.ReferenceIdeal.Value.run (F := Ideal) m g)

attribute [local instance] Cert.Exchange.facts_kernel Cert.Exchange.facts_reference

/-- Every device's result is the reference's. -/
theorem algebraic : Cert.algebraic_KernelIdeal_ReferenceIdeal_pre_finite_KernelIdeal := by
  intro m g m' g' hfin hagree
  have hf := fun c => Cert.Exchange.finite_of_pre _ _ (hfin c)
  have fx := (hf 0).1
  rw [(hagree 0).1] at fx
  refine ⟨Cert.ReferenceIdeal.Read.val_main_v12 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r hr c => ?_) (Cert.Exchange.run_main m g)
    obtain ⟨h0, h1, h3⟩ := hr.1 c
    exact ⟨h3.trans (Cert.Exchange.Gout_reference m _ _ (fun c => (hagree c).1) (fun c => (hagree c).2) fx (fun c => (hf c).2) c), h0, h1⟩
  · exact (θ_run _ _ _).mono (fun r hr => ⟨(hr 0).1.trans (Cert.ReferenceIdeal.Read.val_main_v12_eq _ _), (hr 0).2⟩)
      (Cert.ReferenceIdeal.Value.run (F := Ideal) m' g')

theorem claim : Cert.Claim := ⟨Cert.Kernel.Gen.facts, Cert.KernelIdeal.Gen.facts, Cert.ReferenceIdeal.Gen.facts,
  Cert.Exchange.facts_kernel, Cert.Exchange.facts_reference,
  Cert.Exchange.quiescent_kernel, Cert.Exchange.quiescent_ideal, fun m g _ => Cert.Exchange.quiescent_ideal m g trivial,
  quiescent_reference, fun m g _ => quiescent_reference m g trivial, trivial, algebraic⟩

end Cert.Proof

end
